-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateIdeal_finite_gate [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3))) = (fun _ => 1#1)

def Pre_GateRefIdeal (m : (ℓ : Loc Cert.GateRefIdeal.nD Cert.GateRefIdeal.τ Cert.GateRefIdeal.sig) → Buf (Elt Ideal) ℓ) : Prop :=
  True

def Pre_GateRefIdeal_finite_gate [hPre_finite_gate : Cert.Pre_finite_gate.Facts] (m : (ℓ : Loc Cert.GateRefIdeal.nD Cert.GateRefIdeal.τ Cert.GateRefIdeal.sig) → Buf (Elt Ideal) ℓ) : Prop :=
  ∀ c : Dev Cert.GateRefIdeal.nD,
    (Cert.Pre_finite_gate.fn (F := Ideal) (m ((c.tc : Thread Cert.GateRefIdeal.nD Cert.GateRefIdeal.τ).loc Cert.GateRefIdeal.main_arg0)) (m ((c.tc : Thread Cert.GateRefIdeal.nD Cert.GateRefIdeal.τ).loc Cert.GateRefIdeal.main_arg1)) (m ((c.tc : Thread Cert.GateRefIdeal.nD Cert.GateRefIdeal.τ).loc Cert.GateRefIdeal.main_arg2)) (m ((c.tc : Thread Cert.GateRefIdeal.nD Cert.GateRefIdeal.τ).loc Cert.GateRefIdeal.main_arg3))) = (fun _ => 1#1)

def Pre_Gate2 (m : (ℓ : Loc Cert.Gate2.nD Cert.Gate2.τ Cert.Gate2.sig) → Buf (Elt Bits) ℓ) : Prop :=
  True

def Pre_Gate2Ideal (m : (ℓ : Loc Cert.Gate2Ideal.nD Cert.Gate2Ideal.τ Cert.Gate2Ideal.sig) → Buf (Elt Ideal) ℓ) : Prop :=
  True

def Pre_Gate2Ideal_finite_gate [hPre_finite_gate : Cert.Pre_finite_gate.Facts] (m : (ℓ : Loc Cert.Gate2Ideal.nD Cert.Gate2Ideal.τ Cert.Gate2Ideal.sig) → Buf (Elt Ideal) ℓ) : Prop :=
  ∀ c : Dev Cert.Gate2Ideal.nD,
    (Cert.Pre_finite_gate.fn (F := Ideal) (m ((c.tc : Thread Cert.Gate2Ideal.nD Cert.Gate2Ideal.τ).loc Cert.Gate2Ideal.main_arg0)) (m ((c.tc : Thread Cert.Gate2Ideal.nD Cert.Gate2Ideal.τ).loc Cert.Gate2Ideal.main_arg1)) (m ((c.tc : Thread Cert.Gate2Ideal.nD Cert.Gate2Ideal.τ).loc Cert.Gate2Ideal.main_arg2)) (m ((c.tc : Thread Cert.Gate2Ideal.nD Cert.Gate2Ideal.τ).loc Cert.Gate2Ideal.main_arg3))) = (fun _ => 1#1)

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownRefIdeal (m : (ℓ : Loc Cert.WdownRefIdeal.nD Cert.WdownRefIdeal.τ Cert.WdownRefIdeal.sig) → Buf (Elt Ideal) ℓ) : Prop :=
  True

def Pre_Wgu (m : (ℓ : Loc Cert.Wgu.nD Cert.Wgu.τ Cert.Wgu.sig) → Buf (Elt Bits) ℓ) : Prop :=
  True

def Pre_WguIdeal (m : (ℓ : Loc Cert.WguIdeal.nD Cert.WguIdeal.τ Cert.WguIdeal.sig) → Buf (Elt Ideal) ℓ) : Prop :=
  True

def Pre_WguRefIdeal (m : (ℓ : Loc Cert.WguRefIdeal.nD Cert.WguRefIdeal.τ Cert.WguRefIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_DhRefIdeal (m : (ℓ : Loc Cert.DhRefIdeal.nD Cert.DhRefIdeal.τ Cert.DhRefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_GateUp2 (m : (ℓ : Loc Cert.GateUp2.nD Cert.GateUp2.τ Cert.GateUp2.sig) → Buf (Elt Bits) ℓ) : Prop :=
  True

def Pre_GateUp2Ideal (m : (ℓ : Loc Cert.GateUp2Ideal.nD Cert.GateUp2Ideal.τ Cert.GateUp2Ideal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Down2 (m : (ℓ : Loc Cert.Down2.nD Cert.Down2.τ Cert.Down2.sig) → Buf (Elt Bits) ℓ) : Prop :=
  True

def Pre_Down2Ideal (m : (ℓ : Loc Cert.Down2Ideal.nD Cert.Down2Ideal.τ Cert.Down2Ideal.sig) → Buf (Elt Ideal) ℓ) : Prop :=
  True

def Pre_Wo (m : (ℓ : Loc Cert.Wo.nD Cert.Wo.τ Cert.Wo.sig) → Buf (Elt Bits) ℓ) : Prop :=
  True

def Pre_WoIdeal (m : (ℓ : Loc Cert.WoIdeal.nD Cert.WoIdeal.τ Cert.WoIdeal.sig) → Buf (Elt Ideal) ℓ) : Prop :=
  True

def Pre_WoRefIdeal (m : (ℓ : Loc Cert.WoRefIdeal.nD Cert.WoRefIdeal.τ Cert.WoRefIdeal.sig) → Buf (Elt Ideal) ℓ) : Prop :=
  True

def Pre_Dcat (m : (ℓ : Loc Cert.Dcat.nD Cert.Dcat.τ Cert.Dcat.sig) → Buf (Elt Bits) ℓ) : Prop :=
  True

def Pre_DcatIdeal (m : (ℓ : Loc Cert.DcatIdeal.nD Cert.DcatIdeal.τ Cert.DcatIdeal.sig) → Buf (Elt Ideal) ℓ) : Prop :=
  True

def Pre_DcatRefIdeal (m : (ℓ : Loc Cert.DcatRefIdeal.nD Cert.DcatRefIdeal.τ Cert.DcatRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_MixDh (m : (ℓ : Loc Cert.MixDh.nD Cert.MixDh.τ Cert.MixDh.sig) → Buf (Elt Bits) ℓ) : Prop :=
  True

def Pre_MixDhIdeal (m : (ℓ : Loc Cert.MixDhIdeal.nD Cert.MixDhIdeal.τ Cert.MixDhIdeal.sig) → Buf (Elt Ideal) ℓ) : Prop :=
  True

def Pre_MixDhRefIdeal (m : (ℓ : Loc Cert.MixDhRefIdeal.nD Cert.MixDhRefIdeal.τ Cert.MixDhRefIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_ProjSwa (m : (ℓ : Loc Cert.ProjSwa.nD Cert.ProjSwa.τ Cert.ProjSwa.sig) → Buf (Elt Bits) ℓ) : Prop :=
  True

def Pre_ProjSwaIdeal (m : (ℓ : Loc Cert.ProjSwaIdeal.nD Cert.ProjSwaIdeal.τ Cert.ProjSwaIdeal.sig) → Buf (Elt Ideal) ℓ) : Prop :=
  True

def Pre_ProjSwaRefIdeal (m : (ℓ : Loc Cert.ProjSwaRefIdeal.nD Cert.ProjSwaRefIdeal.τ Cert.ProjSwaRefIdeal.sig) → Buf (Elt Ideal) ℓ) : Prop :=
  True

def Pre_ProjMla (m : (ℓ : Loc Cert.ProjMla.nD Cert.ProjMla.τ Cert.ProjMla.sig) → Buf (Elt Bits) ℓ) : Prop :=
  True

def Pre_ProjMlaIdeal (m : (ℓ : Loc Cert.ProjMlaIdeal.nD Cert.ProjMlaIdeal.τ Cert.ProjMlaIdeal.sig) → Buf (Elt Ideal) ℓ) : Prop :=
  True

def Pre_ProjMlaRefIdeal (m : (ℓ : Loc Cert.ProjMlaRefIdeal.nD Cert.ProjMlaRefIdeal.τ Cert.ProjMlaRefIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_SwaFwd (m : (ℓ : Loc Cert.SwaFwd.nD Cert.SwaFwd.τ Cert.SwaFwd.sig) → Buf (Elt Bits) ℓ) : Prop :=
  True

def Pre_SwaFwdIdeal (m : (ℓ : Loc Cert.SwaFwdIdeal.nD Cert.SwaFwdIdeal.τ Cert.SwaFwdIdeal.sig) → Buf (Elt Ideal) ℓ) : Prop :=
  True

def Pre_SwaFwdIdeal_finite_swafwd [hPre_finite_swafwd : Cert.Pre_finite_swafwd.Facts] (m : (ℓ : Loc Cert.SwaFwdIdeal.nD Cert.SwaFwdIdeal.τ Cert.SwaFwdIdeal.sig) → Buf (Elt Ideal) ℓ) : Prop :=
  ∀ c : Dev Cert.SwaFwdIdeal.nD,
    (Cert.Pre_finite_swafwd.fn (F := Ideal) (m ((c.tc : Thread Cert.SwaFwdIdeal.nD Cert.SwaFwdIdeal.τ).loc Cert.SwaFwdIdeal.main_arg0)) (m ((c.tc : Thread Cert.SwaFwdIdeal.nD Cert.SwaFwdIdeal.τ).loc Cert.SwaFwdIdeal.main_arg1)) (m ((c.tc : Thread Cert.SwaFwdIdeal.nD Cert.SwaFwdIdeal.τ).loc Cert.SwaFwdIdeal.main_arg2))) = (fun _ => 1#1)

def Pre_SwaFwdRefIdeal (m : (ℓ : Loc Cert.SwaFwdRefIdeal.nD Cert.SwaFwdRefIdeal.τ Cert.SwaFwdRefIdeal.sig) → Buf (Elt Ideal) ℓ) : Prop :=
  True

def Pre_SwaFwdRefIdeal_finite_swafwd [hPre_finite_swafwd : Cert.Pre_finite_swafwd.Facts] (m : (ℓ : Loc Cert.SwaFwdRefIdeal.nD Cert.SwaFwdRefIdeal.τ Cert.SwaFwdRefIdeal.sig) → Buf (Elt Ideal) ℓ) : Prop :=
  ∀ c : Dev Cert.SwaFwdRefIdeal.nD,
    (Cert.Pre_finite_swafwd.fn (F := Ideal) (m ((c.tc : Thread Cert.SwaFwdRefIdeal.nD Cert.SwaFwdRefIdeal.τ).loc Cert.SwaFwdRefIdeal.main_arg0)) (m ((c.tc : Thread Cert.SwaFwdRefIdeal.nD Cert.SwaFwdRefIdeal.τ).loc Cert.SwaFwdRefIdeal.main_arg1)) (m ((c.tc : Thread Cert.SwaFwdRefIdeal.nD Cert.SwaFwdRefIdeal.τ).loc Cert.SwaFwdRefIdeal.main_arg2))) = (fun _ => 1#1)

def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateIdeal_pre_finite_gate [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal_finite_gate m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_GateRefIdeal_pre_finite_gate [hGateRefIdeal : Cert.GateRefIdeal.Facts] [hPre_finite_gate : Cert.Pre_finite_gate.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal_finite_gate m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Gate2 [hGate2 : Cert.Gate2.Facts] : Prop :=
  ∀ (m : (ℓ : Loc Cert.Gate2.nD Cert.Gate2.τ Cert.Gate2.sig) → Buf (Elt Bits) ℓ) (g : Dev Cert.Gate2.nD → PrngReg), Pre_Gate2 m →
    θ_run (Cert.Gate2.defs (F := Bits)) (onTc (τ := Cert.Gate2.τ) (Cert.Gate2.main (F := Bits))) ⟨m, fun _ => 0, g⟩ (fun r => (∀ c : Dev Cert.Gate2.nD,
      r.2.mem ((c.tc : Thread Cert.Gate2.nD Cert.Gate2.τ).loc Cert.Gate2.main_arg0) = m ((c.tc : Thread Cert.Gate2.nD Cert.Gate2.τ).loc Cert.Gate2.main_arg0)
      ∧ r.2.mem ((c.tc : Thread Cert.Gate2.nD Cert.Gate2.τ).loc Cert.Gate2.main_arg1) = m ((c.tc : Thread Cert.Gate2.nD Cert.Gate2.τ).loc Cert.Gate2.main_arg1)
      ∧ r.2.mem ((c.tc : Thread Cert.Gate2.nD Cert.Gate2.τ).loc Cert.Gate2.main_arg2) = m ((c.tc : Thread Cert.Gate2.nD Cert.Gate2.τ).loc Cert.Gate2.main_arg2)
      ∧ r.2.mem ((c.tc : Thread Cert.Gate2.nD Cert.Gate2.τ).loc Cert.Gate2.main_arg3) = m ((c.tc : Thread Cert.Gate2.nD Cert.Gate2.τ).loc Cert.Gate2.main_arg3))
      ∧ r.2.sem = fun _ => 0)

def quiescent_Gate2Ideal [hGate2Ideal : Cert.Gate2Ideal.Facts] : Prop :=
  ∀ (m : (ℓ : Loc Cert.Gate2Ideal.nD Cert.Gate2Ideal.τ Cert.Gate2Ideal.sig) → Buf (Elt Ideal) ℓ) (g : Dev Cert.Gate2Ideal.nD → PrngReg), Pre_Gate2Ideal m →
    θ_run (Cert.Gate2Ideal.defs (F := Ideal)) (onTc (τ := Cert.Gate2Ideal.τ) (Cert.Gate2Ideal.main (F := Ideal))) ⟨m, fun _ => 0, g⟩ (fun r => (∀ c : Dev Cert.Gate2Ideal.nD,
      r.2.mem ((c.tc : Thread Cert.Gate2Ideal.nD Cert.Gate2Ideal.τ).loc Cert.Gate2Ideal.main_arg0) = m ((c.tc : Thread Cert.Gate2Ideal.nD Cert.Gate2Ideal.τ).loc Cert.Gate2Ideal.main_arg0)
      ∧ r.2.mem ((c.tc : Thread Cert.Gate2Ideal.nD Cert.Gate2Ideal.τ).loc Cert.Gate2Ideal.main_arg1) = m ((c.tc : Thread Cert.Gate2Ideal.nD Cert.Gate2Ideal.τ).loc Cert.Gate2Ideal.main_arg1)
      ∧ r.2.mem ((c.tc : Thread Cert.Gate2Ideal.nD Cert.Gate2Ideal.τ).loc Cert.Gate2Ideal.main_arg2) = m ((c.tc : Thread Cert.Gate2Ideal.nD Cert.Gate2Ideal.τ).loc Cert.Gate2Ideal.main_arg2)
      ∧ r.2.mem ((c.tc : Thread Cert.Gate2Ideal.nD Cert.Gate2Ideal.τ).loc Cert.Gate2Ideal.main_arg3) = m ((c.tc : Thread Cert.Gate2Ideal.nD Cert.Gate2Ideal.τ).loc Cert.Gate2Ideal.main_arg3))
      ∧ r.2.sem = fun _ => 0)

def quiescent_Gate2Ideal_pre_finite_gate [hGate2Ideal : Cert.Gate2Ideal.Facts] [hPre_finite_gate : Cert.Pre_finite_gate.Facts] : Prop :=
  ∀ (m : (ℓ : Loc Cert.Gate2Ideal.nD Cert.Gate2Ideal.τ Cert.Gate2Ideal.sig) → Buf (Elt Ideal) ℓ) (g : Dev Cert.Gate2Ideal.nD → PrngReg), Pre_Gate2Ideal_finite_gate m →
    θ_run (Cert.Gate2Ideal.defs (F := Ideal)) (onTc (τ := Cert.Gate2Ideal.τ) (Cert.Gate2Ideal.main (F := Ideal))) ⟨m, fun _ => 0, g⟩ (fun r => (∀ c : Dev Cert.Gate2Ideal.nD,
      r.2.mem ((c.tc : Thread Cert.Gate2Ideal.nD Cert.Gate2Ideal.τ).loc Cert.Gate2Ideal.main_arg0) = m ((c.tc : Thread Cert.Gate2Ideal.nD Cert.Gate2Ideal.τ).loc Cert.Gate2Ideal.main_arg0)
      ∧ r.2.mem ((c.tc : Thread Cert.Gate2Ideal.nD Cert.Gate2Ideal.τ).loc Cert.Gate2Ideal.main_arg1) = m ((c.tc : Thread Cert.Gate2Ideal.nD Cert.Gate2Ideal.τ).loc Cert.Gate2Ideal.main_arg1)
      ∧ r.2.mem ((c.tc : Thread Cert.Gate2Ideal.nD Cert.Gate2Ideal.τ).loc Cert.Gate2Ideal.main_arg2) = m ((c.tc : Thread Cert.Gate2Ideal.nD Cert.Gate2Ideal.τ).loc Cert.Gate2Ideal.main_arg2)
      ∧ r.2.mem ((c.tc : Thread Cert.Gate2Ideal.nD Cert.Gate2Ideal.τ).loc Cert.Gate2Ideal.main_arg3) = m ((c.tc : Thread Cert.Gate2Ideal.nD Cert.Gate2Ideal.τ).loc Cert.Gate2Ideal.main_arg3))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_Wgu [hWgu : Cert.Wgu.Facts] : Prop :=
  ∀ (m : (ℓ : Loc Cert.Wgu.nD Cert.Wgu.τ Cert.Wgu.sig) → Buf (Elt Bits) ℓ) (g : Dev Cert.Wgu.nD → PrngReg), Pre_Wgu m →
    θ_run (Cert.Wgu.defs (F := Bits)) (onTc (τ := Cert.Wgu.τ) (Cert.Wgu.main (F := Bits))) ⟨m, fun _ => 0, g⟩ (fun r => (∀ c : Dev Cert.Wgu.nD,
      r.2.mem ((c.tc : Thread Cert.Wgu.nD Cert.Wgu.τ).loc Cert.Wgu.main_arg0) = m ((c.tc : Thread Cert.Wgu.nD Cert.Wgu.τ).loc Cert.Wgu.main_arg0)
      ∧ r.2.mem ((c.tc : Thread Cert.Wgu.nD Cert.Wgu.τ).loc Cert.Wgu.main_arg1) = m ((c.tc : Thread Cert.Wgu.nD Cert.Wgu.τ).loc Cert.Wgu.main_arg1)
      ∧ r.2.mem ((c.tc : Thread Cert.Wgu.nD Cert.Wgu.τ).loc Cert.Wgu.main_arg2) = m ((c.tc : Thread Cert.Wgu.nD Cert.Wgu.τ).loc Cert.Wgu.main_arg2))
      ∧ r.2.sem = fun _ => 0)

def quiescent_WguIdeal [hWguIdeal : Cert.WguIdeal.Facts] : Prop :=
  ∀ (m : (ℓ : Loc Cert.WguIdeal.nD Cert.WguIdeal.τ Cert.WguIdeal.sig) → Buf (Elt Ideal) ℓ) (g : Dev Cert.WguIdeal.nD → PrngReg), Pre_WguIdeal m →
    θ_run (Cert.WguIdeal.defs (F := Ideal)) (onTc (τ := Cert.WguIdeal.τ) (Cert.WguIdeal.main (F := Ideal))) ⟨m, fun _ => 0, g⟩ (fun r => (∀ c : Dev Cert.WguIdeal.nD,
      r.2.mem ((c.tc : Thread Cert.WguIdeal.nD Cert.WguIdeal.τ).loc Cert.WguIdeal.main_arg0) = m ((c.tc : Thread Cert.WguIdeal.nD Cert.WguIdeal.τ).loc Cert.WguIdeal.main_arg0)
      ∧ r.2.mem ((c.tc : Thread Cert.WguIdeal.nD Cert.WguIdeal.τ).loc Cert.WguIdeal.main_arg1) = m ((c.tc : Thread Cert.WguIdeal.nD Cert.WguIdeal.τ).loc Cert.WguIdeal.main_arg1)
      ∧ r.2.mem ((c.tc : Thread Cert.WguIdeal.nD Cert.WguIdeal.τ).loc Cert.WguIdeal.main_arg2) = m ((c.tc : Thread Cert.WguIdeal.nD Cert.WguIdeal.τ).loc Cert.WguIdeal.main_arg2))
      ∧ r.2.sem = fun _ => 0)

def quiescent_WguRefIdeal [hWguRefIdeal : Cert.WguRefIdeal.Facts] : Prop :=
  ∀ (m : (ℓ : Loc Cert.WguRefIdeal.nD Cert.WguRefIdeal.τ Cert.WguRefIdeal.sig) → Buf (Elt Ideal) ℓ) (g : Dev Cert.WguRefIdeal.nD → PrngReg), Pre_WguRefIdeal m →
    θ_run (Cert.WguRefIdeal.defs (F := Ideal)) (onTc (τ := Cert.WguRefIdeal.τ) (Cert.WguRefIdeal.main (F := Ideal))) ⟨m, fun _ => 0, g⟩ (fun r => (∀ c : Dev Cert.WguRefIdeal.nD,
      r.2.mem ((c.tc : Thread Cert.WguRefIdeal.nD Cert.WguRefIdeal.τ).loc Cert.WguRefIdeal.main_arg0) = m ((c.tc : Thread Cert.WguRefIdeal.nD Cert.WguRefIdeal.τ).loc Cert.WguRefIdeal.main_arg0)
      ∧ r.2.mem ((c.tc : Thread Cert.WguRefIdeal.nD Cert.WguRefIdeal.τ).loc Cert.WguRefIdeal.main_arg1) = m ((c.tc : Thread Cert.WguRefIdeal.nD Cert.WguRefIdeal.τ).loc Cert.WguRefIdeal.main_arg1)
      ∧ r.2.mem ((c.tc : Thread Cert.WguRefIdeal.nD Cert.WguRefIdeal.τ).loc Cert.WguRefIdeal.main_arg2) = m ((c.tc : Thread Cert.WguRefIdeal.nD Cert.WguRefIdeal.τ).loc Cert.WguRefIdeal.main_arg2))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1)
      ∧ r.2.mem ((c.tc : Thread Cert.Dh.nD Cert.Dh.τ).loc Cert.Dh.main_arg2) = m ((c.tc : Thread Cert.Dh.nD Cert.Dh.τ).loc Cert.Dh.main_arg2)
      ∧ r.2.mem ((c.tc : Thread Cert.Dh.nD Cert.Dh.τ).loc Cert.Dh.main_arg3) = m ((c.tc : Thread Cert.Dh.nD Cert.Dh.τ).loc Cert.Dh.main_arg3))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
      ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
      ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ r.2.sem = fun _ => 0)

def quiescent_DhRefIdeal [hDhRefIdeal : Cert.DhRefIdeal.Facts] : Prop :=
  ∀ (m : (ℓ : Loc Cert.DhRefIdeal.nD Cert.DhRefIdeal.τ Cert.DhRefIdeal.sig) → Buf (Elt Ideal) ℓ) (g : Dev Cert.DhRefIdeal.nD → PrngReg), Pre_DhRefIdeal m →
    θ_run (Cert.DhRefIdeal.defs (F := Ideal)) (onTc (τ := Cert.DhRefIdeal.τ) (Cert.DhRefIdeal.main (F := Ideal))) ⟨m, fun _ => 0, g⟩ (fun r => (∀ c : Dev Cert.DhRefIdeal.nD,
      r.2.mem ((c.tc : Thread Cert.DhRefIdeal.nD Cert.DhRefIdeal.τ).loc Cert.DhRefIdeal.main_arg0) = m ((c.tc : Thread Cert.DhRefIdeal.nD Cert.DhRefIdeal.τ).loc Cert.DhRefIdeal.main_arg0)
      ∧ r.2.mem ((c.tc : Thread Cert.DhRefIdeal.nD Cert.DhRefIdeal.τ).loc Cert.DhRefIdeal.main_arg1) = m ((c.tc : Thread Cert.DhRefIdeal.nD Cert.DhRefIdeal.τ).loc Cert.DhRefIdeal.main_arg1)
      ∧ r.2.mem ((c.tc : Thread Cert.DhRefIdeal.nD Cert.DhRefIdeal.τ).loc Cert.DhRefIdeal.main_arg2) = m ((c.tc : Thread Cert.DhRefIdeal.nD Cert.DhRefIdeal.τ).loc Cert.DhRefIdeal.main_arg2)
      ∧ r.2.mem ((c.tc : Thread Cert.DhRefIdeal.nD Cert.DhRefIdeal.τ).loc Cert.DhRefIdeal.main_arg3) = m ((c.tc : Thread Cert.DhRefIdeal.nD Cert.DhRefIdeal.τ).loc Cert.DhRefIdeal.main_arg3))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2)
      ∧ r.2.mem ((c.tc : Thread Cert.Dh2.nD Cert.Dh2.τ).loc Cert.Dh2.main_arg3) = m ((c.tc : Thread Cert.Dh2.nD Cert.Dh2.τ).loc Cert.Dh2.main_arg3))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
      ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1)
      ∧ r.2.mem ((c.tc : Thread Cert.GateUpRefIdeal.nD Cert.GateUpRefIdeal.τ).loc Cert.GateUpRefIdeal.main_arg2) = m ((c.tc : Thread Cert.GateUpRefIdeal.nD Cert.GateUpRefIdeal.τ).loc Cert.GateUpRefIdeal.main_arg2))
      ∧ r.2.sem = fun _ => 0)

def quiescent_GateUp2 [hGateUp2 : Cert.GateUp2.Facts] : Prop :=
  ∀ (m : (ℓ : Loc Cert.GateUp2.nD Cert.GateUp2.τ Cert.GateUp2.sig) → Buf (Elt Bits) ℓ) (g : Dev Cert.GateUp2.nD → PrngReg), Pre_GateUp2 m →
    θ_run (Cert.GateUp2.defs (F := Bits)) (onTc (τ := Cert.GateUp2.τ) (Cert.GateUp2.main (F := Bits))) ⟨m, fun _ => 0, g⟩ (fun r => (∀ c : Dev Cert.GateUp2.nD,
      r.2.mem ((c.tc : Thread Cert.GateUp2.nD Cert.GateUp2.τ).loc Cert.GateUp2.main_arg0) = m ((c.tc : Thread Cert.GateUp2.nD Cert.GateUp2.τ).loc Cert.GateUp2.main_arg0)
      ∧ r.2.mem ((c.tc : Thread Cert.GateUp2.nD Cert.GateUp2.τ).loc Cert.GateUp2.main_arg1) = m ((c.tc : Thread Cert.GateUp2.nD Cert.GateUp2.τ).loc Cert.GateUp2.main_arg1)
      ∧ r.2.mem ((c.tc : Thread Cert.GateUp2.nD Cert.GateUp2.τ).loc Cert.GateUp2.main_arg2) = m ((c.tc : Thread Cert.GateUp2.nD Cert.GateUp2.τ).loc Cert.GateUp2.main_arg2))
      ∧ r.2.sem = fun _ => 0)

def quiescent_GateUp2Ideal [hGateUp2Ideal : Cert.GateUp2Ideal.Facts] : Prop :=
  ∀ (m : (ℓ : Loc Cert.GateUp2Ideal.nD Cert.GateUp2Ideal.τ Cert.GateUp2Ideal.sig) → Buf (Elt Ideal) ℓ) (g : Dev Cert.GateUp2Ideal.nD → PrngReg), Pre_GateUp2Ideal m →
    θ_run (Cert.GateUp2Ideal.defs (F := Ideal)) (onTc (τ := Cert.GateUp2Ideal.τ) (Cert.GateUp2Ideal.main (F := Ideal))) ⟨m, fun _ => 0, g⟩ (fun r => (∀ c : Dev Cert.GateUp2Ideal.nD,
      r.2.mem ((c.tc : Thread Cert.GateUp2Ideal.nD Cert.GateUp2Ideal.τ).loc Cert.GateUp2Ideal.main_arg0) = m ((c.tc : Thread Cert.GateUp2Ideal.nD Cert.GateUp2Ideal.τ).loc Cert.GateUp2Ideal.main_arg0)
      ∧ r.2.mem ((c.tc : Thread Cert.GateUp2Ideal.nD Cert.GateUp2Ideal.τ).loc Cert.GateUp2Ideal.main_arg1) = m ((c.tc : Thread Cert.GateUp2Ideal.nD Cert.GateUp2Ideal.τ).loc Cert.GateUp2Ideal.main_arg1)
      ∧ r.2.mem ((c.tc : Thread Cert.GateUp2Ideal.nD Cert.GateUp2Ideal.τ).loc Cert.GateUp2Ideal.main_arg2) = m ((c.tc : Thread Cert.GateUp2Ideal.nD Cert.GateUp2Ideal.τ).loc Cert.GateUp2Ideal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Down2 [hDown2 : Cert.Down2.Facts] : Prop :=
  ∀ (m : (ℓ : Loc Cert.Down2.nD Cert.Down2.τ Cert.Down2.sig) → Buf (Elt Bits) ℓ) (g : Dev Cert.Down2.nD → PrngReg), Pre_Down2 m →
    θ_run (Cert.Down2.defs (F := Bits)) (onTc (τ := Cert.Down2.τ) (Cert.Down2.main (F := Bits))) ⟨m, fun _ => 0, g⟩ (fun r => (∀ c : Dev Cert.Down2.nD,
      r.2.mem ((c.tc : Thread Cert.Down2.nD Cert.Down2.τ).loc Cert.Down2.main_arg0) = m ((c.tc : Thread Cert.Down2.nD Cert.Down2.τ).loc Cert.Down2.main_arg0)
      ∧ r.2.mem ((c.tc : Thread Cert.Down2.nD Cert.Down2.τ).loc Cert.Down2.main_arg1) = m ((c.tc : Thread Cert.Down2.nD Cert.Down2.τ).loc Cert.Down2.main_arg1))
      ∧ r.2.sem = fun _ => 0)

def quiescent_Down2Ideal [hDown2Ideal : Cert.Down2Ideal.Facts] : Prop :=
  ∀ (m : (ℓ : Loc Cert.Down2Ideal.nD Cert.Down2Ideal.τ Cert.Down2Ideal.sig) → Buf (Elt Ideal) ℓ) (g : Dev Cert.Down2Ideal.nD → PrngReg), Pre_Down2Ideal m →
    θ_run (Cert.Down2Ideal.defs (F := Ideal)) (onTc (τ := Cert.Down2Ideal.τ) (Cert.Down2Ideal.main (F := Ideal))) ⟨m, fun _ => 0, g⟩ (fun r => (∀ c : Dev Cert.Down2Ideal.nD,
      r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
      ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1))
      ∧ r.2.sem = fun _ => 0)

def quiescent_Wo [hWo : Cert.Wo.Facts] : Prop :=
  ∀ (m : (ℓ : Loc Cert.Wo.nD Cert.Wo.τ Cert.Wo.sig) → Buf (Elt Bits) ℓ) (g : Dev Cert.Wo.nD → PrngReg), Pre_Wo m →
    θ_run (Cert.Wo.defs (F := Bits)) (onTc (τ := Cert.Wo.τ) (Cert.Wo.main (F := Bits))) ⟨m, fun _ => 0, g⟩ (fun r => (∀ c : Dev Cert.Wo.nD,
      r.2.mem ((c.tc : Thread Cert.Wo.nD Cert.Wo.τ).loc Cert.Wo.main_arg0) = m ((c.tc : Thread Cert.Wo.nD Cert.Wo.τ).loc Cert.Wo.main_arg0)
      ∧ r.2.mem ((c.tc : Thread Cert.Wo.nD Cert.Wo.τ).loc Cert.Wo.main_arg1) = m ((c.tc : Thread Cert.Wo.nD Cert.Wo.τ).loc Cert.Wo.main_arg1))
      ∧ r.2.sem = fun _ => 0)

def quiescent_WoIdeal [hWoIdeal : Cert.WoIdeal.Facts] : Prop :=
  ∀ (m : (ℓ : Loc Cert.WoIdeal.nD Cert.WoIdeal.τ Cert.WoIdeal.sig) → Buf (Elt Ideal) ℓ) (g : Dev Cert.WoIdeal.nD → PrngReg), Pre_WoIdeal m →
    θ_run (Cert.WoIdeal.defs (F := Ideal)) (onTc (τ := Cert.WoIdeal.τ) (Cert.WoIdeal.main (F := Ideal))) ⟨m, fun _ => 0, g⟩ (fun r => (∀ c : Dev Cert.WoIdeal.nD,
      r.2.mem ((c.tc : Thread Cert.WoIdeal.nD Cert.WoIdeal.τ).loc Cert.WoIdeal.main_arg0) = m ((c.tc : Thread Cert.WoIdeal.nD Cert.WoIdeal.τ).loc Cert.WoIdeal.main_arg0)
      ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ r.2.sem = fun _ => 0)

def quiescent_WoRefIdeal [hWoRefIdeal : Cert.WoRefIdeal.Facts] : Prop :=
  ∀ (m : (ℓ : Loc Cert.WoRefIdeal.nD Cert.WoRefIdeal.τ Cert.WoRefIdeal.sig) → Buf (Elt Ideal) ℓ) (g : Dev Cert.WoRefIdeal.nD → PrngReg), Pre_WoRefIdeal m →
    θ_run (Cert.WoRefIdeal.defs (F := Ideal)) (onTc (τ := Cert.WoRefIdeal.τ) (Cert.WoRefIdeal.main (F := Ideal))) ⟨m, fun _ => 0, g⟩ (fun r => (∀ c : Dev Cert.WoRefIdeal.nD,
      r.2.mem ((c.tc : Thread Cert.WoRefIdeal.nD Cert.WoRefIdeal.τ).loc Cert.WoRefIdeal.main_arg0) = m ((c.tc : Thread Cert.WoRefIdeal.nD Cert.WoRefIdeal.τ).loc Cert.WoRefIdeal.main_arg0)
      ∧ r.2.mem ((c.tc : Thread Cert.WoRefIdeal.nD Cert.WoRefIdeal.τ).loc Cert.WoRefIdeal.main_arg1) = m ((c.tc : Thread Cert.WoRefIdeal.nD Cert.WoRefIdeal.τ).loc Cert.WoRefIdeal.main_arg1))
      ∧ r.2.sem = fun _ => 0)

def quiescent_Dcat [hDcat : Cert.Dcat.Facts] : Prop :=
  ∀ (m : (ℓ : Loc Cert.Dcat.nD Cert.Dcat.τ Cert.Dcat.sig) → Buf (Elt Bits) ℓ) (g : Dev Cert.Dcat.nD → PrngReg), Pre_Dcat m →
    θ_run (Cert.Dcat.defs (F := Bits)) (onTc (τ := Cert.Dcat.τ) (Cert.Dcat.main (F := Bits))) ⟨m, fun _ => 0, g⟩ (fun r => (∀ c : Dev Cert.Dcat.nD,
      r.2.mem ((c.tc : Thread Cert.Dcat.nD Cert.Dcat.τ).loc Cert.Dcat.main_arg0) = m ((c.tc : Thread Cert.Dcat.nD Cert.Dcat.τ).loc Cert.Dcat.main_arg0)
      ∧ r.2.mem ((c.tc : Thread Cert.Dcat.nD Cert.Dcat.τ).loc Cert.Dcat.main_arg1) = m ((c.tc : Thread Cert.Dcat.nD Cert.Dcat.τ).loc Cert.Dcat.main_arg1))
      ∧ r.2.sem = fun _ => 0)

def quiescent_DcatIdeal [hDcatIdeal : Cert.DcatIdeal.Facts] : Prop :=
  ∀ (m : (ℓ : Loc Cert.DcatIdeal.nD Cert.DcatIdeal.τ Cert.DcatIdeal.sig) → Buf (Elt Ideal) ℓ) (g : Dev Cert.DcatIdeal.nD → PrngReg), Pre_DcatIdeal m →
    θ_run (Cert.DcatIdeal.defs (F := Ideal)) (onTc (τ := Cert.DcatIdeal.τ) (Cert.DcatIdeal.main (F := Ideal))) ⟨m, fun _ => 0, g⟩ (fun r => (∀ c : Dev Cert.DcatIdeal.nD,
      r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
      ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ r.2.sem = fun _ => 0)

def quiescent_DcatRefIdeal [hDcatRefIdeal : Cert.DcatRefIdeal.Facts] : Prop :=
  ∀ (m : (ℓ : Loc Cert.DcatRefIdeal.nD Cert.DcatRefIdeal.τ Cert.DcatRefIdeal.sig) → Buf (Elt Ideal) ℓ) (g : Dev Cert.DcatRefIdeal.nD → PrngReg), Pre_DcatRefIdeal m →
    θ_run (Cert.DcatRefIdeal.defs (F := Ideal)) (onTc (τ := Cert.DcatRefIdeal.τ) (Cert.DcatRefIdeal.main (F := Ideal))) ⟨m, fun _ => 0, g⟩ (fun r => (∀ c : Dev Cert.DcatRefIdeal.nD,
      r.2.mem ((c.tc : Thread Cert.DcatRefIdeal.nD Cert.DcatRefIdeal.τ).loc Cert.DcatRefIdeal.main_arg0) = m ((c.tc : Thread Cert.DcatRefIdeal.nD Cert.DcatRefIdeal.τ).loc Cert.DcatRefIdeal.main_arg0)
      ∧ r.2.mem ((c.tc : Thread Cert.DcatRefIdeal.nD Cert.DcatRefIdeal.τ).loc Cert.DcatRefIdeal.main_arg1) = m ((c.tc : Thread Cert.DcatRefIdeal.nD Cert.DcatRefIdeal.τ).loc Cert.DcatRefIdeal.main_arg1))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1))
      ∧ r.2.sem = fun _ => 0)

def quiescent_MixDh [hMixDh : Cert.MixDh.Facts] : Prop :=
  ∀ (m : (ℓ : Loc Cert.MixDh.nD Cert.MixDh.τ Cert.MixDh.sig) → Buf (Elt Bits) ℓ) (g : Dev Cert.MixDh.nD → PrngReg), Pre_MixDh m →
    θ_run (Cert.MixDh.defs (F := Bits)) (onTc (τ := Cert.MixDh.τ) (Cert.MixDh.main (F := Bits))) ⟨m, fun _ => 0, g⟩ (fun r => (∀ c : Dev Cert.MixDh.nD,
      r.2.mem ((c.tc : Thread Cert.MixDh.nD Cert.MixDh.τ).loc Cert.MixDh.main_arg0) = m ((c.tc : Thread Cert.MixDh.nD Cert.MixDh.τ).loc Cert.MixDh.main_arg0)
      ∧ r.2.mem ((c.tc : Thread Cert.MixDh.nD Cert.MixDh.τ).loc Cert.MixDh.main_arg1) = m ((c.tc : Thread Cert.MixDh.nD Cert.MixDh.τ).loc Cert.MixDh.main_arg1))
      ∧ r.2.sem = fun _ => 0)

def quiescent_MixDhIdeal [hMixDhIdeal : Cert.MixDhIdeal.Facts] : Prop :=
  ∀ (m : (ℓ : Loc Cert.MixDhIdeal.nD Cert.MixDhIdeal.τ Cert.MixDhIdeal.sig) → Buf (Elt Ideal) ℓ) (g : Dev Cert.MixDhIdeal.nD → PrngReg), Pre_MixDhIdeal m →
    θ_run (Cert.MixDhIdeal.defs (F := Ideal)) (onTc (τ := Cert.MixDhIdeal.τ) (Cert.MixDhIdeal.main (F := Ideal))) ⟨m, fun _ => 0, g⟩ (fun r => (∀ c : Dev Cert.MixDhIdeal.nD,
      r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
      ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1))
      ∧ r.2.sem = fun _ => 0)

def quiescent_MixDhRefIdeal [hMixDhRefIdeal : Cert.MixDhRefIdeal.Facts] : Prop :=
  ∀ (m : (ℓ : Loc Cert.MixDhRefIdeal.nD Cert.MixDhRefIdeal.τ Cert.MixDhRefIdeal.sig) → Buf (Elt Ideal) ℓ) (g : Dev Cert.MixDhRefIdeal.nD → PrngReg), Pre_MixDhRefIdeal m →
    θ_run (Cert.MixDhRefIdeal.defs (F := Ideal)) (onTc (τ := Cert.MixDhRefIdeal.τ) (Cert.MixDhRefIdeal.main (F := Ideal))) ⟨m, fun _ => 0, g⟩ (fun r => (∀ c : Dev Cert.MixDhRefIdeal.nD,
      r.2.mem ((c.tc : Thread Cert.MixDhRefIdeal.nD Cert.MixDhRefIdeal.τ).loc Cert.MixDhRefIdeal.main_arg0) = m ((c.tc : Thread Cert.MixDhRefIdeal.nD Cert.MixDhRefIdeal.τ).loc Cert.MixDhRefIdeal.main_arg0)
      ∧ r.2.mem ((c.tc : Thread Cert.MixDhRefIdeal.nD Cert.MixDhRefIdeal.τ).loc Cert.MixDhRefIdeal.main_arg1) = m ((c.tc : Thread Cert.MixDhRefIdeal.nD Cert.MixDhRefIdeal.τ).loc Cert.MixDhRefIdeal.main_arg1))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1))
      ∧ r.2.sem = fun _ => 0)

def quiescent_ProjSwa [hProjSwa : Cert.ProjSwa.Facts] : Prop :=
  ∀ (m : (ℓ : Loc Cert.ProjSwa.nD Cert.ProjSwa.τ Cert.ProjSwa.sig) → Buf (Elt Bits) ℓ) (g : Dev Cert.ProjSwa.nD → PrngReg), Pre_ProjSwa m →
    θ_run (Cert.ProjSwa.defs (F := Bits)) (onTc (τ := Cert.ProjSwa.τ) (Cert.ProjSwa.main (F := Bits))) ⟨m, fun _ => 0, g⟩ (fun r => (∀ c : Dev Cert.ProjSwa.nD,
      r.2.mem ((c.tc : Thread Cert.ProjSwa.nD Cert.ProjSwa.τ).loc Cert.ProjSwa.main_arg0) = m ((c.tc : Thread Cert.ProjSwa.nD Cert.ProjSwa.τ).loc Cert.ProjSwa.main_arg0)
      ∧ r.2.mem ((c.tc : Thread Cert.ProjSwa.nD Cert.ProjSwa.τ).loc Cert.ProjSwa.main_arg1) = m ((c.tc : Thread Cert.ProjSwa.nD Cert.ProjSwa.τ).loc Cert.ProjSwa.main_arg1))
      ∧ r.2.sem = fun _ => 0)

def quiescent_ProjSwaIdeal [hProjSwaIdeal : Cert.ProjSwaIdeal.Facts] : Prop :=
  ∀ (m : (ℓ : Loc Cert.ProjSwaIdeal.nD Cert.ProjSwaIdeal.τ Cert.ProjSwaIdeal.sig) → Buf (Elt Ideal) ℓ) (g : Dev Cert.ProjSwaIdeal.nD → PrngReg), Pre_ProjSwaIdeal m →
    θ_run (Cert.ProjSwaIdeal.defs (F := Ideal)) (onTc (τ := Cert.ProjSwaIdeal.τ) (Cert.ProjSwaIdeal.main (F := Ideal))) ⟨m, fun _ => 0, g⟩ (fun r => (∀ c : Dev Cert.ProjSwaIdeal.nD,
      r.2.mem ((c.tc : Thread Cert.ProjSwaIdeal.nD Cert.ProjSwaIdeal.τ).loc Cert.ProjSwaIdeal.main_arg0) = m ((c.tc : Thread Cert.ProjSwaIdeal.nD Cert.ProjSwaIdeal.τ).loc Cert.ProjSwaIdeal.main_arg0)
      ∧ r.2.mem ((c.tc : Thread Cert.ProjSwaIdeal.nD Cert.ProjSwaIdeal.τ).loc Cert.ProjSwaIdeal.main_arg1) = m ((c.tc : Thread Cert.ProjSwaIdeal.nD Cert.ProjSwaIdeal.τ).loc Cert.ProjSwaIdeal.main_arg1))
      ∧ r.2.sem = fun _ => 0)

def quiescent_ProjSwaRefIdeal [hProjSwaRefIdeal : Cert.ProjSwaRefIdeal.Facts] : Prop :=
  ∀ (m : (ℓ : Loc Cert.ProjSwaRefIdeal.nD Cert.ProjSwaRefIdeal.τ Cert.ProjSwaRefIdeal.sig) → Buf (Elt Ideal) ℓ) (g : Dev Cert.ProjSwaRefIdeal.nD → PrngReg), Pre_ProjSwaRefIdeal m →
    θ_run (Cert.ProjSwaRefIdeal.defs (F := Ideal)) (onTc (τ := Cert.ProjSwaRefIdeal.τ) (Cert.ProjSwaRefIdeal.main (F := Ideal))) ⟨m, fun _ => 0, g⟩ (fun r => (∀ c : Dev Cert.ProjSwaRefIdeal.nD,
      r.2.mem ((c.tc : Thread Cert.ProjSwaRefIdeal.nD Cert.ProjSwaRefIdeal.τ).loc Cert.ProjSwaRefIdeal.main_arg0) = m ((c.tc : Thread Cert.ProjSwaRefIdeal.nD Cert.ProjSwaRefIdeal.τ).loc Cert.ProjSwaRefIdeal.main_arg0)
      ∧ r.2.mem ((c.tc : Thread Cert.ProjSwaRefIdeal.nD Cert.ProjSwaRefIdeal.τ).loc Cert.ProjSwaRefIdeal.main_arg1) = m ((c.tc : Thread Cert.ProjSwaRefIdeal.nD Cert.ProjSwaRefIdeal.τ).loc Cert.ProjSwaRefIdeal.main_arg1))
      ∧ r.2.sem = fun _ => 0)

def quiescent_ProjMla [hProjMla : Cert.ProjMla.Facts] : Prop :=
  ∀ (m : (ℓ : Loc Cert.ProjMla.nD Cert.ProjMla.τ Cert.ProjMla.sig) → Buf (Elt Bits) ℓ) (g : Dev Cert.ProjMla.nD → PrngReg), Pre_ProjMla m →
    θ_run (Cert.ProjMla.defs (F := Bits)) (onTc (τ := Cert.ProjMla.τ) (Cert.ProjMla.main (F := Bits))) ⟨m, fun _ => 0, g⟩ (fun r => (∀ c : Dev Cert.ProjMla.nD,
      r.2.mem ((c.tc : Thread Cert.ProjMla.nD Cert.ProjMla.τ).loc Cert.ProjMla.main_arg0) = m ((c.tc : Thread Cert.ProjMla.nD Cert.ProjMla.τ).loc Cert.ProjMla.main_arg0)
      ∧ r.2.mem ((c.tc : Thread Cert.ProjMla.nD Cert.ProjMla.τ).loc Cert.ProjMla.main_arg1) = m ((c.tc : Thread Cert.ProjMla.nD Cert.ProjMla.τ).loc Cert.ProjMla.main_arg1))
      ∧ r.2.sem = fun _ => 0)

def quiescent_ProjMlaIdeal [hProjMlaIdeal : Cert.ProjMlaIdeal.Facts] : Prop :=
  ∀ (m : (ℓ : Loc Cert.ProjMlaIdeal.nD Cert.ProjMlaIdeal.τ Cert.ProjMlaIdeal.sig) → Buf (Elt Ideal) ℓ) (g : Dev Cert.ProjMlaIdeal.nD → PrngReg), Pre_ProjMlaIdeal m →
    θ_run (Cert.ProjMlaIdeal.defs (F := Ideal)) (onTc (τ := Cert.ProjMlaIdeal.τ) (Cert.ProjMlaIdeal.main (F := Ideal))) ⟨m, fun _ => 0, g⟩ (fun r => (∀ c : Dev Cert.ProjMlaIdeal.nD,
      r.2.mem ((c.tc : Thread Cert.ProjMlaIdeal.nD Cert.ProjMlaIdeal.τ).loc Cert.ProjMlaIdeal.main_arg0) = m ((c.tc : Thread Cert.ProjMlaIdeal.nD Cert.ProjMlaIdeal.τ).loc Cert.ProjMlaIdeal.main_arg0)
      ∧ r.2.mem ((c.tc : Thread Cert.ProjMlaIdeal.nD Cert.ProjMlaIdeal.τ).loc Cert.ProjMlaIdeal.main_arg1) = m ((c.tc : Thread Cert.ProjMlaIdeal.nD Cert.ProjMlaIdeal.τ).loc Cert.ProjMlaIdeal.main_arg1))
      ∧ r.2.sem = fun _ => 0)

def quiescent_ProjMlaRefIdeal [hProjMlaRefIdeal : Cert.ProjMlaRefIdeal.Facts] : Prop :=
  ∀ (m : (ℓ : Loc Cert.ProjMlaRefIdeal.nD Cert.ProjMlaRefIdeal.τ Cert.ProjMlaRefIdeal.sig) → Buf (Elt Ideal) ℓ) (g : Dev Cert.ProjMlaRefIdeal.nD → PrngReg), Pre_ProjMlaRefIdeal m →
    θ_run (Cert.ProjMlaRefIdeal.defs (F := Ideal)) (onTc (τ := Cert.ProjMlaRefIdeal.τ) (Cert.ProjMlaRefIdeal.main (F := Ideal))) ⟨m, fun _ => 0, g⟩ (fun r => (∀ c : Dev Cert.ProjMlaRefIdeal.nD,
      r.2.mem ((c.tc : Thread Cert.ProjMlaRefIdeal.nD Cert.ProjMlaRefIdeal.τ).loc Cert.ProjMlaRefIdeal.main_arg0) = m ((c.tc : Thread Cert.ProjMlaRefIdeal.nD Cert.ProjMlaRefIdeal.τ).loc Cert.ProjMlaRefIdeal.main_arg0)
      ∧ r.2.mem ((c.tc : Thread Cert.ProjMlaRefIdeal.nD Cert.ProjMlaRefIdeal.τ).loc Cert.ProjMlaRefIdeal.main_arg1) = m ((c.tc : Thread Cert.ProjMlaRefIdeal.nD Cert.ProjMlaRefIdeal.τ).loc Cert.ProjMlaRefIdeal.main_arg1))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4))
      ∧ r.2.sem = fun _ => 0)

def quiescent_SwaFwd [hSwaFwd : Cert.SwaFwd.Facts] : Prop :=
  ∀ (m : (ℓ : Loc Cert.SwaFwd.nD Cert.SwaFwd.τ Cert.SwaFwd.sig) → Buf (Elt Bits) ℓ) (g : Dev Cert.SwaFwd.nD → PrngReg), Pre_SwaFwd m →
    θ_run (Cert.SwaFwd.defs (F := Bits)) (onTc (τ := Cert.SwaFwd.τ) (Cert.SwaFwd.main (F := Bits))) ⟨m, fun _ => 0, g⟩ (fun r => (∀ c : Dev Cert.SwaFwd.nD,
      r.2.mem ((c.tc : Thread Cert.SwaFwd.nD Cert.SwaFwd.τ).loc Cert.SwaFwd.main_arg0) = m ((c.tc : Thread Cert.SwaFwd.nD Cert.SwaFwd.τ).loc Cert.SwaFwd.main_arg0)
      ∧ r.2.mem ((c.tc : Thread Cert.SwaFwd.nD Cert.SwaFwd.τ).loc Cert.SwaFwd.main_arg1) = m ((c.tc : Thread Cert.SwaFwd.nD Cert.SwaFwd.τ).loc Cert.SwaFwd.main_arg1)
      ∧ r.2.mem ((c.tc : Thread Cert.SwaFwd.nD Cert.SwaFwd.τ).loc Cert.SwaFwd.main_arg2) = m ((c.tc : Thread Cert.SwaFwd.nD Cert.SwaFwd.τ).loc Cert.SwaFwd.main_arg2))
      ∧ r.2.sem = fun _ => 0)

def quiescent_SwaFwdIdeal [hSwaFwdIdeal : Cert.SwaFwdIdeal.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdIdeal_pre_finite_swafwd [hSwaFwdIdeal : Cert.SwaFwdIdeal.Facts] [hPre_finite_swafwd : Cert.Pre_finite_swafwd.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg), Pre_SwaFwdIdeal_finite_swafwd m →
    θ_run (Cert.SwaFwdIdeal.defs (F := Ideal)) (onTc (τ := Cert.SwaFwdIdeal.τ) (Cert.SwaFwdIdeal.main (F := Ideal))) ⟨m, fun _ => 0, g⟩ (fun r => (∀ c : Dev Cert.SwaFwdIdeal.nD,
      r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
      ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
      ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ r.2.sem = fun _ => 0)

def quiescent_SwaFwdRefIdeal [hSwaFwdRefIdeal : Cert.SwaFwdRefIdeal.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_SwaFwdRefIdeal_pre_finite_swafwd [hSwaFwdRefIdeal : Cert.SwaFwdRefIdeal.Facts] [hPre_finite_swafwd : Cert.Pre_finite_swafwd.Facts] : Prop :=
  ∀ (m : (ℓ : Loc Cert.SwaFwdRefIdeal.nD Cert.SwaFwdRefIdeal.τ Cert.SwaFwdRefIdeal.sig) → Buf (Elt Ideal) ℓ) (g : Dev Cert.SwaFwdRefIdeal.nD → PrngReg), Pre_SwaFwdRefIdeal_finite_swafwd m →
    θ_run (Cert.SwaFwdRefIdeal.defs (F := Ideal)) (onTc (τ := Cert.SwaFwdRefIdeal.τ) (Cert.SwaFwdRefIdeal.main (F := Ideal))) ⟨m, fun _ => 0, g⟩ (fun r => (∀ c : Dev Cert.SwaFwdRefIdeal.nD,
      r.2.mem ((c.tc : Thread Cert.SwaFwdRefIdeal.nD Cert.SwaFwdRefIdeal.τ).loc Cert.SwaFwdRefIdeal.main_arg0) = m ((c.tc : Thread Cert.SwaFwdRefIdeal.nD Cert.SwaFwdRefIdeal.τ).loc Cert.SwaFwdRefIdeal.main_arg0)
      ∧ r.2.mem ((c.tc : Thread Cert.SwaFwdRefIdeal.nD Cert.SwaFwdRefIdeal.τ).loc Cert.SwaFwdRefIdeal.main_arg1) = m ((c.tc : Thread Cert.SwaFwdRefIdeal.nD Cert.SwaFwdRefIdeal.τ).loc Cert.SwaFwdRefIdeal.main_arg1)
      ∧ r.2.mem ((c.tc : Thread Cert.SwaFwdRefIdeal.nD Cert.SwaFwdRefIdeal.τ).loc Cert.SwaFwdRefIdeal.main_arg2) = m ((c.tc : Thread Cert.SwaFwdRefIdeal.nD Cert.SwaFwdRefIdeal.τ).loc Cert.SwaFwdRefIdeal.main_arg2))
      ∧ r.2.sem = fun _ => 0)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def preserves_Gate_GateIdeal : Prop :=
  True

def algebraic_GateIdeal_GateRefIdeal_pre_finite_gate [hGateIdeal : Cert.GateIdeal.Facts] [hGateRefIdeal : Cert.GateRefIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal_finite_gate m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v9)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v9) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Gate2_Gate2Ideal : Prop :=
  True

def algebraic_Gate2Ideal_GateRefIdeal_pre_finite_gate [hGate2Ideal : Cert.Gate2Ideal.Facts] [hGateRefIdeal : Cert.GateRefIdeal.Facts] [hPre_finite_gate : Cert.Pre_finite_gate.Facts] : Prop :=
  ∀ (m : (ℓ : Loc Cert.Gate2Ideal.nD Cert.Gate2Ideal.τ Cert.Gate2Ideal.sig) → Buf (Elt Ideal) ℓ) (g : Dev Cert.Gate2Ideal.nD → PrngReg)
    (m' : (ℓ : Loc Cert.GateRefIdeal.nD Cert.GateRefIdeal.τ Cert.GateRefIdeal.sig) → Buf (Elt Ideal) ℓ) (g' : Dev Cert.GateRefIdeal.nD → PrngReg), Pre_Gate2Ideal_finite_gate m →
    (∀ c : Dev Cert.Gate2Ideal.nD,
      m' ((c.tc : Thread Cert.GateRefIdeal.nD Cert.GateRefIdeal.τ).loc Cert.GateRefIdeal.main_arg0) = m ((c.tc : Thread Cert.Gate2Ideal.nD Cert.Gate2Ideal.τ).loc Cert.Gate2Ideal.main_arg0)
      ∧ m' ((c.tc : Thread Cert.GateRefIdeal.nD Cert.GateRefIdeal.τ).loc Cert.GateRefIdeal.main_arg1) = m ((c.tc : Thread Cert.Gate2Ideal.nD Cert.Gate2Ideal.τ).loc Cert.Gate2Ideal.main_arg1)
      ∧ m' ((c.tc : Thread Cert.GateRefIdeal.nD Cert.GateRefIdeal.τ).loc Cert.GateRefIdeal.main_arg2) = m ((c.tc : Thread Cert.Gate2Ideal.nD Cert.Gate2Ideal.τ).loc Cert.Gate2Ideal.main_arg2)
      ∧ m' ((c.tc : Thread Cert.GateRefIdeal.nD Cert.GateRefIdeal.τ).loc Cert.GateRefIdeal.main_arg3) = m ((c.tc : Thread Cert.Gate2Ideal.nD Cert.Gate2Ideal.τ).loc Cert.Gate2Ideal.main_arg3)) →
    ∃ (v0 : (c : Dev Cert.Gate2Ideal.nD) → Buf (Elt Ideal) ((c.tc : Thread Cert.Gate2Ideal.nD Cert.Gate2Ideal.τ).loc Cert.Gate2Ideal.main_v11)),
      θ_run (Cert.Gate2Ideal.defs (F := Ideal)) (onTc (τ := Cert.Gate2Ideal.τ) (Cert.Gate2Ideal.main (F := Ideal))) ⟨m, fun _ => 0, g⟩ (fun r => ∀ c : Dev Cert.Gate2Ideal.nD,
          r.2.mem ((c.tc : Thread Cert.Gate2Ideal.nD Cert.Gate2Ideal.τ).loc Cert.Gate2Ideal.main_v11) = v0 c
          ∧ r.2.mem ((c.tc : Thread Cert.Gate2Ideal.nD Cert.Gate2Ideal.τ).loc Cert.Gate2Ideal.main_arg0) = m ((c.tc : Thread Cert.Gate2Ideal.nD Cert.Gate2Ideal.τ).loc Cert.Gate2Ideal.main_arg0)
          ∧ r.2.mem ((c.tc : Thread Cert.Gate2Ideal.nD Cert.Gate2Ideal.τ).loc Cert.Gate2Ideal.main_arg1) = m ((c.tc : Thread Cert.Gate2Ideal.nD Cert.Gate2Ideal.τ).loc Cert.Gate2Ideal.main_arg1)
          ∧ r.2.mem ((c.tc : Thread Cert.Gate2Ideal.nD Cert.Gate2Ideal.τ).loc Cert.Gate2Ideal.main_arg2) = m ((c.tc : Thread Cert.Gate2Ideal.nD Cert.Gate2Ideal.τ).loc Cert.Gate2Ideal.main_arg2)
          ∧ r.2.mem ((c.tc : Thread Cert.Gate2Ideal.nD Cert.Gate2Ideal.τ).loc Cert.Gate2Ideal.main_arg3) = m ((c.tc : Thread Cert.Gate2Ideal.nD Cert.Gate2Ideal.τ).loc Cert.Gate2Ideal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v12) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Wdown_WdownIdeal : Prop :=
  True

def algebraic_WdownIdeal_WdownRefIdeal [hWdownIdeal : Cert.WdownIdeal.Facts] [hWdownRefIdeal : Cert.WdownRefIdeal.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v4)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v4) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v5) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_Wgu_WguIdeal : Prop :=
  True

def algebraic_WguIdeal_WguRefIdeal [hWguIdeal : Cert.WguIdeal.Facts] [hWguRefIdeal : Cert.WguRefIdeal.Facts] : Prop :=
  ∀ (m : (ℓ : Loc Cert.WguIdeal.nD Cert.WguIdeal.τ Cert.WguIdeal.sig) → Buf (Elt Ideal) ℓ) (g : Dev Cert.WguIdeal.nD → PrngReg)
    (m' : (ℓ : Loc Cert.WguRefIdeal.nD Cert.WguRefIdeal.τ Cert.WguRefIdeal.sig) → Buf (Elt Ideal) ℓ) (g' : Dev Cert.WguRefIdeal.nD → PrngReg), Pre_WguIdeal m →
    (∀ c : Dev Cert.WguIdeal.nD,
      m' ((c.tc : Thread Cert.WguRefIdeal.nD Cert.WguRefIdeal.τ).loc Cert.WguRefIdeal.main_arg0) = m ((c.tc : Thread Cert.WguIdeal.nD Cert.WguIdeal.τ).loc Cert.WguIdeal.main_arg0)
      ∧ m' ((c.tc : Thread Cert.WguRefIdeal.nD Cert.WguRefIdeal.τ).loc Cert.WguRefIdeal.main_arg1) = m ((c.tc : Thread Cert.WguIdeal.nD Cert.WguIdeal.τ).loc Cert.WguIdeal.main_arg1)
      ∧ m' ((c.tc : Thread Cert.WguRefIdeal.nD Cert.WguRefIdeal.τ).loc Cert.WguRefIdeal.main_arg2) = m ((c.tc : Thread Cert.WguIdeal.nD Cert.WguIdeal.τ).loc Cert.WguIdeal.main_arg2)) →
    ∃ (v0 : (c : Dev Cert.WguIdeal.nD) → Buf (Elt Ideal) ((c.tc : Thread Cert.WguIdeal.nD Cert.WguIdeal.τ).loc Cert.WguIdeal.main_v7)),
      θ_run (Cert.WguIdeal.defs (F := Ideal)) (onTc (τ := Cert.WguIdeal.τ) (Cert.WguIdeal.main (F := Ideal))) ⟨m, fun _ => 0, g⟩ (fun r => ∀ c : Dev Cert.WguIdeal.nD,
          r.2.mem ((c.tc : Thread Cert.WguIdeal.nD Cert.WguIdeal.τ).loc Cert.WguIdeal.main_v7) = v0 c
          ∧ r.2.mem ((c.tc : Thread Cert.WguIdeal.nD Cert.WguIdeal.τ).loc Cert.WguIdeal.main_arg0) = m ((c.tc : Thread Cert.WguIdeal.nD Cert.WguIdeal.τ).loc Cert.WguIdeal.main_arg0)
          ∧ r.2.mem ((c.tc : Thread Cert.WguIdeal.nD Cert.WguIdeal.τ).loc Cert.WguIdeal.main_arg1) = m ((c.tc : Thread Cert.WguIdeal.nD Cert.WguIdeal.τ).loc Cert.WguIdeal.main_arg1)
          ∧ r.2.mem ((c.tc : Thread Cert.WguIdeal.nD Cert.WguIdeal.τ).loc Cert.WguIdeal.main_arg2) = m ((c.tc : Thread Cert.WguIdeal.nD Cert.WguIdeal.τ).loc Cert.WguIdeal.main_arg2))
      ∧ θ_run (Cert.WguRefIdeal.defs (F := Ideal)) (onTc (τ := Cert.WguRefIdeal.τ) (Cert.WguRefIdeal.main (F := Ideal))) ⟨m', fun _ => 0, g'⟩ (fun r => ∀ c : Dev Cert.WguRefIdeal.nD,
          r.2.mem ((c.tc : Thread Cert.WguRefIdeal.nD Cert.WguRefIdeal.τ).loc Cert.WguRefIdeal.main_v14) = v0 c
          ∧ r.2.mem ((c.tc : Thread Cert.WguRefIdeal.nD Cert.WguRefIdeal.τ).loc Cert.WguRefIdeal.main_arg0) = m' ((c.tc : Thread Cert.WguRefIdeal.nD Cert.WguRefIdeal.τ).loc Cert.WguRefIdeal.main_arg0)
          ∧ r.2.mem ((c.tc : Thread Cert.WguRefIdeal.nD Cert.WguRefIdeal.τ).loc Cert.WguRefIdeal.main_arg1) = m' ((c.tc : Thread Cert.WguRefIdeal.nD Cert.WguRefIdeal.τ).loc Cert.WguRefIdeal.main_arg1)
          ∧ r.2.mem ((c.tc : Thread Cert.WguRefIdeal.nD Cert.WguRefIdeal.τ).loc Cert.WguRefIdeal.main_arg2) = m' ((c.tc : Thread Cert.WguRefIdeal.nD Cert.WguRefIdeal.τ).loc Cert.WguRefIdeal.main_arg2))

def preserves_Dh_DhIdeal : Prop :=
  True

def algebraic_DhIdeal_DhRefIdeal [hDhIdeal : Cert.DhIdeal.Facts] [hDhRefIdeal : Cert.DhRefIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.DhRefIdeal.nD Cert.DhRefIdeal.τ Cert.DhRefIdeal.sig) → Buf (Elt Ideal) ℓ) (g' : Dev Cert.DhRefIdeal.nD → PrngReg), Pre_DhIdeal m →
    (∀ c : Dev Cert.DhIdeal.nD,
      m' ((c.tc : Thread Cert.DhRefIdeal.nD Cert.DhRefIdeal.τ).loc Cert.DhRefIdeal.main_arg0) = m ((c.tc : Thread Cert.DhIdeal.nD Cert.DhIdeal.τ).loc Cert.DhIdeal.main_arg0)
      ∧ m' ((c.tc : Thread Cert.DhRefIdeal.nD Cert.DhRefIdeal.τ).loc Cert.DhRefIdeal.main_arg1) = m ((c.tc : Thread Cert.DhIdeal.nD Cert.DhIdeal.τ).loc Cert.DhIdeal.main_arg1)
      ∧ m' ((c.tc : Thread Cert.DhRefIdeal.nD Cert.DhRefIdeal.τ).loc Cert.DhRefIdeal.main_arg2) = m ((c.tc : Thread Cert.DhIdeal.nD Cert.DhIdeal.τ).loc Cert.DhIdeal.main_arg2)
      ∧ m' ((c.tc : Thread Cert.DhRefIdeal.nD Cert.DhRefIdeal.τ).loc Cert.DhRefIdeal.main_arg3) = m ((c.tc : Thread Cert.DhIdeal.nD Cert.DhIdeal.τ).loc Cert.DhIdeal.main_arg3)) →
    ∃ (v0 : (c : Dev Cert.DhIdeal.nD) → Buf (Elt Ideal) ((c.tc : Thread Cert.DhIdeal.nD Cert.DhIdeal.τ).loc Cert.DhIdeal.main_v14)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v14) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1)
          ∧ r.2.mem ((c.tc : Thread Cert.DhIdeal.nD Cert.DhIdeal.τ).loc Cert.DhIdeal.main_arg2) = m ((c.tc : Thread Cert.DhIdeal.nD Cert.DhIdeal.τ).loc Cert.DhIdeal.main_arg2)
          ∧ r.2.mem ((c.tc : Thread Cert.DhIdeal.nD Cert.DhIdeal.τ).loc Cert.DhIdeal.main_arg3) = m ((c.tc : Thread Cert.DhIdeal.nD Cert.DhIdeal.τ).loc Cert.DhIdeal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_Dh2_Dh2Ideal : Prop :=
  True

def algebraic_Dh2Ideal_DhRefIdeal [hDh2Ideal : Cert.Dh2Ideal.Facts] [hDhRefIdeal : Cert.DhRefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.DhRefIdeal.nD Cert.DhRefIdeal.τ Cert.DhRefIdeal.sig) → Buf (Elt Ideal) ℓ) (g' : Dev Cert.DhRefIdeal.nD → PrngReg), Pre_Dh2Ideal m →
    (∀ c : Dev Cert.Dh2Ideal.nD,
      m' ((c.tc : Thread Cert.DhRefIdeal.nD Cert.DhRefIdeal.τ).loc Cert.DhRefIdeal.main_arg0) = m ((c.tc : Thread Cert.Dh2Ideal.nD Cert.Dh2Ideal.τ).loc Cert.Dh2Ideal.main_arg0)
      ∧ m' ((c.tc : Thread Cert.DhRefIdeal.nD Cert.DhRefIdeal.τ).loc Cert.DhRefIdeal.main_arg1) = m ((c.tc : Thread Cert.Dh2Ideal.nD Cert.Dh2Ideal.τ).loc Cert.Dh2Ideal.main_arg1)
      ∧ m' ((c.tc : Thread Cert.DhRefIdeal.nD Cert.DhRefIdeal.τ).loc Cert.DhRefIdeal.main_arg2) = m ((c.tc : Thread Cert.Dh2Ideal.nD Cert.Dh2Ideal.τ).loc Cert.Dh2Ideal.main_arg2)
      ∧ m' ((c.tc : Thread Cert.DhRefIdeal.nD Cert.DhRefIdeal.τ).loc Cert.DhRefIdeal.main_arg3) = m ((c.tc : Thread Cert.Dh2Ideal.nD Cert.Dh2Ideal.τ).loc Cert.Dh2Ideal.main_arg3)) →
    ∃ (v0 : (c : Dev Cert.Dh2Ideal.nD) → Buf (Elt Ideal) ((c.tc : Thread Cert.Dh2Ideal.nD Cert.Dh2Ideal.τ).loc Cert.Dh2Ideal.main_v16)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v16) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2)
          ∧ r.2.mem ((c.tc : Thread Cert.Dh2Ideal.nD Cert.Dh2Ideal.τ).loc Cert.Dh2Ideal.main_arg3) = m ((c.tc : Thread Cert.Dh2Ideal.nD Cert.Dh2Ideal.τ).loc Cert.Dh2Ideal.main_arg3))
      ∧ θ_run (Cert.DhRefIdeal.defs (F := Ideal)) (onTc (τ := Cert.DhRefIdeal.τ) (Cert.DhRefIdeal.main (F := Ideal))) ⟨m', fun _ => 0, g'⟩ (fun r => ∀ c : Dev Cert.DhRefIdeal.nD,
          r.2.mem ((c.tc : Thread Cert.DhRefIdeal.nD Cert.DhRefIdeal.τ).loc Cert.DhRefIdeal.main_v5) = v0 c
          ∧ r.2.mem ((c.tc : Thread Cert.DhRefIdeal.nD Cert.DhRefIdeal.τ).loc Cert.DhRefIdeal.main_arg0) = m' ((c.tc : Thread Cert.DhRefIdeal.nD Cert.DhRefIdeal.τ).loc Cert.DhRefIdeal.main_arg0)
          ∧ r.2.mem ((c.tc : Thread Cert.DhRefIdeal.nD Cert.DhRefIdeal.τ).loc Cert.DhRefIdeal.main_arg1) = m' ((c.tc : Thread Cert.DhRefIdeal.nD Cert.DhRefIdeal.τ).loc Cert.DhRefIdeal.main_arg1)
          ∧ r.2.mem ((c.tc : Thread Cert.DhRefIdeal.nD Cert.DhRefIdeal.τ).loc Cert.DhRefIdeal.main_arg2) = m' ((c.tc : Thread Cert.DhRefIdeal.nD Cert.DhRefIdeal.τ).loc Cert.DhRefIdeal.main_arg2)
          ∧ r.2.mem ((c.tc : Thread Cert.DhRefIdeal.nD Cert.DhRefIdeal.τ).loc Cert.DhRefIdeal.main_arg3) = m' ((c.tc : Thread Cert.DhRefIdeal.nD Cert.DhRefIdeal.τ).loc Cert.DhRefIdeal.main_arg3))

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)
      ∧ m' ((c.tc : Thread Cert.GateUpRefIdeal.nD Cert.GateUpRefIdeal.τ).loc Cert.GateUpRefIdeal.main_arg2) = m ((c.tc : Thread Cert.GateUpIdeal.nD Cert.GateUpIdeal.τ).loc Cert.GateUpIdeal.main_arg2)) →
    ∃ (v0 : (c : Dev Cert.GateUpIdeal.nD) → Buf (Elt Ideal) ((c.tc : Thread Cert.GateUpIdeal.nD Cert.GateUpIdeal.τ).loc Cert.GateUpIdeal.main_v9_0)) (v1 : (c : Dev Cert.GateUpIdeal.nD) → Buf (Elt Ideal) ((c.tc : Thread Cert.GateUpIdeal.nD Cert.GateUpIdeal.τ).loc Cert.GateUpIdeal.main_v9_1)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v9_0) = v0 c
          ∧ r.2.mem ((c.tc : Thread Cert.GateUpIdeal.nD Cert.GateUpIdeal.τ).loc Cert.GateUpIdeal.main_v9_1) = v1 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v9) = v0 c
          ∧ r.2.mem ((c.tc : Thread Cert.GateUpRefIdeal.nD Cert.GateUpRefIdeal.τ).loc Cert.GateUpRefIdeal.main_v12) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_GateUp2_GateUp2Ideal : Prop :=
  True

def algebraic_GateUp2Ideal_GateUpRefIdeal [hGateUp2Ideal : Cert.GateUp2Ideal.Facts] [hGateUpRefIdeal : Cert.GateUpRefIdeal.Facts] : Prop :=
  ∀ (m : (ℓ : Loc Cert.GateUp2Ideal.nD Cert.GateUp2Ideal.τ Cert.GateUp2Ideal.sig) → Buf (Elt Ideal) ℓ) (g : Dev Cert.GateUp2Ideal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUp2Ideal m →
    (∀ c : Dev Cert.GateUp2Ideal.nD,
      m' ((c.tc : Thread Cert.GateUpRefIdeal.nD Cert.GateUpRefIdeal.τ).loc Cert.GateUpRefIdeal.main_arg0) = m ((c.tc : Thread Cert.GateUp2Ideal.nD Cert.GateUp2Ideal.τ).loc Cert.GateUp2Ideal.main_arg0)
      ∧ m' ((c.tc : Thread Cert.GateUpRefIdeal.nD Cert.GateUpRefIdeal.τ).loc Cert.GateUpRefIdeal.main_arg1) = m ((c.tc : Thread Cert.GateUp2Ideal.nD Cert.GateUp2Ideal.τ).loc Cert.GateUp2Ideal.main_arg1)
      ∧ m' ((c.tc : Thread Cert.GateUpRefIdeal.nD Cert.GateUpRefIdeal.τ).loc Cert.GateUpRefIdeal.main_arg2) = m ((c.tc : Thread Cert.GateUp2Ideal.nD Cert.GateUp2Ideal.τ).loc Cert.GateUp2Ideal.main_arg2)) →
    ∃ (v0 : (c : Dev Cert.GateUp2Ideal.nD) → Buf (Elt Ideal) ((c.tc : Thread Cert.GateUp2Ideal.nD Cert.GateUp2Ideal.τ).loc Cert.GateUp2Ideal.main_v11_0)) (v1 : (c : Dev Cert.GateUp2Ideal.nD) → Buf (Elt Ideal) ((c.tc : Thread Cert.GateUp2Ideal.nD Cert.GateUp2Ideal.τ).loc Cert.GateUp2Ideal.main_v11_1)),
      θ_run (Cert.GateUp2Ideal.defs (F := Ideal)) (onTc (τ := Cert.GateUp2Ideal.τ) (Cert.GateUp2Ideal.main (F := Ideal))) ⟨m, fun _ => 0, g⟩ (fun r => ∀ c : Dev Cert.GateUp2Ideal.nD,
          r.2.mem ((c.tc : Thread Cert.GateUp2Ideal.nD Cert.GateUp2Ideal.τ).loc Cert.GateUp2Ideal.main_v11_0) = v0 c
          ∧ r.2.mem ((c.tc : Thread Cert.GateUp2Ideal.nD Cert.GateUp2Ideal.τ).loc Cert.GateUp2Ideal.main_v11_1) = v1 c
          ∧ r.2.mem ((c.tc : Thread Cert.GateUp2Ideal.nD Cert.GateUp2Ideal.τ).loc Cert.GateUp2Ideal.main_arg0) = m ((c.tc : Thread Cert.GateUp2Ideal.nD Cert.GateUp2Ideal.τ).loc Cert.GateUp2Ideal.main_arg0)
          ∧ r.2.mem ((c.tc : Thread Cert.GateUp2Ideal.nD Cert.GateUp2Ideal.τ).loc Cert.GateUp2Ideal.main_arg1) = m ((c.tc : Thread Cert.GateUp2Ideal.nD Cert.GateUp2Ideal.τ).loc Cert.GateUp2Ideal.main_arg1)
          ∧ r.2.mem ((c.tc : Thread Cert.GateUp2Ideal.nD Cert.GateUp2Ideal.τ).loc Cert.GateUp2Ideal.main_arg2) = m ((c.tc : Thread Cert.GateUp2Ideal.nD Cert.GateUp2Ideal.τ).loc Cert.GateUp2Ideal.main_arg2))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v9) = v0 c
          ∧ r.2.mem ((c.tc : Thread Cert.GateUpRefIdeal.nD Cert.GateUpRefIdeal.τ).loc Cert.GateUpRefIdeal.main_v12) = v1 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1)
          ∧ r.2.mem ((c.tc : Thread Cert.GateUpRefIdeal.nD Cert.GateUpRefIdeal.τ).loc Cert.GateUpRefIdeal.main_arg2) = m' ((c.tc : Thread Cert.GateUpRefIdeal.nD Cert.GateUpRefIdeal.τ).loc Cert.GateUpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v5)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v5) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Down2_Down2Ideal : Prop :=
  True

def algebraic_Down2Ideal_DownRefIdeal [hDown2Ideal : Cert.Down2Ideal.Facts] [hDownRefIdeal : Cert.DownRefIdeal.Facts] : Prop :=
  ∀ (m : (ℓ : Loc Cert.Down2Ideal.nD Cert.Down2Ideal.τ Cert.Down2Ideal.sig) → Buf (Elt Ideal) ℓ) (g : Dev Cert.Down2Ideal.nD → PrngReg)
    (m' : (ℓ : Loc Cert.DownRefIdeal.nD Cert.DownRefIdeal.τ Cert.DownRefIdeal.sig) → Buf (Elt Ideal) ℓ) (g' : Dev Cert.DownRefIdeal.nD → PrngReg), Pre_Down2Ideal m →
    (∀ c : Dev Cert.Down2Ideal.nD,
      m' ((c.tc : Thread Cert.DownRefIdeal.nD Cert.DownRefIdeal.τ).loc Cert.DownRefIdeal.main_arg0) = m ((c.tc : Thread Cert.Down2Ideal.nD Cert.Down2Ideal.τ).loc Cert.Down2Ideal.main_arg0)
      ∧ m' ((c.tc : Thread Cert.DownRefIdeal.nD Cert.DownRefIdeal.τ).loc Cert.DownRefIdeal.main_arg1) = m ((c.tc : Thread Cert.Down2Ideal.nD Cert.Down2Ideal.τ).loc Cert.Down2Ideal.main_arg1)) →
    ∃ (v0 : (c : Dev Cert.Down2Ideal.nD) → Buf (Elt Ideal) ((c.tc : Thread Cert.Down2Ideal.nD Cert.Down2Ideal.τ).loc Cert.Down2Ideal.main_v7)),
      θ_run (Cert.Down2Ideal.defs (F := Ideal)) (onTc (τ := Cert.Down2Ideal.τ) (Cert.Down2Ideal.main (F := Ideal))) ⟨m, fun _ => 0, g⟩ (fun r => ∀ c : Dev Cert.Down2Ideal.nD,
          r.2.mem ((c.tc : Thread Cert.Down2Ideal.nD Cert.Down2Ideal.τ).loc Cert.Down2Ideal.main_v7) = v0 c
          ∧ r.2.mem ((c.tc : Thread Cert.Down2Ideal.nD Cert.Down2Ideal.τ).loc Cert.Down2Ideal.main_arg0) = m ((c.tc : Thread Cert.Down2Ideal.nD Cert.Down2Ideal.τ).loc Cert.Down2Ideal.main_arg0)
          ∧ r.2.mem ((c.tc : Thread Cert.Down2Ideal.nD Cert.Down2Ideal.τ).loc Cert.Down2Ideal.main_arg1) = m ((c.tc : Thread Cert.Down2Ideal.nD Cert.Down2Ideal.τ).loc Cert.Down2Ideal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Wo_WoIdeal : Prop :=
  True

def algebraic_WoIdeal_WoRefIdeal [hWoIdeal : Cert.WoIdeal.Facts] [hWoRefIdeal : Cert.WoRefIdeal.Facts] : Prop :=
  ∀ (m : (ℓ : Loc Cert.WoIdeal.nD Cert.WoIdeal.τ Cert.WoIdeal.sig) → Buf (Elt Ideal) ℓ) (g : Dev Cert.WoIdeal.nD → PrngReg)
    (m' : (ℓ : Loc Cert.WoRefIdeal.nD Cert.WoRefIdeal.τ Cert.WoRefIdeal.sig) → Buf (Elt Ideal) ℓ) (g' : Dev Cert.WoRefIdeal.nD → PrngReg), Pre_WoIdeal m →
    (∀ c : Dev Cert.WoIdeal.nD,
      m' ((c.tc : Thread Cert.WoRefIdeal.nD Cert.WoRefIdeal.τ).loc Cert.WoRefIdeal.main_arg0) = m ((c.tc : Thread Cert.WoIdeal.nD Cert.WoIdeal.τ).loc Cert.WoIdeal.main_arg0)
      ∧ m' ((c.tc : Thread Cert.WoRefIdeal.nD Cert.WoRefIdeal.τ).loc Cert.WoRefIdeal.main_arg1) = m ((c.tc : Thread Cert.WoIdeal.nD Cert.WoIdeal.τ).loc Cert.WoIdeal.main_arg1)) →
    ∃ (v0 : (c : Dev Cert.WoIdeal.nD) → Buf (Elt Ideal) ((c.tc : Thread Cert.WoIdeal.nD Cert.WoIdeal.τ).loc Cert.WoIdeal.main_v2)),
      θ_run (Cert.WoIdeal.defs (F := Ideal)) (onTc (τ := Cert.WoIdeal.τ) (Cert.WoIdeal.main (F := Ideal))) ⟨m, fun _ => 0, g⟩ (fun r => ∀ c : Dev Cert.WoIdeal.nD,
          r.2.mem ((c.tc : Thread Cert.WoIdeal.nD Cert.WoIdeal.τ).loc Cert.WoIdeal.main_v2) = v0 c
          ∧ r.2.mem ((c.tc : Thread Cert.WoIdeal.nD Cert.WoIdeal.τ).loc Cert.WoIdeal.main_arg0) = m ((c.tc : Thread Cert.WoIdeal.nD Cert.WoIdeal.τ).loc Cert.WoIdeal.main_arg0)
          ∧ r.2.mem ((c.tc : Thread Cert.WoIdeal.nD Cert.WoIdeal.τ).loc Cert.WoIdeal.main_arg1) = m ((c.tc : Thread Cert.WoIdeal.nD Cert.WoIdeal.τ).loc Cert.WoIdeal.main_arg1))
      ∧ θ_run (Cert.WoRefIdeal.defs (F := Ideal)) (onTc (τ := Cert.WoRefIdeal.τ) (Cert.WoRefIdeal.main (F := Ideal))) ⟨m', fun _ => 0, g'⟩ (fun r => ∀ c : Dev Cert.WoRefIdeal.nD,
          r.2.mem ((c.tc : Thread Cert.WoRefIdeal.nD Cert.WoRefIdeal.τ).loc Cert.WoRefIdeal.main_v3) = v0 c
          ∧ r.2.mem ((c.tc : Thread Cert.WoRefIdeal.nD Cert.WoRefIdeal.τ).loc Cert.WoRefIdeal.main_arg0) = m' ((c.tc : Thread Cert.WoRefIdeal.nD Cert.WoRefIdeal.τ).loc Cert.WoRefIdeal.main_arg0)
          ∧ r.2.mem ((c.tc : Thread Cert.WoRefIdeal.nD Cert.WoRefIdeal.τ).loc Cert.WoRefIdeal.main_arg1) = m' ((c.tc : Thread Cert.WoRefIdeal.nD Cert.WoRefIdeal.τ).loc Cert.WoRefIdeal.main_arg1))

def preserves_Dcat_DcatIdeal : Prop :=
  True

def algebraic_DcatIdeal_DcatRefIdeal [hDcatIdeal : Cert.DcatIdeal.Facts] [hDcatRefIdeal : Cert.DcatRefIdeal.Facts] : Prop :=
  ∀ (m : (ℓ : Loc Cert.DcatIdeal.nD Cert.DcatIdeal.τ Cert.DcatIdeal.sig) → Buf (Elt Ideal) ℓ) (g : Dev Cert.DcatIdeal.nD → PrngReg)
    (m' : (ℓ : Loc Cert.DcatRefIdeal.nD Cert.DcatRefIdeal.τ Cert.DcatRefIdeal.sig) → Buf (Elt Ideal) ℓ) (g' : Dev Cert.DcatRefIdeal.nD → PrngReg), Pre_DcatIdeal m →
    (∀ c : Dev Cert.DcatIdeal.nD,
      m' ((c.tc : Thread Cert.DcatRefIdeal.nD Cert.DcatRefIdeal.τ).loc Cert.DcatRefIdeal.main_arg0) = m ((c.tc : Thread Cert.DcatIdeal.nD Cert.DcatIdeal.τ).loc Cert.DcatIdeal.main_arg0)
      ∧ m' ((c.tc : Thread Cert.DcatRefIdeal.nD Cert.DcatRefIdeal.τ).loc Cert.DcatRefIdeal.main_arg1) = m ((c.tc : Thread Cert.DcatIdeal.nD Cert.DcatIdeal.τ).loc Cert.DcatIdeal.main_arg1)) →
    ∃ (v0 : (c : Dev Cert.DcatIdeal.nD) → Buf (Elt Ideal) ((c.tc : Thread Cert.DcatIdeal.nD Cert.DcatIdeal.τ).loc Cert.DcatIdeal.main_v2)),
      θ_run (Cert.DcatIdeal.defs (F := Ideal)) (onTc (τ := Cert.DcatIdeal.τ) (Cert.DcatIdeal.main (F := Ideal))) ⟨m, fun _ => 0, g⟩ (fun r => ∀ c : Dev Cert.DcatIdeal.nD,
          r.2.mem ((c.tc : Thread Cert.DcatIdeal.nD Cert.DcatIdeal.τ).loc Cert.DcatIdeal.main_v2) = v0 c
          ∧ r.2.mem ((c.tc : Thread Cert.DcatIdeal.nD Cert.DcatIdeal.τ).loc Cert.DcatIdeal.main_arg0) = m ((c.tc : Thread Cert.DcatIdeal.nD Cert.DcatIdeal.τ).loc Cert.DcatIdeal.main_arg0)
          ∧ r.2.mem ((c.tc : Thread Cert.DcatIdeal.nD Cert.DcatIdeal.τ).loc Cert.DcatIdeal.main_arg1) = m ((c.tc : Thread Cert.DcatIdeal.nD Cert.DcatIdeal.τ).loc Cert.DcatIdeal.main_arg1))
      ∧ θ_run (Cert.DcatRefIdeal.defs (F := Ideal)) (onTc (τ := Cert.DcatRefIdeal.τ) (Cert.DcatRefIdeal.main (F := Ideal))) ⟨m', fun _ => 0, g'⟩ (fun r => ∀ c : Dev Cert.DcatRefIdeal.nD,
          r.2.mem ((c.tc : Thread Cert.DcatRefIdeal.nD Cert.DcatRefIdeal.τ).loc Cert.DcatRefIdeal.main_v3) = v0 c
          ∧ r.2.mem ((c.tc : Thread Cert.DcatRefIdeal.nD Cert.DcatRefIdeal.τ).loc Cert.DcatRefIdeal.main_arg0) = m' ((c.tc : Thread Cert.DcatRefIdeal.nD Cert.DcatRefIdeal.τ).loc Cert.DcatRefIdeal.main_arg0)
          ∧ r.2.mem ((c.tc : Thread Cert.DcatRefIdeal.nD Cert.DcatRefIdeal.τ).loc Cert.DcatRefIdeal.main_arg1) = m' ((c.tc : Thread Cert.DcatRefIdeal.nD Cert.DcatRefIdeal.τ).loc Cert.DcatRefIdeal.main_arg1))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)) →
    ∃ (v0 : (c : Dev Cert.WinIdeal.nD) → Buf (Elt Ideal) ((c.tc : Thread Cert.WinIdeal.nD Cert.WinIdeal.τ).loc Cert.WinIdeal.main_v2)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v2) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v4) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1))

def preserves_MixDh_MixDhIdeal : Prop :=
  True

def algebraic_MixDhIdeal_MixDhRefIdeal [hMixDhIdeal : Cert.MixDhIdeal.Facts] [hMixDhRefIdeal : Cert.MixDhRefIdeal.Facts] : Prop :=
  ∀ (m : (ℓ : Loc Cert.MixDhIdeal.nD Cert.MixDhIdeal.τ Cert.MixDhIdeal.sig) → Buf (Elt Ideal) ℓ) (g : Dev Cert.MixDhIdeal.nD → PrngReg)
    (m' : (ℓ : Loc Cert.MixDhRefIdeal.nD Cert.MixDhRefIdeal.τ Cert.MixDhRefIdeal.sig) → Buf (Elt Ideal) ℓ) (g' : Dev Cert.MixDhRefIdeal.nD → PrngReg), Pre_MixDhIdeal m →
    (∀ c : Dev Cert.MixDhIdeal.nD,
      m' ((c.tc : Thread Cert.MixDhRefIdeal.nD Cert.MixDhRefIdeal.τ).loc Cert.MixDhRefIdeal.main_arg0) = m ((c.tc : Thread Cert.MixDhIdeal.nD Cert.MixDhIdeal.τ).loc Cert.MixDhIdeal.main_arg0)
      ∧ m' ((c.tc : Thread Cert.MixDhRefIdeal.nD Cert.MixDhRefIdeal.τ).loc Cert.MixDhRefIdeal.main_arg1) = m ((c.tc : Thread Cert.MixDhIdeal.nD Cert.MixDhIdeal.τ).loc Cert.MixDhIdeal.main_arg1)) →
    ∃ (v0 : (c : Dev Cert.MixDhIdeal.nD) → Buf (Elt Ideal) ((c.tc : Thread Cert.MixDhIdeal.nD Cert.MixDhIdeal.τ).loc Cert.MixDhIdeal.main_v3)),
      θ_run (Cert.MixDhIdeal.defs (F := Ideal)) (onTc (τ := Cert.MixDhIdeal.τ) (Cert.MixDhIdeal.main (F := Ideal))) ⟨m, fun _ => 0, g⟩ (fun r => ∀ c : Dev Cert.MixDhIdeal.nD,
          r.2.mem ((c.tc : Thread Cert.MixDhIdeal.nD Cert.MixDhIdeal.τ).loc Cert.MixDhIdeal.main_v3) = v0 c
          ∧ r.2.mem ((c.tc : Thread Cert.MixDhIdeal.nD Cert.MixDhIdeal.τ).loc Cert.MixDhIdeal.main_arg0) = m ((c.tc : Thread Cert.MixDhIdeal.nD Cert.MixDhIdeal.τ).loc Cert.MixDhIdeal.main_arg0)
          ∧ r.2.mem ((c.tc : Thread Cert.MixDhIdeal.nD Cert.MixDhIdeal.τ).loc Cert.MixDhIdeal.main_arg1) = m ((c.tc : Thread Cert.MixDhIdeal.nD Cert.MixDhIdeal.τ).loc Cert.MixDhIdeal.main_arg1))
      ∧ θ_run (Cert.MixDhRefIdeal.defs (F := Ideal)) (onTc (τ := Cert.MixDhRefIdeal.τ) (Cert.MixDhRefIdeal.main (F := Ideal))) ⟨m', fun _ => 0, g'⟩ (fun r => ∀ c : Dev Cert.MixDhRefIdeal.nD,
          r.2.mem ((c.tc : Thread Cert.MixDhRefIdeal.nD Cert.MixDhRefIdeal.τ).loc Cert.MixDhRefIdeal.main_v2) = v0 c
          ∧ r.2.mem ((c.tc : Thread Cert.MixDhRefIdeal.nD Cert.MixDhRefIdeal.τ).loc Cert.MixDhRefIdeal.main_arg0) = m' ((c.tc : Thread Cert.MixDhRefIdeal.nD Cert.MixDhRefIdeal.τ).loc Cert.MixDhRefIdeal.main_arg0)
          ∧ r.2.mem ((c.tc : Thread Cert.MixDhRefIdeal.nD Cert.MixDhRefIdeal.τ).loc Cert.MixDhRefIdeal.main_arg1) = m' ((c.tc : Thread Cert.MixDhRefIdeal.nD Cert.MixDhRefIdeal.τ).loc Cert.MixDhRefIdeal.main_arg1))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)) →
    ∃ (v0 : (c : Dev Cert.MixOutIdeal.nD) → Buf (Elt Ideal) ((c.tc : Thread Cert.MixOutIdeal.nD Cert.MixOutIdeal.τ).loc Cert.MixOutIdeal.main_v2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v2) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v0) = v0 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1))

def preserves_ProjSwa_ProjSwaIdeal : Prop :=
  True

def algebraic_ProjSwaIdeal_ProjSwaRefIdeal [hProjSwaIdeal : Cert.ProjSwaIdeal.Facts] [hProjSwaRefIdeal : Cert.ProjSwaRefIdeal.Facts] : Prop :=
  ∀ (m : (ℓ : Loc Cert.ProjSwaIdeal.nD Cert.ProjSwaIdeal.τ Cert.ProjSwaIdeal.sig) → Buf (Elt Ideal) ℓ) (g : Dev Cert.ProjSwaIdeal.nD → PrngReg)
    (m' : (ℓ : Loc Cert.ProjSwaRefIdeal.nD Cert.ProjSwaRefIdeal.τ Cert.ProjSwaRefIdeal.sig) → Buf (Elt Ideal) ℓ) (g' : Dev Cert.ProjSwaRefIdeal.nD → PrngReg), Pre_ProjSwaIdeal m →
    (∀ c : Dev Cert.ProjSwaIdeal.nD,
      m' ((c.tc : Thread Cert.ProjSwaRefIdeal.nD Cert.ProjSwaRefIdeal.τ).loc Cert.ProjSwaRefIdeal.main_arg0) = m ((c.tc : Thread Cert.ProjSwaIdeal.nD Cert.ProjSwaIdeal.τ).loc Cert.ProjSwaIdeal.main_arg0)
      ∧ m' ((c.tc : Thread Cert.ProjSwaRefIdeal.nD Cert.ProjSwaRefIdeal.τ).loc Cert.ProjSwaRefIdeal.main_arg1) = m ((c.tc : Thread Cert.ProjSwaIdeal.nD Cert.ProjSwaIdeal.τ).loc Cert.ProjSwaIdeal.main_arg1)) →
    ∃ (v0 : (c : Dev Cert.ProjSwaIdeal.nD) → Buf (Elt Ideal) ((c.tc : Thread Cert.ProjSwaIdeal.nD Cert.ProjSwaIdeal.τ).loc Cert.ProjSwaIdeal.main_v3)),
      θ_run (Cert.ProjSwaIdeal.defs (F := Ideal)) (onTc (τ := Cert.ProjSwaIdeal.τ) (Cert.ProjSwaIdeal.main (F := Ideal))) ⟨m, fun _ => 0, g⟩ (fun r => ∀ c : Dev Cert.ProjSwaIdeal.nD,
          r.2.mem ((c.tc : Thread Cert.ProjSwaIdeal.nD Cert.ProjSwaIdeal.τ).loc Cert.ProjSwaIdeal.main_v3) = v0 c
          ∧ r.2.mem ((c.tc : Thread Cert.ProjSwaIdeal.nD Cert.ProjSwaIdeal.τ).loc Cert.ProjSwaIdeal.main_arg0) = m ((c.tc : Thread Cert.ProjSwaIdeal.nD Cert.ProjSwaIdeal.τ).loc Cert.ProjSwaIdeal.main_arg0)
          ∧ r.2.mem ((c.tc : Thread Cert.ProjSwaIdeal.nD Cert.ProjSwaIdeal.τ).loc Cert.ProjSwaIdeal.main_arg1) = m ((c.tc : Thread Cert.ProjSwaIdeal.nD Cert.ProjSwaIdeal.τ).loc Cert.ProjSwaIdeal.main_arg1))
      ∧ θ_run (Cert.ProjSwaRefIdeal.defs (F := Ideal)) (onTc (τ := Cert.ProjSwaRefIdeal.τ) (Cert.ProjSwaRefIdeal.main (F := Ideal))) ⟨m', fun _ => 0, g'⟩ (fun r => ∀ c : Dev Cert.ProjSwaRefIdeal.nD,
          r.2.mem ((c.tc : Thread Cert.ProjSwaRefIdeal.nD Cert.ProjSwaRefIdeal.τ).loc Cert.ProjSwaRefIdeal.main_v1) = v0 c
          ∧ r.2.mem ((c.tc : Thread Cert.ProjSwaRefIdeal.nD Cert.ProjSwaRefIdeal.τ).loc Cert.ProjSwaRefIdeal.main_arg0) = m' ((c.tc : Thread Cert.ProjSwaRefIdeal.nD Cert.ProjSwaRefIdeal.τ).loc Cert.ProjSwaRefIdeal.main_arg0)
          ∧ r.2.mem ((c.tc : Thread Cert.ProjSwaRefIdeal.nD Cert.ProjSwaRefIdeal.τ).loc Cert.ProjSwaRefIdeal.main_arg1) = m' ((c.tc : Thread Cert.ProjSwaRefIdeal.nD Cert.ProjSwaRefIdeal.τ).loc Cert.ProjSwaRefIdeal.main_arg1))

def preserves_ProjMla_ProjMlaIdeal : Prop :=
  True

def algebraic_ProjMlaIdeal_ProjMlaRefIdeal [hProjMlaIdeal : Cert.ProjMlaIdeal.Facts] [hProjMlaRefIdeal : Cert.ProjMlaRefIdeal.Facts] : Prop :=
  ∀ (m : (ℓ : Loc Cert.ProjMlaIdeal.nD Cert.ProjMlaIdeal.τ Cert.ProjMlaIdeal.sig) → Buf (Elt Ideal) ℓ) (g : Dev Cert.ProjMlaIdeal.nD → PrngReg)
    (m' : (ℓ : Loc Cert.ProjMlaRefIdeal.nD Cert.ProjMlaRefIdeal.τ Cert.ProjMlaRefIdeal.sig) → Buf (Elt Ideal) ℓ) (g' : Dev Cert.ProjMlaRefIdeal.nD → PrngReg), Pre_ProjMlaIdeal m →
    (∀ c : Dev Cert.ProjMlaIdeal.nD,
      m' ((c.tc : Thread Cert.ProjMlaRefIdeal.nD Cert.ProjMlaRefIdeal.τ).loc Cert.ProjMlaRefIdeal.main_arg0) = m ((c.tc : Thread Cert.ProjMlaIdeal.nD Cert.ProjMlaIdeal.τ).loc Cert.ProjMlaIdeal.main_arg0)
      ∧ m' ((c.tc : Thread Cert.ProjMlaRefIdeal.nD Cert.ProjMlaRefIdeal.τ).loc Cert.ProjMlaRefIdeal.main_arg1) = m ((c.tc : Thread Cert.ProjMlaIdeal.nD Cert.ProjMlaIdeal.τ).loc Cert.ProjMlaIdeal.main_arg1)) →
    ∃ (v0 : (c : Dev Cert.ProjMlaIdeal.nD) → Buf (Elt Ideal) ((c.tc : Thread Cert.ProjMlaIdeal.nD Cert.ProjMlaIdeal.τ).loc Cert.ProjMlaIdeal.main_v3)),
      θ_run (Cert.ProjMlaIdeal.defs (F := Ideal)) (onTc (τ := Cert.ProjMlaIdeal.τ) (Cert.ProjMlaIdeal.main (F := Ideal))) ⟨m, fun _ => 0, g⟩ (fun r => ∀ c : Dev Cert.ProjMlaIdeal.nD,
          r.2.mem ((c.tc : Thread Cert.ProjMlaIdeal.nD Cert.ProjMlaIdeal.τ).loc Cert.ProjMlaIdeal.main_v3) = v0 c
          ∧ r.2.mem ((c.tc : Thread Cert.ProjMlaIdeal.nD Cert.ProjMlaIdeal.τ).loc Cert.ProjMlaIdeal.main_arg0) = m ((c.tc : Thread Cert.ProjMlaIdeal.nD Cert.ProjMlaIdeal.τ).loc Cert.ProjMlaIdeal.main_arg0)
          ∧ r.2.mem ((c.tc : Thread Cert.ProjMlaIdeal.nD Cert.ProjMlaIdeal.τ).loc Cert.ProjMlaIdeal.main_arg1) = m ((c.tc : Thread Cert.ProjMlaIdeal.nD Cert.ProjMlaIdeal.τ).loc Cert.ProjMlaIdeal.main_arg1))
      ∧ θ_run (Cert.ProjMlaRefIdeal.defs (F := Ideal)) (onTc (τ := Cert.ProjMlaRefIdeal.τ) (Cert.ProjMlaRefIdeal.main (F := Ideal))) ⟨m', fun _ => 0, g'⟩ (fun r => ∀ c : Dev Cert.ProjMlaRefIdeal.nD,
          r.2.mem ((c.tc : Thread Cert.ProjMlaRefIdeal.nD Cert.ProjMlaRefIdeal.τ).loc Cert.ProjMlaRefIdeal.main_v0) = v0 c
          ∧ r.2.mem ((c.tc : Thread Cert.ProjMlaRefIdeal.nD Cert.ProjMlaRefIdeal.τ).loc Cert.ProjMlaRefIdeal.main_arg0) = m' ((c.tc : Thread Cert.ProjMlaRefIdeal.nD Cert.ProjMlaRefIdeal.τ).loc Cert.ProjMlaRefIdeal.main_arg0)
          ∧ r.2.mem ((c.tc : Thread Cert.ProjMlaRefIdeal.nD Cert.ProjMlaRefIdeal.τ).loc Cert.ProjMlaRefIdeal.main_arg1) = m' ((c.tc : Thread Cert.ProjMlaRefIdeal.nD Cert.ProjMlaRefIdeal.τ).loc Cert.ProjMlaRefIdeal.main_arg1))

def preserves_Norm_NormIdeal : Prop :=
  True

def preserves_SwaFwd_SwaFwdIdeal : Prop :=
  True

def algebraic_SwaFwdIdeal_SwaFwdRefIdeal_pre_finite_swafwd [hSwaFwdIdeal : Cert.SwaFwdIdeal.Facts] [hSwaFwdRefIdeal : Cert.SwaFwdRefIdeal.Facts] [hPre_finite_swafwd : Cert.Pre_finite_swafwd.Facts] : Prop :=
  ∀ (m : (ℓ : Loc Cert.SwaFwdIdeal.nD Cert.SwaFwdIdeal.τ Cert.SwaFwdIdeal.sig) → Buf (Elt Ideal) ℓ) (g : Dev Cert.SwaFwdIdeal.nD → PrngReg)
    (m' : (ℓ : Loc Cert.SwaFwdRefIdeal.nD Cert.SwaFwdRefIdeal.τ Cert.SwaFwdRefIdeal.sig) → Buf (Elt Ideal) ℓ) (g' : Dev Cert.SwaFwdRefIdeal.nD → PrngReg), Pre_SwaFwdIdeal_finite_swafwd m →
    (∀ c : Dev Cert.SwaFwdIdeal.nD,
      m' ((c.tc : Thread Cert.SwaFwdRefIdeal.nD Cert.SwaFwdRefIdeal.τ).loc Cert.SwaFwdRefIdeal.main_arg0) = m ((c.tc : Thread Cert.SwaFwdIdeal.nD Cert.SwaFwdIdeal.τ).loc Cert.SwaFwdIdeal.main_arg0)
      ∧ m' ((c.tc : Thread Cert.SwaFwdRefIdeal.nD Cert.SwaFwdRefIdeal.τ).loc Cert.SwaFwdRefIdeal.main_arg1) = m ((c.tc : Thread Cert.SwaFwdIdeal.nD Cert.SwaFwdIdeal.τ).loc Cert.SwaFwdIdeal.main_arg1)
      ∧ m' ((c.tc : Thread Cert.SwaFwdRefIdeal.nD Cert.SwaFwdRefIdeal.τ).loc Cert.SwaFwdRefIdeal.main_arg2) = m ((c.tc : Thread Cert.SwaFwdIdeal.nD Cert.SwaFwdIdeal.τ).loc Cert.SwaFwdIdeal.main_arg2)) →
    ∃ (v0 : (c : Dev Cert.SwaFwdIdeal.nD) → Buf (Elt Ideal) ((c.tc : Thread Cert.SwaFwdIdeal.nD Cert.SwaFwdIdeal.τ).loc Cert.SwaFwdIdeal.main_v3_0)) (v1 : (c : Dev Cert.SwaFwdIdeal.nD) → Buf (Elt Ideal) ((c.tc : Thread Cert.SwaFwdIdeal.nD Cert.SwaFwdIdeal.τ).loc Cert.SwaFwdIdeal.main_v3_1)),
      θ_run (Cert.SwaFwdIdeal.defs (F := Ideal)) (onTc (τ := Cert.SwaFwdIdeal.τ) (Cert.SwaFwdIdeal.main (F := Ideal))) ⟨m, fun _ => 0, g⟩ (fun r => ∀ c : Dev Cert.SwaFwdIdeal.nD,
          r.2.mem ((c.tc : Thread Cert.SwaFwdIdeal.nD Cert.SwaFwdIdeal.τ).loc Cert.SwaFwdIdeal.main_v3_0) = v0 c
          ∧ r.2.mem ((c.tc : Thread Cert.SwaFwdIdeal.nD Cert.SwaFwdIdeal.τ).loc Cert.SwaFwdIdeal.main_v3_1) = v1 c
          ∧ r.2.mem ((c.tc : Thread Cert.SwaFwdIdeal.nD Cert.SwaFwdIdeal.τ).loc Cert.SwaFwdIdeal.main_arg0) = m ((c.tc : Thread Cert.SwaFwdIdeal.nD Cert.SwaFwdIdeal.τ).loc Cert.SwaFwdIdeal.main_arg0)
          ∧ r.2.mem ((c.tc : Thread Cert.SwaFwdIdeal.nD Cert.SwaFwdIdeal.τ).loc Cert.SwaFwdIdeal.main_arg1) = m ((c.tc : Thread Cert.SwaFwdIdeal.nD Cert.SwaFwdIdeal.τ).loc Cert.SwaFwdIdeal.main_arg1)
          ∧ r.2.mem ((c.tc : Thread Cert.SwaFwdIdeal.nD Cert.SwaFwdIdeal.τ).loc Cert.SwaFwdIdeal.main_arg2) = m ((c.tc : Thread Cert.SwaFwdIdeal.nD Cert.SwaFwdIdeal.τ).loc Cert.SwaFwdIdeal.main_arg2))
      ∧ θ_run (Cert.SwaFwdRefIdeal.defs (F := Ideal)) (onTc (τ := Cert.SwaFwdRefIdeal.τ) (Cert.SwaFwdRefIdeal.main (F := Ideal))) ⟨m', fun _ => 0, g'⟩ (fun r => ∀ c : Dev Cert.SwaFwdRefIdeal.nD,
          r.2.mem ((c.tc : Thread Cert.SwaFwdRefIdeal.nD Cert.SwaFwdRefIdeal.τ).loc Cert.SwaFwdRefIdeal.main_v83) = v0 c
          ∧ r.2.mem ((c.tc : Thread Cert.SwaFwdRefIdeal.nD Cert.SwaFwdRefIdeal.τ).loc Cert.SwaFwdRefIdeal.main_v85) = v1 c
          ∧ r.2.mem ((c.tc : Thread Cert.SwaFwdRefIdeal.nD Cert.SwaFwdRefIdeal.τ).loc Cert.SwaFwdRefIdeal.main_arg0) = m' ((c.tc : Thread Cert.SwaFwdRefIdeal.nD Cert.SwaFwdRefIdeal.τ).loc Cert.SwaFwdRefIdeal.main_arg0)
          ∧ r.2.mem ((c.tc : Thread Cert.SwaFwdRefIdeal.nD Cert.SwaFwdRefIdeal.τ).loc Cert.SwaFwdRefIdeal.main_arg1) = m' ((c.tc : Thread Cert.SwaFwdRefIdeal.nD Cert.SwaFwdRefIdeal.τ).loc Cert.SwaFwdRefIdeal.main_arg1)
          ∧ r.2.mem ((c.tc : Thread Cert.SwaFwdRefIdeal.nD Cert.SwaFwdRefIdeal.τ).loc Cert.SwaFwdRefIdeal.main_arg2) = m' ((c.tc : Thread Cert.SwaFwdRefIdeal.nD Cert.SwaFwdRefIdeal.τ).loc Cert.SwaFwdRefIdeal.main_arg2))

def preserves_Swa_SwaIdeal : Prop :=
  True

def Claim : Prop :=
  ∃ (hGate : Cert.Gate.Facts) (hGateIdeal : Cert.GateIdeal.Facts) (hGateRefIdeal : Cert.GateRefIdeal.Facts) (hGate2 : Cert.Gate2.Facts) (hGate2Ideal : Cert.Gate2Ideal.Facts) (hWdown : Cert.Wdown.Facts) (hWdownIdeal : Cert.WdownIdeal.Facts) (hWdownRefIdeal : Cert.WdownRefIdeal.Facts) (hWgu : Cert.Wgu.Facts) (hWguIdeal : Cert.WguIdeal.Facts) (hWguRefIdeal : Cert.WguRefIdeal.Facts) (hDh : Cert.Dh.Facts) (hDhIdeal : Cert.DhIdeal.Facts) (hDhRefIdeal : Cert.DhRefIdeal.Facts) (hDh2 : Cert.Dh2.Facts) (hDh2Ideal : Cert.Dh2Ideal.Facts) (hGateUp : Cert.GateUp.Facts) (hGateUpIdeal : Cert.GateUpIdeal.Facts) (hGateUpRefIdeal : Cert.GateUpRefIdeal.Facts) (hGateUp2 : Cert.GateUp2.Facts) (hGateUp2Ideal : Cert.GateUp2Ideal.Facts) (hDown : Cert.Down.Facts) (hDownIdeal : Cert.DownIdeal.Facts) (hDownRefIdeal : Cert.DownRefIdeal.Facts) (hDown2 : Cert.Down2.Facts) (hDown2Ideal : Cert.Down2Ideal.Facts) (hWo : Cert.Wo.Facts) (hWoIdeal : Cert.WoIdeal.Facts) (hWoRefIdeal : Cert.WoRefIdeal.Facts) (hDcat : Cert.Dcat.Facts) (hDcatIdeal : Cert.DcatIdeal.Facts) (hDcatRefIdeal : Cert.DcatRefIdeal.Facts) (hWin : Cert.Win.Facts) (hWinIdeal : Cert.WinIdeal.Facts) (hWinRefIdeal : Cert.WinRefIdeal.Facts) (hMixDh : Cert.MixDh.Facts) (hMixDhIdeal : Cert.MixDhIdeal.Facts) (hMixDhRefIdeal : Cert.MixDhRefIdeal.Facts) (hMixOut : Cert.MixOut.Facts) (hMixOutIdeal : Cert.MixOutIdeal.Facts) (hMixOutRefIdeal : Cert.MixOutRefIdeal.Facts) (hProjSwa : Cert.ProjSwa.Facts) (hProjSwaIdeal : Cert.ProjSwaIdeal.Facts) (hProjSwaRefIdeal : Cert.ProjSwaRefIdeal.Facts) (hProjMla : Cert.ProjMla.Facts) (hProjMlaIdeal : Cert.ProjMlaIdeal.Facts) (hProjMlaRefIdeal : Cert.ProjMlaRefIdeal.Facts) (hNorm : Cert.Norm.Facts) (hNormIdeal : Cert.NormIdeal.Facts) (hNormRefIdeal : Cert.NormRefIdeal.Facts) (hSwaFwd : Cert.SwaFwd.Facts) (hSwaFwdIdeal : Cert.SwaFwdIdeal.Facts) (hSwaFwdRefIdeal : Cert.SwaFwdRefIdeal.Facts) (hSwa : Cert.Swa.Facts) (hSwaIdeal : Cert.SwaIdeal.Facts) (hPre_finite_gate : Cert.Pre_finite_gate.Facts) (hPre_finite_swafwd : Cert.Pre_finite_swafwd.Facts),
    quiescent_Gate (hGate := hGate)
    ∧ quiescent_GateIdeal (hGateIdeal := hGateIdeal)
    ∧ quiescent_GateIdeal_pre_finite_gate (hGateIdeal := hGateIdeal) (hPre_finite_gate := hPre_finite_gate)
    ∧ quiescent_GateRefIdeal (hGateRefIdeal := hGateRefIdeal)
    ∧ quiescent_GateRefIdeal_pre_finite_gate (hGateRefIdeal := hGateRefIdeal) (hPre_finite_gate := hPre_finite_gate)
    ∧ quiescent_Gate2 (hGate2 := hGate2)
    ∧ quiescent_Gate2Ideal (hGate2Ideal := hGate2Ideal)
    ∧ quiescent_Gate2Ideal_pre_finite_gate (hGate2Ideal := hGate2Ideal) (hPre_finite_gate := hPre_finite_gate)
    ∧ quiescent_Wdown (hWdown := hWdown)
    ∧ quiescent_WdownIdeal (hWdownIdeal := hWdownIdeal)
    ∧ quiescent_WdownRefIdeal (hWdownRefIdeal := hWdownRefIdeal)
    ∧ quiescent_Wgu (hWgu := hWgu)
    ∧ quiescent_WguIdeal (hWguIdeal := hWguIdeal)
    ∧ quiescent_WguRefIdeal (hWguRefIdeal := hWguRefIdeal)
    ∧ quiescent_Dh (hDh := hDh)
    ∧ quiescent_DhIdeal (hDhIdeal := hDhIdeal)
    ∧ quiescent_DhRefIdeal (hDhRefIdeal := hDhRefIdeal)
    ∧ quiescent_Dh2 (hDh2 := hDh2)
    ∧ quiescent_Dh2Ideal (hDh2Ideal := hDh2Ideal)
    ∧ quiescent_GateUp (hGateUp := hGateUp)
    ∧ quiescent_GateUpIdeal (hGateUpIdeal := hGateUpIdeal)
    ∧ quiescent_GateUpRefIdeal (hGateUpRefIdeal := hGateUpRefIdeal)
    ∧ quiescent_GateUp2 (hGateUp2 := hGateUp2)
    ∧ quiescent_GateUp2Ideal (hGateUp2Ideal := hGateUp2Ideal)
    ∧ quiescent_Down (hDown := hDown)
    ∧ quiescent_DownIdeal (hDownIdeal := hDownIdeal)
    ∧ quiescent_DownRefIdeal (hDownRefIdeal := hDownRefIdeal)
    ∧ quiescent_Down2 (hDown2 := hDown2)
    ∧ quiescent_Down2Ideal (hDown2Ideal := hDown2Ideal)
    ∧ quiescent_Wo (hWo := hWo)
    ∧ quiescent_WoIdeal (hWoIdeal := hWoIdeal)
    ∧ quiescent_WoRefIdeal (hWoRefIdeal := hWoRefIdeal)
    ∧ quiescent_Dcat (hDcat := hDcat)
    ∧ quiescent_DcatIdeal (hDcatIdeal := hDcatIdeal)
    ∧ quiescent_DcatRefIdeal (hDcatRefIdeal := hDcatRefIdeal)
    ∧ quiescent_Win (hWin := hWin)
    ∧ quiescent_WinIdeal (hWinIdeal := hWinIdeal)
    ∧ quiescent_WinRefIdeal (hWinRefIdeal := hWinRefIdeal)
    ∧ quiescent_MixDh (hMixDh := hMixDh)
    ∧ quiescent_MixDhIdeal (hMixDhIdeal := hMixDhIdeal)
    ∧ quiescent_MixDhRefIdeal (hMixDhRefIdeal := hMixDhRefIdeal)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_ProjSwa (hProjSwa := hProjSwa)
    ∧ quiescent_ProjSwaIdeal (hProjSwaIdeal := hProjSwaIdeal)
    ∧ quiescent_ProjSwaRefIdeal (hProjSwaRefIdeal := hProjSwaRefIdeal)
    ∧ quiescent_ProjMla (hProjMla := hProjMla)
    ∧ quiescent_ProjMlaIdeal (hProjMlaIdeal := hProjMlaIdeal)
    ∧ quiescent_ProjMlaRefIdeal (hProjMlaRefIdeal := hProjMlaRefIdeal)
    ∧ quiescent_Norm (hNorm := hNorm)
    ∧ quiescent_NormIdeal (hNormIdeal := hNormIdeal)
    ∧ quiescent_NormRefIdeal (hNormRefIdeal := hNormRefIdeal)
    ∧ quiescent_SwaFwd (hSwaFwd := hSwaFwd)
    ∧ quiescent_SwaFwdIdeal (hSwaFwdIdeal := hSwaFwdIdeal)
    ∧ quiescent_SwaFwdIdeal_pre_finite_swafwd (hSwaFwdIdeal := hSwaFwdIdeal) (hPre_finite_swafwd := hPre_finite_swafwd)
    ∧ quiescent_SwaFwdRefIdeal (hSwaFwdRefIdeal := hSwaFwdRefIdeal)
    ∧ quiescent_SwaFwdRefIdeal_pre_finite_swafwd (hSwaFwdRefIdeal := hSwaFwdRefIdeal) (hPre_finite_swafwd := hPre_finite_swafwd)
    ∧ quiescent_Swa (hSwa := hSwa)
    ∧ quiescent_SwaIdeal (hSwaIdeal := hSwaIdeal)
    ∧ preserves_Gate_GateIdeal
    ∧ algebraic_GateIdeal_GateRefIdeal_pre_finite_gate (hGateIdeal := hGateIdeal) (hGateRefIdeal := hGateRefIdeal) (hPre_finite_gate := hPre_finite_gate)
    ∧ preserves_Gate2_Gate2Ideal
    ∧ algebraic_Gate2Ideal_GateRefIdeal_pre_finite_gate (hGate2Ideal := hGate2Ideal) (hGateRefIdeal := hGateRefIdeal) (hPre_finite_gate := hPre_finite_gate)
    ∧ preserves_Wdown_WdownIdeal
    ∧ algebraic_WdownIdeal_WdownRefIdeal (hWdownIdeal := hWdownIdeal) (hWdownRefIdeal := hWdownRefIdeal)
    ∧ preserves_Wgu_WguIdeal
    ∧ algebraic_WguIdeal_WguRefIdeal (hWguIdeal := hWguIdeal) (hWguRefIdeal := hWguRefIdeal)
    ∧ preserves_Dh_DhIdeal
    ∧ algebraic_DhIdeal_DhRefIdeal (hDhIdeal := hDhIdeal) (hDhRefIdeal := hDhRefIdeal)
    ∧ preserves_Dh2_Dh2Ideal
    ∧ algebraic_Dh2Ideal_DhRefIdeal (hDh2Ideal := hDh2Ideal) (hDhRefIdeal := hDhRefIdeal)
    ∧ preserves_GateUp_GateUpIdeal
    ∧ algebraic_GateUpIdeal_GateUpRefIdeal (hGateUpIdeal := hGateUpIdeal) (hGateUpRefIdeal := hGateUpRefIdeal)
    ∧ preserves_GateUp2_GateUp2Ideal
    ∧ algebraic_GateUp2Ideal_GateUpRefIdeal (hGateUp2Ideal := hGateUp2Ideal) (hGateUpRefIdeal := hGateUpRefIdeal)
    ∧ preserves_Down_DownIdeal
    ∧ algebraic_DownIdeal_DownRefIdeal (hDownIdeal := hDownIdeal) (hDownRefIdeal := hDownRefIdeal)
    ∧ preserves_Down2_Down2Ideal
    ∧ algebraic_Down2Ideal_DownRefIdeal (hDown2Ideal := hDown2Ideal) (hDownRefIdeal := hDownRefIdeal)
    ∧ preserves_Wo_WoIdeal
    ∧ algebraic_WoIdeal_WoRefIdeal (hWoIdeal := hWoIdeal) (hWoRefIdeal := hWoRefIdeal)
    ∧ preserves_Dcat_DcatIdeal
    ∧ algebraic_DcatIdeal_DcatRefIdeal (hDcatIdeal := hDcatIdeal) (hDcatRefIdeal := hDcatRefIdeal)
    ∧ preserves_Win_WinIdeal
    ∧ algebraic_WinIdeal_WinRefIdeal (hWinIdeal := hWinIdeal) (hWinRefIdeal := hWinRefIdeal)
    ∧ preserves_MixDh_MixDhIdeal
    ∧ algebraic_MixDhIdeal_MixDhRefIdeal (hMixDhIdeal := hMixDhIdeal) (hMixDhRefIdeal := hMixDhRefIdeal)
    ∧ preserves_MixOut_MixOutIdeal
    ∧ algebraic_MixOutIdeal_MixOutRefIdeal (hMixOutIdeal := hMixOutIdeal) (hMixOutRefIdeal := hMixOutRefIdeal)
    ∧ preserves_ProjSwa_ProjSwaIdeal
    ∧ algebraic_ProjSwaIdeal_ProjSwaRefIdeal (hProjSwaIdeal := hProjSwaIdeal) (hProjSwaRefIdeal := hProjSwaRefIdeal)
    ∧ preserves_ProjMla_ProjMlaIdeal
    ∧ algebraic_ProjMlaIdeal_ProjMlaRefIdeal (hProjMlaIdeal := hProjMlaIdeal) (hProjMlaRefIdeal := hProjMlaRefIdeal)
    ∧ preserves_Norm_NormIdeal
    ∧ preserves_SwaFwd_SwaFwdIdeal
    ∧ algebraic_SwaFwdIdeal_SwaFwdRefIdeal_pre_finite_swafwd (hSwaFwdIdeal := hSwaFwdIdeal) (hSwaFwdRefIdeal := hSwaFwdRefIdeal) (hPre_finite_swafwd := hPre_finite_swafwd)
    ∧ preserves_Swa_SwaIdeal
-- ==== Pre_finite_gate.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩

class Facts : Prop where
  bcast_S_S2048x2816 : S_.BroadcastsInDim S2048x2816 (![] : Fin 0 → Fin S2048x2816.rank)
  reducesTo_S2048x2816_S_d0_1 : S2048x2816.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x2816 .f32) (main_arg1 : FVec F S2048x2816 .f32) (main_arg2 : FVec F S2816x1024 .f32) (main_arg3 : FVec F S2048x1024 .f32) : IVec S_ 1 :=
  let main_v0 : FVec F S2048x2816 .f32 := Host.absf main_arg1
  let main_cst : FVec F S_ .f32 := constant S_ .f32 0x7F800000#32
  let main_v1 : FVec F S2048x2816 .f32 := broadcastInDim S2048x2816 ![] bcast_S_S2048x2816 main_cst
  let main_v2 : IVec S2048x2816 1 := cmpf .olt main_v0 main_v1
  let main_c : IVec S_ 1 := constantI S_ 1 1#1
  let main_v3 : IVec S_ 1 := (fun x v => Host.reduce IntOp.andi x v reducesTo_S2048x2816_S_d0_1 h_S_) main_v2 main_c
  let main_v4 : FVec F S2816x1024 .f32 := Host.absf main_arg2
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  main_v13
-- ==== Pre_finite_swafwd.lean ====
abbrev S2048x768 : Shape := ⟨2, ![2048, 768]⟩
abbrev S8x128x256 : Shape := ⟨3, ![8, 128, 256]⟩
abbrev S8 : Shape := ⟨1, ![8]⟩
abbrev S_ : Shape := ⟨0, ![]⟩

class Facts : Prop where
  bcast_S_S2048x768 : S_.BroadcastsInDim S2048x768 (![] : Fin 0 → Fin S2048x768.rank)
  reducesTo_S2048x768_S_d0_1 : S2048x768.ReducesTo [0, 1] S_
  h_S_ : 0 < S_.numel
  bcast_S_S8x128x256 : S_.BroadcastsInDim S8x128x256 (![] : Fin 0 → Fin S8x128x256.rank)
  reducesTo_S8x128x256_S_d0_1_2 : S8x128x256.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S2048x768 .f32) (main_arg1 : FVec F S8x128x256 .f32) (main_arg2 : FVec F S8 .f32) : IVec S_ 1 :=
  let main_v0 : FVec F S2048x768 .f32 := Host.absf main_arg0
  let main_cst : FVec F S_ .f32 := constant S_ .f32 0x7F800000#32
  let main_v1 : FVec F S2048x768 .f32 := broadcastInDim S2048x768 ![] bcast_S_S2048x768 main_cst
  let main_v2 : IVec S2048x768 1 := cmpf .olt main_v0 main_v1
  let main_c : IVec S_ 1 := constantI S_ 1 1#1
  let main_v3 : IVec S_ 1 := (fun x v => Host.reduce IntOp.andi x v reducesTo_S2048x768_S_d0_1 h_S_) main_v2 main_c
  let main_v4 : FVec F S8x128x256 .f32 := Host.absf main_arg1
  let main_cst_0 : FVec F S_ .f32 := constant S_ .f32 0x7F800000#32
  let main_v5 : FVec F S8x128x256 .f32 := broadcastInDim S8x128x256 ![] bcast_S_S8x128x256 main_cst_0
  let main_v6 : IVec S8x128x256 1 := cmpf .olt main_v4 main_v5
  let main_c_1 : IVec S_ 1 := constantI S_ 1 1#1
  let main_v7 : IVec S_ 1 := (fun x v => Host.reduce IntOp.andi x v reducesTo_S8x128x256_S_d0_1_2 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Gate.lean ====
abbrev S2048x2816 : Shape := ⟨2, ![2048, 2816]⟩
abbrev S2816x1024 : Shape := ⟨2, ![2816, 1024]⟩
abbrev S2048x1024 : Shape := ⟨2, ![2048, 1024]⟩
abbrev S1x2048x2816 : Shape := ⟨3, ![1, 2048, 2816]⟩
abbrev S2x2048x2816 : Shape := ⟨3, ![2, 2048, 2816]⟩
abbrev S2x2048x4x704 : Shape := ⟨4, ![2, 2048, 4, 704]⟩
abbrev S4x2x2048x704 : Shape := ⟨4, ![4, 2, 2048, 704]⟩
abbrev S4x1x704x1024 : Shape := ⟨4, ![4, 1, 704, 1024]⟩
abbrev S1x1x704x1024 : Shape := ⟨4, ![1, 1, 704, 1024]⟩
abbrev S1x2x2048x704 : Shape := ⟨4, ![1, 2, 2048, 704]⟩
abbrev S704x1024 : Shape := ⟨2, ![704, 1024]⟩
abbrev S512x1024 : Shape := ⟨2, ![512, 1024]⟩
abbrev S512x704 : Shape := ⟨2, ![512, 704]⟩
abbrev S1x1x512x704 : Shape := ⟨4, ![1, 1, 512, 704]⟩

abbrev nBuf : Space → Nat
  | .hbm => 14
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x1024, .bf16⟩
  | .hbm, ⟨5, _⟩ => ⟨S1x2048x2816, .f32⟩
  | .hbm, ⟨6, _⟩ => ⟨S1x2048x2816, .f32⟩
  | .hbm, ⟨7, _⟩ => ⟨S2x2048x2816, .f32⟩
  | .hbm, ⟨8, _⟩ => ⟨S2x2048x4x704, .f32⟩
  | .hbm, ⟨9, _⟩ => ⟨S4x2x2048x704, .f32⟩
  | .hbm, ⟨10, _⟩ => ⟨S4x2x2048x704, .bf16⟩
  | .hbm, ⟨11, _⟩ => ⟨S4x1x704x1024, .f32⟩
  | .hbm, ⟨12, _⟩ => ⟨S4x1x704x1024, .bf16⟩
  | .hbm, ⟨13, _⟩ => ⟨S4x2x2048x704, .bf16⟩
  | .local _ .vmem, ⟨0, _⟩ => ⟨S2048x1024, .bf16⟩
  | .local _ .vmem, ⟨1, _⟩ => ⟨S1x1x704x1024, .bf16⟩
  | .local _ .vmem, ⟨2, _⟩ => ⟨S1x1x704x1024, .bf16⟩
  | .local _ .vmem, ⟨3, _⟩ => ⟨S1x2x2048x704, .bf16⟩
  | .local _ .vmem, ⟨4, _⟩ => ⟨S1x2x2048x704, .bf16⟩
  | .local _ .vmem, ⟨5, _⟩ => ⟨S1x2x2048x704, .bf16⟩
  | .local _ .vmem, ⟨6, _⟩ => ⟨S1x2x2048x704, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateRefIdeal.lean ====
abbrev S2048x2816 : Shape := ⟨2, ![2048, 2816]⟩
abbrev S2816x1024 : Shape := ⟨2, ![2816, 1024]⟩
abbrev S2048x1024 : Shape := ⟨2, ![2048, 1024]⟩
abbrev S_ : Shape := ⟨0, ![]⟩
abbrev S1x2048x2816 : Shape := ⟨3, ![1, 2048, 2816]⟩
abbrev S2x2048x2816 : Shape := ⟨3, ![2, 2048, 2816]⟩
abbrev S2x2048x4x704 : Shape := ⟨4, ![2, 2048, 4, 704]⟩
abbrev S4x2x2048x704 : Shape := ⟨4, ![4, 2, 2048, 704]⟩

abbrev nBuf : Space → Nat
  | .hbm => 32
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x2816, .f32⟩
  | .hbm, ⟨5, _⟩ => ⟨S2048x2816, .f32⟩
  | .hbm, ⟨6, _⟩ => ⟨S_, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x1024, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S1x2048x2816, .f32⟩
  | .hbm, ⟨27, _⟩ => ⟨S1x2048x2816, .f32⟩
  | .hbm, ⟨28, _⟩ => ⟨S2x2048x2816, .f32⟩
  | .hbm, ⟨29, _⟩ => ⟨S2x2048x4x704, .f32⟩
  | .hbm, ⟨30, _⟩ => ⟨S4x2x2048x704, .f32⟩
  | .hbm, ⟨31, _⟩ => ⟨S4x2x2048x704, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Gate2.lean ====
abbrev S2048x2816 : Shape := ⟨2, ![2048, 2816]⟩
abbrev S2816x1024 : Shape := ⟨2, ![2816, 1024]⟩
abbrev S2048x1024 : Shape := ⟨2, ![2048, 1024]⟩
abbrev S1x2048x2816 : Shape := ⟨3, ![1, 2048, 2816]⟩
abbrev S2x2048x2816 : Shape := ⟨3, ![2, 2048, 2816]⟩
abbrev S2x2048x4x704 : Shape := ⟨4, ![2, 2048, 4, 704]⟩
abbrev S4x2x2048x704 : Shape := ⟨4, ![4, 2, 2048, 704]⟩
abbrev S_ : Shape := ⟨0, ![]⟩
abbrev S4x2x704x1024 : Shape := ⟨4, ![4, 2, 704, 1024]⟩
abbrev S4x1x704x1024 : Shape := ⟨4, ![4, 1, 704, 1024]⟩
abbrev S4x3x704x1024 : Shape := ⟨4, ![4, 3, 704, 1024]⟩
abbrev S1x1x704x1024 : Shape := ⟨4, ![1, 1, 704, 1024]⟩
abbrev S1x2x2048x704 : Shape := ⟨4, ![1, 2, 2048, 704]⟩
abbrev S704x1024 : Shape := ⟨2, ![704, 1024]⟩
abbrev S512x1024 : Shape := ⟨2, ![512, 1024]⟩
abbrev S512x704 : Shape := ⟨2, ![512, 704]⟩
abbrev S1x1x512x704 : Shape := ⟨4, ![1, 1, 512, 704]⟩

abbrev nBuf : Space → Nat
  | .hbm => 17
  | .vmem => 7
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2816x1024, .f32⟩
  | .hbm, ⟨3, _⟩ => ⟨S2048x1024, .f32⟩
  | .hbm, ⟨4, _⟩ => ⟨S2048x1024, .bf16⟩
  | .hbm, ⟨5, _⟩ => ⟨S1x2048x2816, .f32⟩
  | .hbm, ⟨6, _⟩ => ⟨S1x2048x2816, .f32⟩
  | .hbm, ⟨7, _⟩ => ⟨S2x2048x2816, .f32⟩
  | .hbm, ⟨8, _⟩ => ⟨S2x2048x4x704, .f32⟩
  | .hbm, ⟨9, _⟩ => ⟨S4x2x2048x704, .f32⟩
  | .hbm, ⟨10, _⟩ => ⟨S4x2x2048x704, .bf16⟩
  | .hbm, ⟨11, _⟩ => ⟨S_, .bf16⟩
  | .hbm, ⟨12, _⟩ => ⟨S4x2x704x1024, .bf16⟩
  | .hbm, ⟨13, _⟩ => ⟨S4x1x704x1024, .f32⟩
  | .hbm, ⟨14, _⟩ => ⟨S4x1x704x1024, .bf16⟩
  | .hbm, ⟨15, _⟩ => ⟨S4x3x704x1024, .bf16⟩
  | .hbm, ⟨16, _⟩ => ⟨S4x2x2048x704, .bf16⟩
  | .local _ .vmem, ⟨0, _⟩ => ⟨S2048x1024, .bf16⟩
  | .local _ .vmem, ⟨1, _⟩ => ⟨S1x1x704x1024, .bf16⟩
  | .local _ .vmem, ⟨2, _⟩ => ⟨S1x1x704x1024, .bf16⟩
  | .local _ .vmem, ⟨3, _⟩ => ⟨S1x2x2048x704, .bf16⟩
  | .local _ .vmem, ⟨4, _⟩ => ⟨S1x2x2048x704, .bf16⟩
  | .local _ .vmem, ⟨5, _⟩ => ⟨S1x2x2048x704, .bf16⟩
  | .local _ .vmem, ⟨6, _⟩ => ⟨S1x2x2048x704, .bf16⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg1.toNat, c2_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Wdown.lean ====
abbrev S2048x2816 : Shape := ⟨2, ![2048, 2816]⟩
abbrev S2048x1024 : Shape := ⟨2, ![2048, 1024]⟩
abbrev S2048x4x704 : Shape := ⟨3, ![2048, 4, 704]⟩
abbrev S4x2048x704 : Shape := ⟨3, ![4, 2048, 704]⟩
abbrev S4x1x704x1024 : Shape := ⟨4, ![4, 1, 704, 1024]⟩
abbrev S1x2048x704 : Shape := ⟨3, ![1, 2048, 704]⟩
abbrev S1x1x704x1024 : Shape := ⟨4, ![1, 1, 704, 1024]⟩
abbrev S8x128 : Shape := ⟨2, ![8, 128]⟩
abbrev S2048x704 : Shape := ⟨2, ![2048, 704]⟩
abbrev S704x1024 : Shape := ⟨2, ![704, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S2048x1024, .bf16⟩
  | .hbm, ⟨3, _⟩ => ⟨S2048x4x704, .f32⟩
  | .hbm, ⟨4, _⟩ => ⟨S4x2048x704, .f32⟩
  | .hbm, ⟨5, _⟩ => ⟨S4x2048x704, .bf16⟩
  | .hbm, ⟨6, _⟩ => ⟨S4x1x704x1024, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S8x128, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== WdownRefIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩
abbrev S4x1x704x1024 : Shape := ⟨4, ![4, 1, 704, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x1024, .f32⟩
  | .hbm, ⟨2, _⟩ => ⟨S_, .f32⟩
  | .hbm, ⟨3, _⟩ => ⟨S2816x1024, .f32⟩
  | .hbm, ⟨4, _⟩ => ⟨S2048x1024, .f32⟩
  | .hbm, ⟨5, _⟩ => ⟨S1024x2816, .f32⟩
  | .hbm, ⟨6, _⟩ => ⟨S2816x1024, .f32⟩
  | .hbm, ⟨7, _⟩ => ⟨S4x1x704x1024, .f32⟩
  | .hbm, ⟨8, _⟩ => ⟨S4x1x704x1024, .bf16⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wgu.lean ====
abbrev S2048x1024 : Shape := ⟨2, ![2048, 1024]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S2x2048x4x704 : Shape := ⟨4, ![2, 2048, 4, 704]⟩
abbrev S4x2x2048x704 : Shape := ⟨4, ![4, 2, 2048, 704]⟩
abbrev S4x2x704x1024 : Shape := ⟨4, ![4, 2, 704, 1024]⟩
abbrev S1x1x2048x704 : Shape := ⟨4, ![1, 1, 2048, 704]⟩
abbrev S1x1x704x1024 : Shape := ⟨4, ![1, 1, 704, 1024]⟩
abbrev S8x128 : Shape := ⟨2, ![8, 128]⟩
abbrev S2048x704 : Shape := ⟨2, ![2048, 704]⟩
abbrev S704x1024 : Shape := ⟨2, ![704, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S2048x1024, .bf16⟩
  | .hbm, ⟨4, _⟩ => ⟨S1x2048x2816, .f32⟩
  | .hbm, ⟨5, _⟩ => ⟨S1x2048x2816, .f32⟩
  | .hbm, ⟨6, _⟩ => ⟨S2x2048x2816, .f32⟩
  | .hbm, ⟨7, _⟩ => ⟨S2x2048x4x704, .f32⟩
  | .hbm, ⟨8, _⟩ => ⟨S4x2x2048x704, .f32⟩
  | .hbm, ⟨9, _⟩ => ⟨S4x2x2048x704, .bf16⟩
  | .hbm, ⟨10, _⟩ => ⟨S4x2x704x1024, .bf16⟩
  | .local _ .vmem, ⟨0, _⟩ => ⟨S1x1x2048x704, .bf16⟩
  | .local _ .vmem, ⟨1, _⟩ => ⟨S1x1x2048x704, .bf16⟩
  | .local _ .vmem, ⟨2, _⟩ => ⟨S2048x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg2.toNat, c0_i32_10.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg0 c4_i32_3
  let c0_i32_4 : BitVec 32 := 0#32
  let v11 : BitVec 1 := Scalar.cmpi .sgt arg0 c0_i32_4
  let v12 : BitVec 32 := Scalar.extui v11
  let c0_i32_5 : BitVec 32 := 0#32
  let v13 : BitVec 1 := Scalar.cmpi .slt arg0 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg0 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  let c0_i32_12 : BitVec 32 := 0#32
  ![v9.toNat, v26.toNat, c0_i32_10.toNat, c0_i32_11.toNat]

abbrev stage0_0 : Fin 2 → Memref sig .tc .vmem S1x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== WguRefIdeal.lean ====
abbrev S2048x1024 : Shape := ⟨2, ![2048, 1024]⟩
abbrev S2048x2816 : Shape := ⟨2, ![2048, 2816]⟩
abbrev S_ : Shape := ⟨0, ![]⟩
abbrev S1024x2816 : Shape := ⟨2, ![1024, 2816]⟩
abbrev S2816x1024 : Shape := ⟨2, ![2816, 1024]⟩
abbrev S1x2816x1024 : Shape := ⟨3, ![1, 2816, 1024]⟩
abbrev S2x2816x1024 : Shape := ⟨3, ![2, 2816, 1024]⟩
abbrev S2x4x704x1024 : Shape := ⟨4, ![2, 4, 704, 1024]⟩
abbrev S4x2x704x1024 : Shape := ⟨4, ![4, 2, 704, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x2816, .f32⟩
  | .hbm, ⟨2, _⟩ => ⟨S2048x2816, .f32⟩
  | .hbm, ⟨3, _⟩ => ⟨S_, .f32⟩
  | .hbm, ⟨4, _⟩ => ⟨S1024x2816, .f32⟩
  | .hbm, ⟨5, _⟩ => ⟨S2048x2816, .f32⟩
  | .hbm, ⟨6, _⟩ => ⟨S2048x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S1024x2816, .f32⟩
  | .hbm, ⟨11, _⟩ => ⟨S2816x1024, .f32⟩
  | .hbm, ⟨12, _⟩ => ⟨S2816x1024, .f32⟩
  | .hbm, ⟨13, _⟩ => ⟨S1x2816x1024, .f32⟩
  | .hbm, ⟨14, _⟩ => ⟨S1x2816x1024, .f32⟩
  | .hbm, ⟨15, _⟩ => ⟨S2x2816x1024, .f32⟩
  | .hbm, ⟨16, _⟩ => ⟨S2x4x704x1024, .f32⟩
  | .hbm, ⟨17, _⟩ => ⟨S4x2x704x1024, .f32⟩
  | .hbm, ⟨18, _⟩ => ⟨S4x2x704x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== Dh.lean ====
abbrev S1024x2816 : Shape := ⟨2, ![1024, 2816]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S2x2048x4x704 : Shape := ⟨4, ![2, 2048, 4, 704]⟩
abbrev S4x2x2048x704 : Shape := ⟨4, ![4, 2, 2048, 704]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x2x704x1024 : Shape := ⟨4, ![4, 2, 704, 1024]⟩
abbrev S2048x1024 : Shape := ⟨2, ![2048, 1024]⟩
abbrev S1x2x2048x704 : Shape := ⟨4, ![1, 2, 2048, 704]⟩
abbrev S1x2x704x1024 : Shape := ⟨4, ![1, 2, 704, 1024]⟩
abbrev S1x1x2048x704 : Shape := ⟨4, ![1, 1, 2048, 704]⟩
abbrev S2048x704 : Shape := ⟨2, ![2048, 704]⟩
abbrev S1x1x704x1024 : Shape := ⟨4, ![1, 1, 704, 1024]⟩
abbrev S704x1024 : Shape := ⟨2, ![704, 1024]⟩

abbrev nBuf : Space → Nat
  | .hbm => 19
  | .vmem => 6
  | .smem => 0
  | _ => 0

abbrev bufTy : (tb : Table) → Fin (tcTables nBuf tb) → BufTy
  | .hbm, ⟨0, _⟩ => ⟨S1024x2816, .f32⟩
  | .hbm, ⟨1, _⟩ => ⟨S1024x2816, .f32⟩
  | .hbm, ⟨2, _⟩ => ⟨S2048x2816, .f32⟩
  | .hbm, ⟨3, _⟩ => ⟨S2048x2816, .f32⟩
  | .hbm, ⟨4, _⟩ => ⟨S1x2048x2816, .f32⟩
  | .hbm, ⟨5, _⟩ => ⟨S1x2048x2816, .f32⟩
  | .hbm, ⟨6, _⟩ => ⟨S2x2048x2816, .f32⟩
  | .hbm, ⟨7, _⟩ => ⟨S2x2048x4x704, .f32⟩
  | .hbm, ⟨8, _⟩ => ⟨S4x2x2048x704, .f32⟩
  | .hbm, ⟨9, _⟩ => ⟨S4x2x2048x704, .bf16⟩
  | .hbm, ⟨10, _⟩ => ⟨S2816x1024, .f32⟩
  | .hbm, ⟨11, _⟩ => ⟨S4x704x1024, .f32⟩
  | .hbm, ⟨12, _⟩ => ⟨S2816x1024, .f32⟩
  | .hbm, ⟨13, _⟩ => ⟨S4x704x1024, .f32⟩
  | .hbm, ⟨14, _⟩ => ⟨S4x1x704x1024, .f32⟩
  | .hbm, ⟨15, _⟩ => ⟨S4x1x704x1024, .f32⟩
  | .hbm, ⟨16, _⟩ => ⟨S4x2x704x1024, .f32⟩
  | .hbm, ⟨17, _⟩ => ⟨S4x2x704x1024, .bf16⟩
  | .hbm, ⟨18, _⟩ => ⟨S2048x1024, .f32⟩
  | .local _ .vmem, ⟨0, _⟩ => ⟨S1x2x2048x704, .bf16⟩
  | .local _ .vmem, ⟨1, _⟩ => ⟨S1x2x2048x704, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S2048x1024, .f32⟩
  | .local _ .vmem, ⟨5, _⟩ => ⟨S2048x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_18 : BitVec 32 := 3#32
  let v19 : BitVec 1 := Scalar.cmpi .eq arg1 c3_i32_18
  let v20 : BitVec 32 := Scalar.extui v19
  let c0_i32_19 : BitVec 32 := 0#32
  let v21 : BitVec 1 := Scalar.cmpi .ne v20 c0_i32_19
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DhRefIdeal.lean ====
abbrev S1024x2816 : Shape := ⟨2, ![1024, 2816]⟩
abbrev S2048x2816 : Shape := ⟨2, ![2048, 2816]⟩
abbrev S_ : Shape := ⟨0, ![]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S1024x2816, .f32⟩
  | .hbm, ⟨1, _⟩ => ⟨S1024x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x1024, .f32⟩
  | .hbm, ⟨6, _⟩ => ⟨S2048x2816, .f32⟩
  | .hbm, ⟨7, _⟩ => ⟨S2048x2816, .f32⟩
  | .hbm, ⟨8, _⟩ => ⟨S2048x1024, .f32⟩
  | .hbm, ⟨9, _⟩ => ⟨S2048x1024, .f32⟩
  | .hbm, ⟨10, _⟩ => ⟨S2048x1024, .f32⟩
  | _, _ => ⟨S1024x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Dh2.lean ====
abbrev S1024x2816 : Shape := ⟨2, ![1024, 2816]⟩
abbrev S2048x2816 : Shape := ⟨2, ![2048, 2816]⟩
abbrev S1x2048x2816 : Shape := ⟨3, ![1, 2048, 2816]⟩
abbrev S2x2048x2816 : Shape := ⟨3, ![2, 2048, 2816]⟩
abbrev S2x2048x4x704 : Shape := ⟨4, ![2, 2048, 4, 704]⟩
abbrev S4x2x2048x704 : Shape := ⟨4, ![4, 2, 2048, 704]⟩
abbrev S_ : Shape := ⟨0, ![]⟩
abbrev S4x1x704x1024 : Shape := ⟨4, ![4, 1, 704, 1024]⟩
abbrev S2816x1024 : Shape := ⟨2, ![2816, 1024]⟩
abbrev S4x704x1024 : Shape := ⟨3, ![4, 704, 1024]⟩
abbrev S4x2x704x1024 : Shape := ⟨4, ![4, 2, 704, 1024]⟩
abbrev S4x3x704x1024 : Shape := ⟨4, ![4, 3, 704, 1024]⟩
abbrev S2048x1024 : Shape := ⟨2, ![2048, 1024]⟩
abbrev S1x2x2048x704 : Shape := ⟨4, ![1, 2, 2048, 704]⟩
abbrev S1x2x704x1024 : Shape := ⟨4, ![1, 2, 704, 1024]⟩
abbrev S1x1x2048x704 : Shape := ⟨4, ![1, 1, 2048, 704]⟩
abbrev S2048x704 : Shape := ⟨2, ![2048, 704]⟩
abbrev S1x1x704x1024 : Shape := ⟨4, ![1, 1, 704, 1024]⟩
abbrev S704x1024 : Shape := ⟨2, ![704, 1024]⟩

abbrev nBuf : Space → Nat
  | .hbm => 22
  | .vmem => 6
  | .smem => 0
  | _ => 0

abbrev bufTy : (tb : Table) → Fin (tcTables nBuf tb) → BufTy
  | .hbm, ⟨0, _⟩ => ⟨S1024x2816, .f32⟩
  | .hbm, ⟨1, _⟩ => ⟨S1024x2816, .f32⟩
  | .hbm, ⟨2, _⟩ => ⟨S2048x2816, .f32⟩
  | .hbm, ⟨3, _⟩ => ⟨S2048x2816, .f32⟩
  | .hbm, ⟨4, _⟩ => ⟨S1x2048x2816, .f32⟩
  | .hbm, ⟨5, _⟩ => ⟨S1x2048x2816, .f32⟩
  | .hbm, ⟨6, _⟩ => ⟨S2x2048x2816, .f32⟩
  | .hbm, ⟨7, _⟩ => ⟨S2x2048x4x704, .f32⟩
  | .hbm, ⟨8, _⟩ => ⟨S4x2x2048x704, .f32⟩
  | .hbm, ⟨9, _⟩ => ⟨S4x2x2048x704, .bf16⟩
  | .hbm, ⟨10, _⟩ => ⟨S_, .bf16⟩
  | .hbm, ⟨11, _⟩ => ⟨S4x1x704x1024, .bf16⟩
  | .hbm, ⟨12, _⟩ => ⟨S2816x1024, .f32⟩
  | .hbm, ⟨13, _⟩ => ⟨S4x704x1024, .f32⟩
  | .hbm, ⟨14, _⟩ => ⟨S2816x1024, .f32⟩
  | .hbm, ⟨15, _⟩ => ⟨S4x704x1024, .f32⟩
  | .hbm, ⟨16, _⟩ => ⟨S4x1x704x1024, .f32⟩
  | .hbm, ⟨17, _⟩ => ⟨S4x1x704x1024, .f32⟩
  | .hbm, ⟨18, _⟩ => ⟨S4x2x704x1024, .f32⟩
  | .hbm, ⟨19, _⟩ => ⟨S4x2x704x1024, .bf16⟩
  | .hbm, ⟨20, _⟩ => ⟨S4x3x704x1024, .bf16⟩
  | .hbm, ⟨21, _⟩ => ⟨S2048x1024, .f32⟩
  | .local _ .vmem, ⟨0, _⟩ => ⟨S1x2x2048x704, .bf16⟩
  | .local _ .vmem, ⟨1, _⟩ => ⟨S1x2x2048x704, .bf16⟩
  | .local _ .vmem, ⟨2, _⟩ => ⟨S1x2x704x1024, .bf16⟩
  | .local _ .vmem, ⟨3, _⟩ => ⟨S1x2x704x1024, .bf16⟩
  | .local _ .vmem, ⟨4, _⟩ => ⟨S2048x1024, .f32⟩
  | .local _ .vmem, ⟨5, _⟩ => ⟨S2048x1024, .f32⟩
  | _, _ => ⟨S1024x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32_18 : BitVec 32 := 3#32
  let v19 : BitVec 1 := Scalar.cmpi .eq arg1 c3_i32_18
  let v20 : BitVec 32 := Scalar.extui v19
  let c0_i32_19 : BitVec 32 := 0#32
  let v21 : BitVec 1 := Scalar.cmpi .ne v20 c0_i32_19
  v21

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x2x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== GateUp.lean ====
abbrev S2048x1024 : Shape := ⟨2, ![2048, 1024]⟩
abbrev S1024x2816 : Shape := ⟨2, ![1024, 2816]⟩
abbrev S2816x1024 : Shape := ⟨2, ![2816, 1024]⟩
abbrev S4x704x1024 : Shape := ⟨3, ![4, 704, 1024]⟩
abbrev S4x1x704x1024 : Shape := ⟨4, ![4, 1, 704, 1024]⟩
abbrev S4x2x704x1024 : Shape := ⟨4, ![4, 2, 704, 1024]⟩
abbrev S4x2x2048x704 : Shape := ⟨4, ![4, 2, 2048, 704]⟩
abbrev S4x2048x704 : Shape := ⟨3, ![4, 2048, 704]⟩
abbrev S1x1x704x1024 : Shape := ⟨4, ![1, 1, 704, 1024]⟩
abbrev S1x2x2048x704 : Shape := ⟨4, ![1, 2, 2048, 704]⟩
abbrev S1x2048x704 : Shape := ⟨3, ![1, 2048, 704]⟩
abbrev S704x1024 : Shape := ⟨2, ![704, 1024]⟩
abbrev S512x1024 : Shape := ⟨2, ![512, 1024]⟩
abbrev S512x704 : Shape := ⟨2, ![512, 704]⟩
abbrev S1x1x512x704 : Shape := ⟨4, ![1, 1, 512, 704]⟩
abbrev S1x512x704 : Shape := ⟨3, ![1, 512, 704]⟩

abbrev nBuf : Space → Nat
  | .hbm => 14
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4x704x1024, .f32⟩
  | .hbm, ⟨5, _⟩ => ⟨S2816x1024, .f32⟩
  | .hbm, ⟨6, _⟩ => ⟨S4x704x1024, .f32⟩
  | .hbm, ⟨7, _⟩ => ⟨S4x1x704x1024, .f32⟩
  | .hbm, ⟨8, _⟩ => ⟨S4x1x704x1024, .f32⟩
  | .hbm, ⟨9, _⟩ => ⟨S4x2x704x1024, .f32⟩
  | .hbm, ⟨10, _⟩ => ⟨S4x2x704x1024, .bf16⟩
  | .hbm, ⟨11, _⟩ => ⟨S2048x1024, .bf16⟩
  | .hbm, ⟨12, _⟩ => ⟨S4x2x2048x704, .bf16⟩
  | .hbm, ⟨13, _⟩ => ⟨S4x2048x704, .bf16⟩
  | .local _ .vmem, ⟨0, _⟩ => ⟨S2048x1024, .bf16⟩
  | .local _ .vmem, ⟨1, _⟩ => ⟨S1x1x704x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x2x2048x704, .bf16⟩
  | .local _ .vmem, ⟨6, _⟩ => ⟨S1x2x2048x704, .bf16⟩
  | .local _ .vmem, ⟨7, _⟩ => ⟨S1x2048x704, .bf16⟩
  | .local _ .vmem, ⟨8, _⟩ => ⟨S1x2048x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9_0 : Ref sig .tc := ⟨.hbm, 12, rfl⟩
abbrev main_v9_1 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GateUpRefIdeal.lean ====
abbrev S2048x1024 : Shape := ⟨2, ![2048, 1024]⟩
abbrev S1024x2816 : Shape := ⟨2, ![1024, 2816]⟩
abbrev S2048x2816 : Shape := ⟨2, ![2048, 2816]⟩
abbrev S_ : Shape := ⟨0, ![]⟩
abbrev S1x2048x2816 : Shape := ⟨3, ![1, 2048, 2816]⟩
abbrev S2x2048x2816 : Shape := ⟨3, ![2, 2048, 2816]⟩
abbrev S2x2048x4x704 : Shape := ⟨4, ![2, 2048, 4, 704]⟩
abbrev S4x2x2048x704 : Shape := ⟨4, ![4, 2, 2048, 704]⟩
abbrev S2048x4x704 : Shape := ⟨3, ![2048, 4, 704]⟩
abbrev S4x2048x704 : Shape := ⟨3, ![4, 2048, 704]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S_, .f32⟩
  | .hbm, ⟨11, _⟩ => ⟨S2048x2816, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S1x2048x2816, .f32⟩
  | .hbm, ⟨16, _⟩ => ⟨S1x2048x2816, .f32⟩
  | .hbm, ⟨17, _⟩ => ⟨S2x2048x2816, .f32⟩
  | .hbm, ⟨18, _⟩ => ⟨S2x2048x4x704, .f32⟩
  | .hbm, ⟨19, _⟩ => ⟨S4x2x2048x704, .f32⟩
  | .hbm, ⟨20, _⟩ => ⟨S4x2x2048x704, .bf16⟩
  | .hbm, ⟨21, _⟩ => ⟨S2048x4x704, .f32⟩
  | .hbm, ⟨22, _⟩ => ⟨S4x2048x704, .f32⟩
  | .hbm, ⟨23, _⟩ => ⟨S4x2048x704, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== GateUp2.lean ====
abbrev S2048x1024 : Shape := ⟨2, ![2048, 1024]⟩
abbrev S1024x2816 : Shape := ⟨2, ![1024, 2816]⟩
abbrev S_ : Shape := ⟨0, ![]⟩
abbrev S4x1x704x1024 : Shape := ⟨4, ![4, 1, 704, 1024]⟩
abbrev S2816x1024 : Shape := ⟨2, ![2816, 1024]⟩
abbrev S4x704x1024 : Shape := ⟨3, ![4, 704, 1024]⟩
abbrev S4x2x704x1024 : Shape := ⟨4, ![4, 2, 704, 1024]⟩
abbrev S4x3x704x1024 : Shape := ⟨4, ![4, 3, 704, 1024]⟩
abbrev S4x2x2048x704 : Shape := ⟨4, ![4, 2, 2048, 704]⟩
abbrev S4x2048x704 : Shape := ⟨3, ![4, 2048, 704]⟩
abbrev S1x1x704x1024 : Shape := ⟨4, ![1, 1, 704, 1024]⟩
abbrev S1x2x2048x704 : Shape := ⟨4, ![1, 2, 2048, 704]⟩
abbrev S1x2048x704 : Shape := ⟨3, ![1, 2048, 704]⟩
abbrev S704x1024 : Shape := ⟨2, ![704, 1024]⟩
abbrev S512x1024 : Shape := ⟨2, ![512, 1024]⟩
abbrev S512x704 : Shape := ⟨2, ![512, 704]⟩
abbrev S1x1x512x704 : Shape := ⟨4, ![1, 1, 512, 704]⟩
abbrev S1x512x704 : Shape := ⟨3, ![1, 512, 704]⟩

abbrev nBuf : Space → Nat
  | .hbm => 17
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024x2816, .f32⟩
  | .hbm, ⟨2, _⟩ => ⟨S1024x2816, .f32⟩
  | .hbm, ⟨3, _⟩ => ⟨S_, .bf16⟩
  | .hbm, ⟨4, _⟩ => ⟨S4x1x704x1024, .bf16⟩
  | .hbm, ⟨5, _⟩ => ⟨S2816x1024, .f32⟩
  | .hbm, ⟨6, _⟩ => ⟨S4x704x1024, .f32⟩
  | .hbm, ⟨7, _⟩ => ⟨S2816x1024, .f32⟩
  | .hbm, ⟨8, _⟩ => ⟨S4x704x1024, .f32⟩
  | .hbm, ⟨9, _⟩ => ⟨S4x1x704x1024, .f32⟩
  | .hbm, ⟨10, _⟩ => ⟨S4x1x704x1024, .f32⟩
  | .hbm, ⟨11, _⟩ => ⟨S4x2x704x1024, .f32⟩
  | .hbm, ⟨12, _⟩ => ⟨S4x2x704x1024, .bf16⟩
  | .hbm, ⟨13, _⟩ => ⟨S4x3x704x1024, .bf16⟩
  | .hbm, ⟨14, _⟩ => ⟨S2048x1024, .bf16⟩
  | .hbm, ⟨15, _⟩ => ⟨S4x2x2048x704, .bf16⟩
  | .hbm, ⟨16, _⟩ => ⟨S4x2048x704, .bf16⟩
  | .local _ .vmem, ⟨0, _⟩ => ⟨S2048x1024, .bf16⟩
  | .local _ .vmem, ⟨1, _⟩ => ⟨S1x1x704x1024, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S1x1x704x1024, .bf16⟩
  | .local _ .vmem, ⟨5, _⟩ => ⟨S1x2x2048x704, .bf16⟩
  | .local _ .vmem, ⟨6, _⟩ => ⟨S1x2x2048x704, .bf16⟩
  | .local _ .vmem, ⟨7, _⟩ => ⟨S1x2048x704, .bf16⟩
  | .local _ .vmem, ⟨8, _⟩ => ⟨S1x2048x704, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg1.toNat, c1_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1x704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Down.lean ====
abbrev S2048x2816 : Shape := ⟨2, ![2048, 2816]⟩
abbrev S2816x1024 : Shape := ⟨2, ![2816, 1024]⟩
abbrev S2048x4x704 : Shape := ⟨3, ![2048, 4, 704]⟩
abbrev S4x2048x704 : Shape := ⟨3, ![4, 2048, 704]⟩
abbrev S4x1x704x1024 : Shape := ⟨4, ![4, 1, 704, 1024]⟩
abbrev S2048x1024 : Shape := ⟨2, ![2048, 1024]⟩
abbrev S1x2048x704 : Shape := ⟨3, ![1, 2048, 704]⟩
abbrev S1x1x704x1024 : Shape := ⟨4, ![1, 1, 704, 1024]⟩
abbrev S2048x704 : Shape := ⟨2, ![2048, 704]⟩
abbrev S704x1024 : Shape := ⟨2, ![704, 1024]⟩

abbrev nBuf : Space → Nat
  | .hbm => 8
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S4x1x704x1024, .f32⟩
  | .hbm, ⟨6, _⟩ => ⟨S4x1x704x1024, .bf16⟩
  | .hbm, ⟨7, _⟩ => ⟨S2048x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S2048x1024, .f32⟩
  | .local _ .vmem, ⟨5, _⟩ => ⟨S2048x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_9 : BitVec 32 := 3#32
  let v13 : BitVec 1 := Scalar.cmpi .eq arg2 c3_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg2.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== DownRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x1024, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Down2.lean ====
abbrev S2048x2816 : Shape := ⟨2, ![2048, 2816]⟩
abbrev S2816x1024 : Shape := ⟨2, ![2816, 1024]⟩
abbrev S2048x4x704 : Shape := ⟨3, ![2048, 4, 704]⟩
abbrev S4x2048x704 : Shape := ⟨3, ![4, 2048, 704]⟩
abbrev S_ : Shape := ⟨0, ![]⟩
abbrev S4x2x704x1024 : Shape := ⟨4, ![4, 2, 704, 1024]⟩
abbrev S4x1x704x1024 : Shape := ⟨4, ![4, 1, 704, 1024]⟩
abbrev S4x3x704x1024 : Shape := ⟨4, ![4, 3, 704, 1024]⟩
abbrev S2048x1024 : Shape := ⟨2, ![2048, 1024]⟩
abbrev S1x2048x704 : Shape := ⟨3, ![1, 2048, 704]⟩
abbrev S1x1x704x1024 : Shape := ⟨4, ![1, 1, 704, 1024]⟩
abbrev S2048x704 : Shape := ⟨2, ![2048, 704]⟩
abbrev S704x1024 : Shape := ⟨2, ![704, 1024]⟩

abbrev nBuf : Space → Nat
  | .hbm => 11
  | .vmem => 6
  | .smem => 0
  | _ => 0

abbrev bufTy : (tb : Table) → Fin (tcTables nBuf tb) → BufTy
  | .hbm, ⟨0, _⟩ => ⟨S2048x2816, .f32⟩
  | .hbm, ⟨1, _⟩ => ⟨S2816x1024, .f32⟩
  | .hbm, ⟨2, _⟩ => ⟨S2048x4x704, .f32⟩
  | .hbm, ⟨3, _⟩ => ⟨S4x2048x704, .f32⟩
  | .hbm, ⟨4, _⟩ => ⟨S4x2048x704, .bf16⟩
  | .hbm, ⟨5, _⟩ => ⟨S_, .bf16⟩
  | .hbm, ⟨6, _⟩ => ⟨S4x2x704x1024, .bf16⟩
  | .hbm, ⟨7, _⟩ => ⟨S4x1x704x1024, .f32⟩
  | .hbm, ⟨8, _⟩ => ⟨S4x1x704x1024, .bf16⟩
  | .hbm, ⟨9, _⟩ => ⟨S4x3x704x1024, .bf16⟩
  | .hbm, ⟨10, _⟩ => ⟨S2048x1024, .f32⟩
  | .local _ .vmem, ⟨0, _⟩ => ⟨S1x2048x704, .bf16⟩
  | .local _ .vmem, ⟨1, _⟩ => ⟨S1x2048x704, .bf16⟩
  | .local _ .vmem, ⟨2, _⟩ => ⟨S1x1x704x1024, .bf16⟩
  | .local _ .vmem, ⟨3, _⟩ => ⟨S1x1x704x1024, .bf16⟩
  | .local _ .vmem, ⟨4, _⟩ => ⟨S2048x1024, .f32⟩
  | .local _ .vmem, ⟨5, _⟩ => ⟨S2048x1024, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32_9 : BitVec 32 := 3#32
  let v13 : BitVec 1 := Scalar.cmpi .eq arg2 c3_i32_9
  let v14 : BitVec 32 := Scalar.extui v13
  let c0_i32_10 : BitVec 32 := 0#32
  let v15 : BitVec 1 := Scalar.cmpi .ne v14 c0_i32_10
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  let c0_i32_1 : BitVec 32 := 0#32
  ![arg2.toNat, c2_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1x704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== Wo.lean ====
abbrev S2048x1024 : Shape := ⟨2, ![2048, 1024]⟩
abbrev S1024x1024 : Shape := ⟨2, ![1024, 1024]⟩
abbrev S2048x512 : Shape := ⟨2, ![2048, 512]⟩
abbrev S512x1024 : Shape := ⟨2, ![512, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .bf16⟩
  | .hbm, ⟨3, _⟩ => ⟨S2048x1024, .bf16⟩
  | .hbm, ⟨4, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .f32⟩
  | .local _ .vmem, ⟨4, _⟩ => ⟨S512x1024, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== WoRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S1024x1024, .f32⟩
  | .hbm, ⟨6, _⟩ => ⟨S1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Dcat.lean ====
abbrev S1024x1024 : Shape := ⟨2, ![1024, 1024]⟩
abbrev S2048x1024 : Shape := ⟨2, ![2048, 1024]⟩
abbrev S8x128 : Shape := ⟨2, ![8, 128]⟩

abbrev nBuf : Space → Nat
  | .hbm => 5
  | .vmem => 4
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S2048x1024, .bf16⟩
  | .hbm, ⟨3, _⟩ => ⟨S1024x1024, .bf16⟩
  | .hbm, ⟨4, _⟩ => ⟨S2048x1024, .bf16⟩
  | .local _ .vmem, ⟨0, _⟩ => ⟨S2048x1024, .bf16⟩
  | .local _ .vmem, ⟨1, _⟩ => ⟨S1024x1024, .bf16⟩
  | .local _ .vmem, ⟨2, _⟩ => ⟨S2048x1024, .bf16⟩
  | .local _ .vmem, ⟨3, _⟩ => ⟨S8x128, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== DcatRefIdeal.lean ====
abbrev S1024x1024 : Shape := ⟨2, ![1024, 1024]⟩
abbrev S2048x1024 : Shape := ⟨2, ![2048, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S2048x1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Win.lean ====
abbrev S2048x1024 : Shape := ⟨2, ![2048, 1024]⟩
abbrev S2048x1280 : Shape := ⟨2, ![2048, 1280]⟩
abbrev S1280x1024 : Shape := ⟨2, ![1280, 1024]⟩
abbrev S2048x256 : Shape := ⟨2, ![2048, 256]⟩
abbrev S256x1024 : Shape := ⟨2, ![256, 1024]⟩
abbrev S8x128 : Shape := ⟨2, ![8, 128]⟩

abbrev nBuf : Space → Nat
  | .hbm => 5
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S2048x1280, .f32⟩
  | .hbm, ⟨2, _⟩ => ⟨S2048x1280, .bf16⟩
  | .hbm, ⟨3, _⟩ => ⟨S2048x1024, .bf16⟩
  | .hbm, ⟨4, _⟩ => ⟨S1280x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![5, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== WinRefIdeal.lean ====
abbrev S2048x1024 : Shape := ⟨2, ![2048, 1024]⟩
abbrev S2048x1280 : Shape := ⟨2, ![2048, 1280]⟩
abbrev S_ : Shape := ⟨0, ![]⟩
abbrev S1024x1280 : Shape := ⟨2, ![1024, 1280]⟩
abbrev S1280x1024 : Shape := ⟨2, ![1280, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1280, .f32⟩
  | .hbm, ⟨2, _⟩ => ⟨S_, .f32⟩
  | .hbm, ⟨3, _⟩ => ⟨S1024x1280, .f32⟩
  | .hbm, ⟨4, _⟩ => ⟨S2048x1280, .f32⟩
  | .hbm, ⟨5, _⟩ => ⟨S1280x1024, .f32⟩
  | .hbm, ⟨6, _⟩ => ⟨S1024x1280, .f32⟩
  | .hbm, ⟨7, _⟩ => ⟨S1280x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MixDh.lean ====
abbrev S1024x1280 : Shape := ⟨2, ![1024, 1280]⟩
abbrev S2048x1280 : Shape := ⟨2, ![2048, 1280]⟩
abbrev S1280x1024 : Shape := ⟨2, ![1280, 1024]⟩
abbrev S2048x1024 : Shape := ⟨2, ![2048, 1024]⟩
abbrev S8x128 : Shape := ⟨2, ![8, 128]⟩

abbrev nBuf : Space → Nat
  | .hbm => 6
  | .vmem => 4
  | .smem => 0
  | _ => 0

abbrev bufTy : (tb : Table) → Fin (tcTables nBuf tb) → BufTy
  | .hbm, ⟨0, _⟩ => ⟨S1024x1280, .f32⟩
  | .hbm, ⟨1, _⟩ => ⟨S2048x1280, .f32⟩
  | .hbm, ⟨2, _⟩ => ⟨S2048x1280, .bf16⟩
  | .hbm, ⟨3, _⟩ => ⟨S1280x1024, .f32⟩
  | .hbm, ⟨4, _⟩ => ⟨S1280x1024, .bf16⟩
  | .hbm, ⟨5, _⟩ => ⟨S2048x1024, .f32⟩
  | .local _ .vmem, ⟨0, _⟩ => ⟨S2048x1280, .bf16⟩
  | .local _ .vmem, ⟨1, _⟩ => ⟨S1280x1024, .bf16⟩
  | .local _ .vmem, ⟨2, _⟩ => ⟨S2048x1024, .f32⟩
  | .local _ .vmem, ⟨3, _⟩ => ⟨S8x128, .f32⟩
  | _, _ => ⟨S1024x1280, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S2048x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1280x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== MixDhRefIdeal.lean ====
abbrev S1024x1280 : Shape := ⟨2, ![1024, 1280]⟩
abbrev S2048x1280 : Shape := ⟨2, ![2048, 1280]⟩
abbrev S_ : Shape := ⟨0, ![]⟩
abbrev S2048x1024 : Shape := ⟨2, ![2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S1024x1280, .f32⟩
  | .hbm, ⟨1, _⟩ => ⟨S2048x1280, .f32⟩
  | .hbm, ⟨2, _⟩ => ⟨S_, .f32⟩
  | .hbm, ⟨3, _⟩ => ⟨S2048x1024, .f32⟩
  | .hbm, ⟨4, _⟩ => ⟨S2048x1280, .f32⟩
  | .hbm, ⟨5, _⟩ => ⟨S2048x1024, .f32⟩
  | _, _ => ⟨S1024x1280, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== MixOut.lean ====
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 5
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .bf16⟩
  | .hbm, ⟨3, _⟩ => ⟨S1024x1024, .bf16⟩
  | .hbm, ⟨4, _⟩ => ⟨S2048x1024, .f32⟩
  | .local _ .vmem, ⟨0, _⟩ => ⟨S2048x1024, .bf16⟩
  | .local _ .vmem, ⟨1, _⟩ => ⟨S1024x1024, .bf16⟩
  | .local _ .vmem, ⟨2, _⟩ => ⟨S2048x1024, .f32⟩
  | .local _ .vmem, ⟨3, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2048x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== MixOutRefIdeal.lean ====
abbrev S2048x1024 : Shape := ⟨2, ![2048, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== ProjSwa.lean ====
abbrev S2048x1024 : Shape := ⟨2, ![2048, 1024]⟩
abbrev S1024x768 : Shape := ⟨2, ![1024, 768]⟩
abbrev S768x1024 : Shape := ⟨2, ![768, 1024]⟩
abbrev S2048x768 : Shape := ⟨2, ![2048, 768]⟩
abbrev S8x128 : Shape := ⟨2, ![8, 128]⟩

abbrev nBuf : Space → Nat
  | .hbm => 6
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024x768, .f32⟩
  | .hbm, ⟨2, _⟩ => ⟨S2048x1024, .bf16⟩
  | .hbm, ⟨3, _⟩ => ⟨S768x1024, .f32⟩
  | .hbm, ⟨4, _⟩ => ⟨S768x1024, .bf16⟩
  | .hbm, ⟨5, _⟩ => ⟨S2048x768, .bf16⟩
  | .local _ .vmem, ⟨0, _⟩ => ⟨S2048x1024, .bf16⟩
  | .local _ .vmem, ⟨1, _⟩ => ⟨S768x1024, .bf16⟩
  | .local _ .vmem, ⟨2, _⟩ => ⟨S2048x768, .bf16⟩
  | .local _ .vmem, ⟨3, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2048x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== ProjSwaRefIdeal.lean ====
abbrev S2048x1024 : Shape := ⟨2, ![2048, 1024]⟩
abbrev S1024x768 : Shape := ⟨2, ![1024, 768]⟩
abbrev S2048x768 : Shape := ⟨2, ![2048, 768]⟩

abbrev nBuf : Space → Nat
  | .hbm => 4
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x768, .f32⟩
  | .hbm, ⟨2, _⟩ => ⟨S2048x768, .f32⟩
  | .hbm, ⟨3, _⟩ => ⟨S2048x768, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjMla.lean ====
abbrev S2048x1024 : Shape := ⟨2, ![2048, 1024]⟩
abbrev S1024x512 : Shape := ⟨2, ![1024, 512]⟩
abbrev S512x1024 : Shape := ⟨2, ![512, 1024]⟩
abbrev S2048x512 : Shape := ⟨2, ![2048, 512]⟩
abbrev S8x128 : Shape := ⟨2, ![8, 128]⟩

abbrev nBuf : Space → Nat
  | .hbm => 6
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S1024x512, .f32⟩
  | .hbm, ⟨2, _⟩ => ⟨S2048x1024, .bf16⟩
  | .hbm, ⟨3, _⟩ => ⟨S512x1024, .f32⟩
  | .hbm, ⟨4, _⟩ => ⟨S512x1024, .bf16⟩
  | .hbm, ⟨5, _⟩ => ⟨S2048x512, .f32⟩
  | .local _ .vmem, ⟨0, _⟩ => ⟨S2048x1024, .bf16⟩
  | .local _ .vmem, ⟨1, _⟩ => ⟨S512x1024, .bf16⟩
  | .local _ .vmem, ⟨2, _⟩ => ⟨S2048x512, .f32⟩
  | .local _ .vmem, ⟨3, _⟩ => ⟨S8x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== ProjMlaRefIdeal.lean ====
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x512, .f32⟩
  | .hbm, ⟨2, _⟩ => ⟨S2048x512, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Norm.lean ====
abbrev S2048x1024 : Shape := ⟨2, ![2048, 1024]⟩
abbrev S1024 : Shape := ⟨1, ![1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S2048x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== NormRefIdeal.lean ====
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S2048 : Shape := ⟨1, ![2048]⟩
abbrev S2048x1 : Shape := ⟨2, ![2048, 1]⟩

abbrev nBuf : Space → Nat
  | .hbm => 69
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S2048x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S_, .f32⟩
  | .hbm, ⟨63, _⟩ => ⟨S2048, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_9 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== SwaFwd.lean ====
abbrev S2048x768 : Shape := ⟨2, ![2048, 768]⟩
abbrev S8x128x256 : Shape := ⟨3, ![8, 128, 256]⟩
abbrev S8 : Shape := ⟨1, ![8]⟩
abbrev S8x1x1 : Shape := ⟨3, ![8, 1, 1]⟩
abbrev S8x128x1 : Shape := ⟨3, ![8, 128, 1]⟩
abbrev S2048x512 : Shape := ⟨2, ![2048, 512]⟩
abbrev S8x2048x1 : Shape := ⟨3, ![8, 2048, 1]⟩
abbrev S256x512 : Shape := ⟨2, ![256, 512]⟩
abbrev S128x256 : Shape := ⟨2, ![128, 256]⟩
abbrev S256x256 : Shape := ⟨2, ![256, 256]⟩
abbrev S8x256x1 : Shape := ⟨3, ![8, 256, 1]⟩
abbrev S384x256 : Shape := ⟨2, ![384, 256]⟩
abbrev S128x512 : Shape := ⟨2, ![128, 512]⟩
abbrev S128x64 : Shape := ⟨2, ![128, 64]⟩
abbrev S1x128x64 : Shape := ⟨3, ![1, 128, 64]⟩
abbrev S4x128x64 : Shape := ⟨3, ![4, 128, 64]⟩
abbrev S512x64 : Shape := ⟨2, ![512, 64]⟩
abbrev S256x64 : Shape := ⟨2, ![256, 64]⟩
abbrev S1x256x64 : Shape := ⟨3, ![1, 256, 64]⟩
abbrev S4x128x256 : Shape := ⟨3, ![4, 128, 256]⟩
abbrev S512x256 : Shape := ⟨2, ![512, 256]⟩
abbrev S1x128x256 : Shape := ⟨3, ![1, 128, 256]⟩
abbrev S4x128x1 : Shape := ⟨3, ![4, 128, 1]⟩
abbrev S4x128 : Shape := ⟨2, ![4, 128]⟩

abbrev nBuf : Space → Nat
  | .hbm => 8
  | .vmem => 12
  | .smem => 0
  | _ => 0

abbrev bufTy : (tb : Table) → Fin (tcTables nBuf tb) → BufTy
  | .hbm, ⟨0, _⟩ => ⟨S2048x768, .f32⟩
  | .hbm, ⟨1, _⟩ => ⟨S8x128x256, .f32⟩
  | .hbm, ⟨2, _⟩ => ⟨S8, .f32⟩
  | .hbm, ⟨3, _⟩ => ⟨S8x1x1, .f32⟩
  | .hbm, ⟨4, _⟩ => ⟨S8x128x1, .f32⟩
  | .hbm, ⟨5, _⟩ => ⟨S2048x768, .bf16⟩
  | .hbm, ⟨6, _⟩ => ⟨S2048x512, .bf16⟩
  | .hbm, ⟨7, _⟩ => ⟨S8x2048x1, .f32⟩
  | .local _ .vmem, ⟨0, _⟩ => ⟨S256x512, .bf16⟩
  | .local _ .vmem, ⟨1, _⟩ => ⟨S256x512, .bf16⟩
  | .local _ .vmem, ⟨2, _⟩ => ⟨S128x256, .bf16⟩
  | .local _ .vmem, ⟨3, _⟩ => ⟨S128x256, .bf16⟩
  | .local _ .vmem, ⟨4, _⟩ => ⟨S256x256, .bf16⟩
  | .local _ .vmem, ⟨5, _⟩ => ⟨S256x256, .bf16⟩
  | .local _ .vmem, ⟨6, _⟩ => ⟨S8x128x256, .f32⟩
  | .local _ .vmem, ⟨7, _⟩ => ⟨S8x128x1, .f32⟩
  | .local _ .vmem, ⟨8, _⟩ => ⟨S256x512, .bf16⟩
  | .local _ .vmem, ⟨9, _⟩ => ⟨S256x512, .bf16⟩
  | .local _ .vmem, ⟨10, _⟩ => ⟨S8x256x1, .f32⟩
  | .local _ .vmem, ⟨11, _⟩ => ⟨S8x256x1, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![v2.toNat, c2_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SwaFwdRefIdeal.lean ====
abbrev S2048x768 : Shape := ⟨2, ![2048, 768]⟩
abbrev S8x128x256 : Shape := ⟨3, ![8, 128, 256]⟩
abbrev S8 : Shape := ⟨1, ![8]⟩
abbrev S2048x512 : Shape := ⟨2, ![2048, 512]⟩
abbrev S16x128x2x4x64 : Shape := ⟨5, ![16, 128, 2, 4, 64]⟩
abbrev S2048x128 : Shape := ⟨2, ![2048, 128]⟩
abbrev S16x128x2x64 : Shape := ⟨4, ![16, 128, 2, 64]⟩
abbrev S1x128x2x64 : Shape := ⟨4, ![1, 128, 2, 64]⟩
abbrev S_ : Shape := ⟨0, ![]⟩
abbrev S15x128x2x64 : Shape := ⟨4, ![15, 128, 2, 64]⟩
abbrev S16x256x2x64 : Shape := ⟨4, ![16, 256, 2, 64]⟩
abbrev S16x2x256x128x4 : Shape := ⟨5, ![16, 2, 256, 128, 4]⟩
abbrev S16x2x4x128x256 : Shape := ⟨5, ![16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S2x4x128x256 : Shape := ⟨4, ![2, 4, 128, 256]⟩
abbrev S1x2x4x128x256 : Shape := ⟨5, ![1, 2, 4, 128, 256]⟩
abbrev S1x2x4x1x1 : Shape := ⟨5, ![1, 2, 4, 1, 1]⟩
abbrev S16x2x4x128x1 : Shape := ⟨5, ![16, 2, 4, 128, 1]⟩
abbrev S16x2x4x128x257 : Shape := ⟨5, ![16, 2, 4, 128, 257]⟩
abbrev S16x2x4x128 : Shape := ⟨4, ![16, 2, 4, 128]⟩
abbrev S16x2x64x4x128 : Shape := ⟨5, ![16, 2, 64, 4, 128]⟩
abbrev S2x4x16x128x1 : Shape := ⟨5, ![2, 4, 16, 128, 1]⟩
abbrev S8x2048x1 : Shape := ⟨3, ![8, 2048, 1]⟩

abbrev nBuf : Space → Nat
  | .hbm => 106
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S8x128x256, .f32⟩
  | .hbm, ⟨2, _⟩ => ⟨S8, .f32⟩
  | .hbm, ⟨3, _⟩ => ⟨S2048x512, .f32⟩
  | .hbm, ⟨4, _⟩ => ⟨S16x128x2x4x64, .f32⟩
  | .hbm, ⟨5, _⟩ => ⟨S2048x128, .f32⟩
  | .hbm, ⟨6, _⟩ => ⟨S16x128x2x64, .f32⟩
  | .hbm, ⟨7, _⟩ => ⟨S2048x128, .f32⟩
  | .hbm, ⟨8, _⟩ => ⟨S16x128x2x64, .f32⟩
  | .hbm, ⟨9, _⟩ => ⟨S1x128x2x64, .f32⟩
  | .hbm, ⟨10, _⟩ => ⟨S_, .f32⟩
  | .hbm, ⟨11, _⟩ => ⟨S1x128x2x64, .f32⟩
  | .hbm, ⟨12, _⟩ => ⟨S15x128x2x64, .f32⟩
  | .hbm, ⟨13, _⟩ => ⟨S16x128x2x64, .f32⟩
  | .hbm, ⟨14, _⟩ => ⟨S16x256x2x64, .f32⟩
  | .hbm, ⟨15, _⟩ => ⟨S1x128x2x64, .f32⟩
  | .hbm, ⟨16, _⟩ => ⟨S_, .f32⟩
  | .hbm, ⟨17, _⟩ => ⟨S1x128x2x64, .f32⟩
  | .hbm, ⟨18, _⟩ => ⟨S15x128x2x64, .f32⟩
  | .hbm, ⟨19, _⟩ => ⟨S16x128x2x64, .f32⟩
  | .hbm, ⟨20, _⟩ => ⟨S16x256x2x64, .f32⟩
  | .hbm, ⟨21, _⟩ => ⟨S16x2x256x128x4, .f32⟩
  | .hbm, ⟨22, _⟩ => ⟨S16x2x4x128x256, .f32⟩
  | .hbm, ⟨23, _⟩ => ⟨S_, .f32⟩
  | .hbm, ⟨24, _⟩ => ⟨S16x2x4x128x256, .f32⟩
  | .hbm, ⟨25, _⟩ => ⟨S16x2x4x128x256, .f32⟩
  | .hbm, ⟨26, _⟩ => ⟨S128, .i32⟩
  | .hbm, ⟨27, _⟩ => ⟨S128x1, .i32⟩
  | .hbm, ⟨28, _⟩ => ⟨S256, .i32⟩
  | .hbm, ⟨29, _⟩ => ⟨S1x256, .i32⟩
  | .hbm, ⟨30, _⟩ => ⟨S_, .i32⟩
  | .hbm, ⟨31, _⟩ => ⟨S128x1, .i32⟩
  | .hbm, ⟨32, _⟩ => ⟨S128x1, .i32⟩
  | .hbm, ⟨33, _⟩ => ⟨S128x256, .i32⟩
  | .hbm, ⟨34, _⟩ => ⟨S128x256, .i32⟩
  | .hbm, ⟨35, _⟩ => ⟨S128x256, .i32⟩
  | .hbm, ⟨36, _⟩ => ⟨S_, .i32⟩
  | .hbm, ⟨37, _⟩ => ⟨S128x256, .i32⟩
  | .hbm, ⟨38, _⟩ => ⟨S128x256, .i1⟩
  | .hbm, ⟨39, _⟩ => ⟨S_, .i32⟩
  | .hbm, ⟨40, _⟩ => ⟨S128x256, .i32⟩
  | .hbm, ⟨41, _⟩ => ⟨S128x256, .i1⟩
  | .hbm, ⟨42, _⟩ => ⟨S128x256, .i1⟩
  | .hbm, ⟨43, _⟩ => ⟨S16, .i32⟩
  | .hbm, ⟨44, _⟩ => ⟨S16x1, .i32⟩
  | .hbm, ⟨45, _⟩ => ⟨S_, .i32⟩
  | .hbm, ⟨46, _⟩ => ⟨S16x1, .i32⟩
  | .hbm, ⟨47, _⟩ => ⟨S16x1, .i1⟩
  | .hbm, ⟨48, _⟩ => ⟨S256, .i32⟩
  | .hbm, ⟨49, _⟩ => ⟨S1x256, .i32⟩
  | .hbm, ⟨50, _⟩ => ⟨S_, .i32⟩
  | .hbm, ⟨51, _⟩ => ⟨S1x256, .i32⟩
  | .hbm, ⟨52, _⟩ => ⟨S1x256, .i1⟩
  | .hbm, ⟨53, _⟩ => ⟨S16x256, .i1⟩
  | .hbm, ⟨54, _⟩ => ⟨S16x256, .i1⟩
  | .hbm, ⟨55, _⟩ => ⟨S16x256, .i1⟩
  | .hbm, ⟨56, _⟩ => ⟨S1x128x256, .i1⟩
  | .hbm, ⟨57, _⟩ => ⟨S16x1x256, .i1⟩
  | .hbm, ⟨58, _⟩ => ⟨S16x128x256, .i1⟩
  | .hbm, ⟨59, _⟩ => ⟨S16x128x256, .i1⟩
  | .hbm, ⟨60, _⟩ => ⟨S16x128x256, .i1⟩
  | .hbm, ⟨61, _⟩ => ⟨S16x1x1x128x256, .i1⟩
  | .hbm, ⟨62, _⟩ => ⟨S2x4x128x256, .f32⟩
  | .hbm, ⟨63, _⟩ => ⟨S1x2x4x128x256, .f32⟩
  | .hbm, ⟨64, _⟩ => ⟨S16x2x4x128x256, .f32⟩
  | .hbm, ⟨65, _⟩ => ⟨S16x2x4x128x256, .f32⟩
  | .hbm, ⟨66, _⟩ => ⟨S_, .f32⟩
  | .hbm, ⟨67, _⟩ => ⟨S_, .f32⟩
  | .hbm, ⟨68, _⟩ => ⟨S16x2x4x128x256, .i1⟩
  | .hbm, ⟨69, _⟩ => ⟨S16x2x4x128x256, .f32⟩
  | .hbm, ⟨70, _⟩ => ⟨S16x2x4x128x256, .f32⟩
  | .hbm, ⟨71, _⟩ => ⟨S1x2x4x1x1, .f32⟩
  | .hbm, ⟨72, _⟩ => ⟨S16x2x4x128x1, .f32⟩
  | .hbm, ⟨73, _⟩ => ⟨S16x2x4x128x257, .f32⟩
  | .hbm, ⟨74, _⟩ => ⟨S_, .f32⟩
  | .hbm, ⟨75, _⟩ => ⟨S16x2x4x128, .f32⟩
  | .hbm, ⟨76, _⟩ => ⟨S_, .f32⟩
  | .hbm, ⟨77, _⟩ => ⟨S16x2x4x128, .f32⟩
  | .hbm, ⟨78, _⟩ => ⟨S16x2x4x128, .f32⟩
  | .hbm, ⟨79, _⟩ => ⟨S16x2x4x128x1, .f32⟩
  | .hbm, ⟨80, _⟩ => ⟨S16x2x4x128x257, .f32⟩
  | .hbm, ⟨81, _⟩ => ⟨S16x2x4x128x257, .f32⟩
  | .hbm, ⟨82, _⟩ => ⟨S16x2x4x128x257, .f32⟩
  | .hbm, ⟨83, _⟩ => ⟨S_, .f32⟩
  | .hbm, ⟨84, _⟩ => ⟨S16x2x4x128, .f32⟩
  | .hbm, ⟨85, _⟩ => ⟨S16x2x4x128x1, .f32⟩
  | .hbm, ⟨86, _⟩ => ⟨S16x2x4x128x257, .f32⟩
  | .hbm, ⟨87, _⟩ => ⟨S16x2x4x128x257, .f32⟩
  | .hbm, ⟨88, _⟩ => ⟨S16x2x4x128x256, .f32⟩
  | .hbm, ⟨89, _⟩ => ⟨S16x2x64x4x128, .f32⟩
  | .hbm, ⟨90, _⟩ => ⟨S16x128x2x4x64, .f32⟩
  | .hbm, ⟨91, _⟩ => ⟨S2048x512, .f32⟩
  | .hbm, ⟨92, _⟩ => ⟨S_, .f32⟩
  | .hbm, ⟨93, _⟩ => ⟨S16x2x4x128, .f32⟩
  | .hbm, ⟨94, _⟩ => ⟨S16x2x4x128x1, .f32⟩
  | .hbm, ⟨95, _⟩ => ⟨S16x2x4x128x257, .f32⟩
  | .hbm, ⟨96, _⟩ => ⟨S16x2x4x128x257, .f32⟩
  | .hbm, ⟨97, _⟩ => ⟨S16x2x4x128x257, .f32⟩
  | .hbm, ⟨98, _⟩ => ⟨S_, .f32⟩
  | .hbm, ⟨99, _⟩ => ⟨S16x2x4x128, .f32⟩
  | .hbm, ⟨100, _⟩ => ⟨S16x2x4x128x1, .f32⟩
  | .hbm, ⟨101, _⟩ => ⟨S16x2x4x128x1, .f32⟩
  | .hbm, ⟨102, _⟩ => ⟨S16x2x4x128x1, .f32⟩
  | .hbm, ⟨103, _⟩ => ⟨S2048x512, .bf16⟩
  | .hbm, ⟨104, _⟩ => ⟨S2x4x16x128x1, .f32⟩
  | .hbm, ⟨105, _⟩ => ⟨S8x2048x1, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_c : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_c_2 : Ref sig .tc := ⟨.hbm, 36, rfl⟩
abbrev main_v29 : Ref sig .tc := ⟨.hbm, 37, rfl⟩
abbrev main_v30 : Ref sig .tc := ⟨.hbm, 38, rfl⟩
abbrev main_c_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_c_4 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_6 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_7 : Ref sig .tc := ⟨.hbm, 74, rfl⟩
abbrev main_v59 : Ref sig .tc := ⟨.hbm, 75, rfl⟩
abbrev main_cst_8 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_cst_9 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_cst_10 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_cst_11 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩

abbrev nD : Nat := 1
abbrev τ : Topo := Topo.v7x

variable {F : FTy → Type} [FloatOps F]
-- ==== Swa.lean ====
abbrev S2048x768 : Shape := ⟨2, ![2048, 768]⟩
abbrev S8x128x256 : Shape := ⟨3, ![8, 128, 256]⟩
abbrev S8 : Shape := ⟨1, ![8]⟩
abbrev S2048x512 : Shape := ⟨2, ![2048, 512]⟩
abbrev S16x128x2x4x64 : Shape := ⟨5, ![16, 128, 2, 4, 64]⟩
abbrev S2048x128 : Shape := ⟨2, ![2048, 128]⟩
abbrev S16x128x2x64 : Shape := ⟨4, ![16, 128, 2, 64]⟩
abbrev S1x128x2x64 : Shape := ⟨4, ![1, 128, 2, 64]⟩
abbrev S_ : Shape := ⟨0, ![]⟩
abbrev S15x128x2x64 : Shape := ⟨4, ![15, 128, 2, 64]⟩
abbrev S16x256x2x64 : Shape := ⟨4, ![16, 256, 2, 64]⟩
abbrev S2x4x128x256 : Shape := ⟨4, ![2, 4, 128, 256]⟩
abbrev S16x2x256x128x4 : Shape := ⟨5, ![16, 2, 256, 128, 4]⟩
abbrev S16x2x4x128x256 : Shape := ⟨5, ![16, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S1x2x4x128x256 : Shape := ⟨5, ![1, 2, 4, 128, 256]⟩
abbrev S1x2x4x1x1 : Shape := ⟨5, ![1, 2, 4, 1, 1]⟩
abbrev S16x2x4x128x1 : Shape := ⟨5, ![16, 2, 4, 128, 1]⟩
abbrev S16x2x4x128x257 : Shape := ⟨5, ![16, 2, 4, 128, 257]⟩
abbrev S16x2x4x128 : Shape := ⟨4, ![16, 2, 4, 128]⟩
abbrev S16x2x64x4x128 : Shape := ⟨5, ![16, 2, 64, 4, 128]⟩
abbrev S2x4x16x128x1 : Shape := ⟨5, ![2, 4, 16, 128, 1]⟩
abbrev S8x2048x1 : Shape := ⟨3, ![8, 2048, 1]⟩
abbrev S8x1x1 : Shape := ⟨3, ![8, 1, 1]⟩
abbrev S8x128x1 : Shape := ⟨3, ![8, 128, 1]⟩
abbrev S2048x1024 : Shape := ⟨2, ![2048, 1024]⟩
abbrev S2048x256 : Shape := ⟨2, ![2048, 256]⟩
abbrev S256x512 : Shape := ⟨2, ![256, 512]⟩
abbrev S256x256 : Shape := ⟨2, ![256, 256]⟩
abbrev S8x256x1 : Shape := ⟨3, ![8, 256, 1]⟩
abbrev S384x256 : Shape := ⟨2, ![384, 256]⟩
abbrev S128x512 : Shape := ⟨2, ![128, 512]⟩
abbrev S128x64 : Shape := ⟨2, ![128, 64]⟩
abbrev S1x128x64 : Shape := ⟨3, ![1, 128, 64]⟩
abbrev S4x128x64 : Shape := ⟨3, ![4, 128, 64]⟩
abbrev S512x64 : Shape := ⟨2, ![512, 64]⟩
abbrev S256x64 : Shape := ⟨2, ![256, 64]⟩
abbrev S1x256x64 : Shape := ⟨3, ![1, 256, 64]⟩
abbrev S4x128x256 : Shape := ⟨3, ![4, 128, 256]⟩
abbrev S512x256 : Shape := ⟨2, ![512, 256]⟩
abbrev S4x128x1 : Shape := ⟨3, ![4, 128, 1]⟩
abbrev S4x128 : Shape := ⟨2, ![4, 128]⟩

abbrev nBuf : Space → Nat
  | .hbm => 120
  | .vmem => 22
  | .smem => 0
  | _ => 0

abbrev bufTy : (tb : Table) → Fin (tcTables nBuf tb) → BufTy
  | .hbm, ⟨0, _⟩ => ⟨S2048x768, .f32⟩
  | .hbm, ⟨1, _⟩ => ⟨S8x128x256, .f32⟩
  | .hbm, ⟨2, _⟩ => ⟨S8, .f32⟩
  | .hbm, ⟨3, _⟩ => ⟨S2048x512, .f32⟩
  | .hbm, ⟨4, _⟩ => ⟨S2048x512, .f32⟩
  | .hbm, ⟨5, _⟩ => ⟨S16x128x2x4x64, .f32⟩
  | .hbm, ⟨6, _⟩ => ⟨S2048x128, .f32⟩
  | .hbm, ⟨7, _⟩ => ⟨S16x128x2x64, .f32⟩
  | .hbm, ⟨8, _⟩ => ⟨S2048x128, .f32⟩
  | .hbm, ⟨9, _⟩ => ⟨S16x128x2x64, .f32⟩
  | .hbm, ⟨10, _⟩ => ⟨S1x128x2x64, .f32⟩
  | .hbm, ⟨11, _⟩ => ⟨S_, .f32⟩
  | .hbm, ⟨12, _⟩ => ⟨S1x128x2x64, .f32⟩
  | .hbm, ⟨13, _⟩ => ⟨S15x128x2x64, .f32⟩
  | .hbm, ⟨14, _⟩ => ⟨S16x128x2x64, .f32⟩
  | .hbm, ⟨15, _⟩ => ⟨S16x256x2x64, .f32⟩
  | .hbm, ⟨16, _⟩ => ⟨S1x128x2x64, .f32⟩
  | .hbm, ⟨17, _⟩ => ⟨S_, .f32⟩
  | .hbm, ⟨18, _⟩ => ⟨S1x128x2x64, .f32⟩
  | .hbm, ⟨19, _⟩ => ⟨S15x128x2x64, .f32⟩
  | .hbm, ⟨20, _⟩ => ⟨S16x128x2x64, .f32⟩
  | .hbm, ⟨21, _⟩ => ⟨S16x256x2x64, .f32⟩
  | .hbm, ⟨22, _⟩ => ⟨S2x4x128x256, .f32⟩
  | .hbm, ⟨23, _⟩ => ⟨S16x2x256x128x4, .f32⟩
  | .hbm, ⟨24, _⟩ => ⟨S16x2x4x128x256, .f32⟩
  | .hbm, ⟨25, _⟩ => ⟨S_, .f32⟩
  | .hbm, ⟨26, _⟩ => ⟨S16x2x4x128x256, .f32⟩
  | .hbm, ⟨27, _⟩ => ⟨S16x2x4x128x256, .f32⟩
  | .hbm, ⟨28, _⟩ => ⟨S128, .i32⟩
  | .hbm, ⟨29, _⟩ => ⟨S128x1, .i32⟩
  | .hbm, ⟨30, _⟩ => ⟨S256, .i32⟩
  | .hbm, ⟨31, _⟩ => ⟨S1x256, .i32⟩
  | .hbm, ⟨32, _⟩ => ⟨S_, .i32⟩
  | .hbm, ⟨33, _⟩ => ⟨S128x1, .i32⟩
  | .hbm, ⟨34, _⟩ => ⟨S128x1, .i32⟩
  | .hbm, ⟨35, _⟩ => ⟨S128x256, .i32⟩
  | .hbm, ⟨36, _⟩ => ⟨S128x256, .i32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i1⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S128x256, .i1⟩
  | .hbm, ⟨45, _⟩ => ⟨S16, .i32⟩
  | .hbm, ⟨46, _⟩ => ⟨S16x1, .i32⟩
  | .hbm, ⟨47, _⟩ => ⟨S_, .i32⟩
  | .hbm, ⟨48, _⟩ => ⟨S16x1, .i32⟩
  | .hbm, ⟨49, _⟩ => ⟨S16x1, .i1⟩
  | .hbm, ⟨50, _⟩ => ⟨S256, .i32⟩
  | .hbm, ⟨51, _⟩ => ⟨S1x256, .i32⟩
  | .hbm, ⟨52, _⟩ => ⟨S_, .i32⟩
  | .hbm, ⟨53, _⟩ => ⟨S1x256, .i32⟩
  | .hbm, ⟨54, _⟩ => ⟨S1x256, .i1⟩
  | .hbm, ⟨55, _⟩ => ⟨S16x256, .i1⟩
  | .hbm, ⟨56, _⟩ => ⟨S16x256, .i1⟩
  | .hbm, ⟨57, _⟩ => ⟨S16x256, .i1⟩
  | .hbm, ⟨58, _⟩ => ⟨S1x128x256, .i1⟩
  | .hbm, ⟨59, _⟩ => ⟨S16x1x256, .i1⟩
  | .hbm, ⟨60, _⟩ => ⟨S16x128x256, .i1⟩
  | .hbm, ⟨61, _⟩ => ⟨S16x128x256, .i1⟩
  | .hbm, ⟨62, _⟩ => ⟨S16x128x256, .i1⟩
  | .hbm, ⟨63, _⟩ => ⟨S16x1x1x128x256, .i1⟩
  | .hbm, ⟨64, _⟩ => ⟨S1x2x4x128x256, .f32⟩
  | .hbm, ⟨65, _⟩ => ⟨S16x2x4x128x256, .f32⟩
  | .hbm, ⟨66, _⟩ => ⟨S16x2x4x128x256, .f32⟩
  | .hbm, ⟨67, _⟩ => ⟨S_, .f32⟩
  | .hbm, ⟨68, _⟩ => ⟨S_, .f32⟩
  | .hbm, ⟨69, _⟩ => ⟨S16x2x4x128x256, .i1⟩
  | .hbm, ⟨70, _⟩ => ⟨S16x2x4x128x256, .f32⟩
  | .hbm, ⟨71, _⟩ => ⟨S16x2x4x128x256, .f32⟩
  | .hbm, ⟨72, _⟩ => ⟨S1x2x4x1x1, .f32⟩
  | .hbm, ⟨73, _⟩ => ⟨S16x2x4x128x1, .f32⟩
  | .hbm, ⟨74, _⟩ => ⟨S16x2x4x128x257, .f32⟩
  | .hbm, ⟨75, _⟩ => ⟨S_, .f32⟩
  | .hbm, ⟨76, _⟩ => ⟨S16x2x4x128, .f32⟩
  | .hbm, ⟨77, _⟩ => ⟨S16x2x4x128x1, .f32⟩
  | .hbm, ⟨78, _⟩ => ⟨S16x2x4x128x257, .f32⟩
  | .hbm, ⟨79, _⟩ => ⟨S16x2x4x128x257, .f32⟩
  | .hbm, ⟨80, _⟩ => ⟨S16x2x4x128x257, .f32⟩
  | .hbm, ⟨81, _⟩ => ⟨S_, .f32⟩
  | .hbm, ⟨82, _⟩ => ⟨S16x2x4x128, .f32⟩
  | .hbm, ⟨83, _⟩ => ⟨S16x2x4x128x1, .f32⟩
  | .hbm, ⟨84, _⟩ => ⟨S16x2x4x128x1, .f32⟩
  | .hbm, ⟨85, _⟩ => ⟨S16x2x4x128x1, .f32⟩
  | .hbm, ⟨86, _⟩ => ⟨S_, .f32⟩
  | .hbm, ⟨87, _⟩ => ⟨S16x2x4x128, .f32⟩
  | .hbm, ⟨88, _⟩ => ⟨S_, .f32⟩
  | .hbm, ⟨89, _⟩ => ⟨S16x2x4x128, .f32⟩
  | .hbm, ⟨90, _⟩ => ⟨S16x2x4x128, .f32⟩
  | .hbm, ⟨91, _⟩ => ⟨S16x2x4x128x1, .f32⟩
  | .hbm, ⟨92, _⟩ => ⟨S16x2x4x128x257, .f32⟩
  | .hbm, ⟨93, _⟩ => ⟨S16x2x4x128x257, .f32⟩
  | .hbm, ⟨94, _⟩ => ⟨S16x2x4x128x257, .f32⟩
  | .hbm, ⟨95, _⟩ => ⟨S_, .f32⟩
  | .hbm, ⟨96, _⟩ => ⟨S16x2x4x128, .f32⟩
  | .hbm, ⟨97, _⟩ => ⟨S16x2x4x128x1, .f32⟩
  | .hbm, ⟨98, _⟩ => ⟨S16x2x4x128x257, .f32⟩
  | .hbm, ⟨99, _⟩ => ⟨S16x2x4x128x257, .f32⟩
  | .hbm, ⟨100, _⟩ => ⟨S16x2x4x128x256, .f32⟩
  | .hbm, ⟨101, _⟩ => ⟨S16x2x64x4x128, .f32⟩
  | .hbm, ⟨102, _⟩ => ⟨S16x128x2x4x64, .f32⟩
  | .hbm, ⟨103, _⟩ => ⟨S2048x512, .f32⟩
  | .hbm, ⟨104, _⟩ => ⟨S2x4x16x128x1, .f32⟩
  | .hbm, ⟨105, _⟩ => ⟨S8x2048x1, .f32⟩
  | .hbm, ⟨106, _⟩ => ⟨S2048x768, .bf16⟩
  | .hbm, ⟨107, _⟩ => ⟨S8x1x1, .f32⟩
  | .hbm, ⟨108, _⟩ => ⟨S8x128x1, .f32⟩
  | .hbm, ⟨109, _⟩ => ⟨S_, .bf16⟩
  | .hbm, ⟨110, _⟩ => ⟨S2048x512, .bf16⟩
  | .hbm, ⟨111, _⟩ => ⟨S2048x512, .bf16⟩
  | .hbm, ⟨112, _⟩ => ⟨S2048x1024, .bf16⟩
  | .hbm, ⟨113, _⟩ => ⟨S2048x512, .bf16⟩
  | .hbm, ⟨114, _⟩ => ⟨S2048x1024, .bf16⟩
  | .hbm, ⟨115, _⟩ => ⟨S2048x512, .bf16⟩
  | .hbm, ⟨116, _⟩ => ⟨S2048x256, .f32⟩
  | .hbm, ⟨117, _⟩ => ⟨S2048x256, .f32⟩
  | .hbm, ⟨118, _⟩ => ⟨S8x128x256, .f32⟩
  | .hbm, ⟨119, _⟩ => ⟨S8x128x1, .f32⟩
  | .local _ .vmem, ⟨0, _⟩ => ⟨S256x512, .bf16⟩
  | .local _ .vmem, ⟨1, _⟩ => ⟨S256x512, .bf16⟩
  | .local _ .vmem, ⟨2, _⟩ => ⟨S128x256, .bf16⟩
  | .local _ .vmem, ⟨3, _⟩ => ⟨S128x256, .bf16⟩
  | .local _ .vmem, ⟨4, _⟩ => ⟨S256x256, .bf16⟩
  | .local _ .vmem, ⟨5, _⟩ => ⟨S256x256, .bf16⟩
  | .local _ .vmem, ⟨6, _⟩ => ⟨S8x128x256, .f32⟩
  | .local _ .vmem, ⟨7, _⟩ => ⟨S8x128x1, .f32⟩
  | .local _ .vmem, ⟨8, _⟩ => ⟨S256x512, .bf16⟩
  | .local _ .vmem, ⟨9, _⟩ => ⟨S256x512, .bf16⟩
  | .local _ .vmem, ⟨10, _⟩ => ⟨S256x512, .bf16⟩
  | .local _ .vmem, ⟨11, _⟩ => ⟨S256x512, .bf16⟩
  | .local _ .vmem, ⟨12, _⟩ => ⟨S8x256x1, .f32⟩
  | .local _ .vmem, ⟨13, _⟩ => ⟨S8x256x1, .f32⟩
  | .local _ .vmem, ⟨14, _⟩ => ⟨S256x512, .bf16⟩
  | .local _ .vmem, ⟨15, _⟩ => ⟨S256x512, .bf16⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S8x128x256, .f32⟩
  | .local _ .vmem, ⟨21, _⟩ => ⟨S8x128x1, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_c_2 : Ref sig .tc := ⟨.hbm, 38, rfl⟩
abbrev main_v30 : Ref sig .tc := ⟨.hbm, 39, rfl⟩
abbrev main_v31 : Ref sig .tc := ⟨.hbm, 40, rfl⟩
abbrev main_c_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_c_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_7 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_8 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_v68 : Ref sig .tc := ⟨.hbm, 87, rfl⟩
abbrev main_cst_10 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_11 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_cst_12 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93_0 : Ref sig .tc := ⟨.hbm, 115, rfl⟩
abbrev main_v93_1 : Ref sig .tc := ⟨.hbm, 116, rfl⟩
abbrev main_v93_2 : Ref sig .tc := ⟨.hbm, 117, rfl⟩
abbrev main_v93_3 : Ref sig .tc := ⟨.hbm, 118, rfl⟩
abbrev main_v93_4 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem12_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c2_i32_0 : BitVec 32 := 2#32
  let c0_i32_1 : BitVec 32 := 0#32
  ![v2.toNat, c2_i32_0.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Proof.Finite.lean ====
/- What the precondition says: every element of the three arrays is a real number. -/
module

public import proofs.«01_k».proof.Defs
public import proofs.«01_k».proof.Proof.Gen.Pre_finite_gate
public import Idealize.ShloMosaic.Lib.StableHlo.Predicate
public import Idealize.ShloMosaic.Lib.Affine
public import Idealize.ShloMosaic.Lib.Pointwise

@[expose] public section

set_option maxRecDepth 16384

noncomputable section

open Idealize.ShloMosaic Idealize.ShloMosaic.TcCoe Idealize.SL.Sem

namespace Cert.Finite

/-- A conjunction over a set of bits is one only if every bit is. -/
theorem fold_and {ι : Type} [DecidableEq ι] (x : ι → BitVec 1) (s : Finset ι) (b : BitVec 1) (h : s.fold IntOp.andi b x = 1#1) :
    ∀ i ∈ s, x i = 1#1 := by
  induction s using Finset.induction_on with
  | empty => intro i hi; exact absurd hi (Finset.notMem_empty i)
  | insert a s ha ih =>
    rw [Finset.fold_insert ha] at h
    have h2 : x a = 1#1 ∧ s.fold IntOp.andi b x = 1#1 := by
      revert h
      generalize x a = p
      generalize s.fold IntOp.andi b x = q
      revert p q
      decide
    intro i hi
    rcases Finset.mem_insert.mp hi with rfl | hi
    · exact h2.1
    · exact ih h2.2 i hi

/-- The same of an array of bits reduced to one. -/
theorem reduce_and {s u : Shape} {axes : List (Fin s.rank)} (x : IVec s 1) (v : IVec u 1) (h : s.ReducesTo axes (⟨0, ![]⟩ : Shape)) (hu : 0 < u.numel)
    (j : (⟨0, ![]⟩ : Shape).Idx) (e : Host.reduce IntOp.andi x v h hu j = 1#1) (i : s.Idx) : x i = 1#1 := by
  classical
  rw [Host.reduce_eq_fold] at e
  exact fold_and x _ _ e i (Finset.mem_filter.mpr ⟨Finset.mem_univ i, funext fun a => a.elim0⟩)

/-- An extended real whose absolute value is below infinity is real. -/
theorem real_of_abs (a : EReal) (h : max a (-a) < ⊤) : ∃ r : ℝ, a = r := by
  induction a using EReal.rec with
  | bot => simp at h
  | top => simp at h
  | coe r => exact ⟨r, rfl⟩

/-- The printed comparison of an absolute value against infinity. -/
theorem real_of_cmp {s : Shape} (x : FVec Ideal s .f32) (hb : (⟨0, ![]⟩ : Shape).BroadcastsInDim s ![]) (i : s.Idx)
    (h : cmpf .olt (Host.absf x) (broadcastInDim s ![] hb (constant (⟨0, ![]⟩ : Shape) .f32 0x7F800000#32)) i = 1#1) :
    ∃ r : ℝ, x i = (r : EReal) := by
  refine real_of_abs _ ?_
  have htop : Ideal.ofBits .f32 0x7F800000#32 = ⊤ := by simp [Ideal.ofBits, Ideal.ieee]
  revert h
  pointwise
  rw [htop, StableHlo.Predicate.ofBool_eq_one_iff]
  exact of_decide_eq_true

/-- The precondition at an element of each array. -/
theorem gate_pre (a b : FVec Ideal Cert.Pre_finite_gate.S2048x2816 .f32) (w : FVec Ideal Cert.Pre_finite_gate.S2816x1024 .f32)
    (d : FVec Ideal Cert.Pre_finite_gate.S2048x1024 .f32)
    (h : Cert.Pre_finite_gate.fn (F := Ideal) a b w d = fun _ => 1#1) :
    (∀ i, ∃ r : ℝ, b i = (r : EReal)) ∧ (∀ i, ∃ r : ℝ, w i = (r : EReal)) ∧ (∀ i, ∃ r : ℝ, d i = (r : EReal)) := by
  have h0 := congrFun h ix0
  unfold Cert.Pre_finite_gate.fn at h0
  simp only [show ∀ (x y : IVec Cert.Pre_finite_gate.S_ 1) (i), andi x y i = IntOp.andi (x i) (y i) from fun _ _ _ => rfl, IntOp.andi_eq_one] at h0
  exact ⟨fun i => real_of_cmp b _ i (reduce_and _ _ _ _ _ h0.1.1 i), fun i => real_of_cmp w _ i (reduce_and _ _ _ _ _ h0.1.2 i),
    fun i => real_of_cmp d _ i (reduce_and _ _ _ _ _ h0.2 i)⟩

end Cert.Finite

end
-- ==== Proof.Gate.lean ====
/- The cotangents of the gate and the up projections: what one grid point of the backward gate kernel stores in each of its
   two planes is what the derivative of the gated product is there, wherever the operands are real numbers. -/
module

public import proofs.«01_k».proof.Defs
public import proofs.«01_k».proof.Proof.Finite
public import proofs.«01_k».proof.Proof.Gen.GateIdeal.Value
public import proofs.«01_k».proof.Proof.Gen.GateRefIdeal.Read
public import proofs.«01_k».proof.Proof.Gen.GateRefIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateIdeal.Product

open Cert.GateIdeal Cert.GateIdeal.Gen

/-- The logistic function as the kernel spells it. -/
def sg (a : EReal) : EReal := Ideal.div 1 (1 + Ideal.exp (0 - a))

/-- The gate's cotangent as the kernel spells it: from the activation's cotangent `d`, the gate `a` and the up projection `b`. -/
def dgate (d a b : EReal) : EReal := d * b * sg a * (1 + a * (1 - sg a))

/-- The up projection's cotangent as the kernel spells it. -/
def dup (d a : EReal) : EReal := d * a * sg a

/-- The activation's cotangent in a strip of 512 rows. -/
theorem strip_apply (w : FVec Ideal S1x1x704x1024 .bf16) (x : FVec Ideal S512x1024 .bf16) (r : Fin 512) (f : Fin 704) :
    k0_pay3 (F := Ideal) w x (ix2 r f) = ∑ k : Fin 1024, x (ix2 r k) * w (ix4 0 0 f k) := by
  pointwise [k0_pay3, k0_pay2]

theorem a_apply (a : FVec Ideal S1x1x512x704 .bf16) (r : Fin 512) (f : Fin 704) :
    k0_pay4 (F := Ideal) a (ix2 r f) = a (ix4 0 0 r f) := by
  pointwise [k0_pay4]

theorem sg_apply (a : FVec Ideal S1x1x512x704 .bf16) (r : Fin 512) (f : Fin 704) :
    k0_pay5 (F := Ideal) a (ix2 r f) = sg (a (ix4 0 0 r f)) := by
  rw [sg, ← a_apply a r f]
  unfold k0_pay5
  generalize k0_pay4 (F := Ideal) a = y
  pointwise

theorem gate_apply (w : FVec Ideal S1x1x704x1024 .bf16) (x : FVec Ideal S512x1024 .bf16) (a b : FVec Ideal S1x1x512x704 .bf16)
    (z0 z1 : Fin 1) (r : Fin 512) (f : Fin 704) :
    k0_pay6 (F := Ideal) w x a b (ix4 z0 z1 r f)
      = dgate (∑ k : Fin 1024, x (ix2 r k) * w (ix4 0 0 f k)) (a (ix4 0 0 r f)) (b (ix4 0 0 r f)) := by
  rw [← strip_apply, dgate, ← sg_apply a r f, ← a_apply a r f]
  unfold k0_pay6
  generalize k0_pay3 (F := Ideal) w x = y
  generalize k0_pay4 (F := Ideal) a = y1
  generalize k0_pay5 (F := Ideal) a = y2
  pointwise

theorem up_apply (w : FVec Ideal S1x1x704x1024 .bf16) (x : FVec Ideal S512x1024 .bf16) (a : FVec Ideal S1x1x512x704 .bf16)
    (z0 z1 : Fin 1) (r : Fin 512) (f : Fin 704) :
    k0_pay8 (F := Ideal) (k0_pay7 (F := Ideal) w x a) (ix4 z0 z1 r f)
      = dup (∑ k : Fin 1024, x (ix2 r k) * w (ix4 0 0 f k)) (a (ix4 0 0 r f)) := by
  rw [← strip_apply, dup, ← sg_apply a r f, ← a_apply a r f]
  unfold k0_pay7
  generalize k0_pay3 (F := Ideal) w x = y
  generalize k0_pay4 (F := Ideal) a = y1
  generalize k0_pay5 (F := Ideal) a = y2
  pointwise [k0_pay8]

/-- The four strips of the gate's plane run one text. -/
theorem strip1 (w x a b) : k0_pay12 (F := Ideal) (k0_pay2 w) x a b = k0_pay6 (F := Ideal) w x a b := rfl
theorem strip2 (w x a b) : k0_pay18 (F := Ideal) (k0_pay2 w) x a b = k0_pay6 (F := Ideal) w x a b := rfl
theorem strip3 (w x a b) : k0_pay24 (F := Ideal) (k0_pay2 w) x a b = k0_pay6 (F := Ideal) w x a b := rfl
/-- So do those of the up projection's. -/
theorem strip4 (w x a) : k0_pay14 (F := Ideal) (k0_pay13 (F := Ideal) (k0_pay2 w) x a) = k0_pay8 (F := Ideal) (k0_pay7 (F := Ideal) w x a) := rfl
theorem strip5 (w x a) : k0_pay20 (F := Ideal) (k0_pay19 (F := Ideal) (k0_pay2 w) x a) = k0_pay8 (F := Ideal) (k0_pay7 (F := Ideal) w x a) := rfl
theorem strip6 (w x a) : k0_pay1 (F := Ideal) (k0_pay25 (F := Ideal) (k0_pay2 w) x a) = k0_pay8 (F := Ideal) (k0_pay7 (F := Ideal) w x a) := rfl

/-- The activation's cotangent from a point's blocks. -/
def dot (x0 : FVec Ideal S2048x1024 .bf16) (x1 : FVec Ideal S1x1x704x1024 .bf16) (r : Fin 2048) (f : Fin 704) : EReal :=
  ∑ k : Fin 1024, x0 (ix2 r k) * x1 (ix4 0 0 f k)

/-- What the body leaves at a place of its block. -/
def left (x0 : FVec Ideal S2048x1024 .bf16) (x1 : FVec Ideal S1x1x704x1024 .bf16) (x2 : FVec Ideal S1x2x2048x704 .bf16)
    (g : Fin 2) (r : Fin 2048) (f : Fin 704) : EReal :=
  if g.val < 1 then dgate (dot x0 x1 r f) (x2 (ix4 0 0 r f)) (x2 (ix4 0 1 r f))
  else dup (dot x0 x1 r f) (x2 (ix4 0 0 r f))

theorem left_gate {x0 x1 x2} {g : Fin 2} {r f} (h : g.val < 1) : left x0 x1 x2 g r f
    = dgate (dot x0 x1 r f) (x2 (ix4 0 0 r f)) (x2 (ix4 0 1 r f)) := if_pos h

theorem left_up {x0 x1 x2} {g : Fin 2} {r f} (h : ¬ g.val < 1) : left x0 x1 x2 g r f
    = dup (dot x0 x1 r f) (x2 (ix4 0 0 r f)) := if_neg h

/-- A strip of the cotangent's rows. -/
theorem rows_apply (x0 : Vec Ideal S2048x1024 .bf16) (o : ℕ) (h) (r : Fin 512) (R : Fin 2048) (hR : R.val = o + r.val) (k : Fin 1024) :
    (View.ld (Val := Elt Ideal) (e' := .bf16) x0 (Rect.unit (s := S2048x1024) ![o, 0] S512x1024.size h) (ix2 r k : S512x1024.Idx)) = x0 (ix2 R k) := by
  have e : (Rect.unit (s := S2048x1024) ![o, 0] S512x1024.size h).emb (ix2 r k : S512x1024.Idx) = (ix2 R k : S2048x1024.Idx) := by
    blk_ext
  unfold View.ld
  exact congrArg x0 e

/-- A strip of one of the two planes. -/
theorem plane_apply (x2 : Vec Ideal S1x2x2048x704 .bf16) (p o : ℕ) (h) (z0 z1 : Fin 1) (r : Fin 512) (f : Fin 704) (P : Fin 2)
    (hP : P.val = p) (R : Fin 2048) (hR : R.val = o + r.val) :
    (View.ld (Val := Elt Ideal) (e' := .bf16) x2 (Rect.unit (s := S1x2x2048x704) ![0, p, o, 0] S1x1x512x704.size h) (ix4 z0 z1 r f : S1x1x512x704.Idx)) = x2 (ix4 0 P R f) := by
  have e : (Rect.unit (s := S1x2x2048x704) ![0, p, o, 0] S1x1x512x704.size h).emb (ix4 z0 z1 r f : S1x1x512x704.Idx)
      = (ix4 0 P R f : S1x2x2048x704.Idx) := by
    blk_ext
  unfold View.ld
  exact congrArg x2 e

/-- One strip of the gate's plane. -/
theorem gate_strip (x0 : Vec Ideal S2048x1024 .bf16) (x1 : Vec Ideal S1x1x704x1024 .bf16) (x2 : Vec Ideal S1x2x2048x704 .bf16)
    (o : ℕ) (h0 h1 h2) (z0 z1 : Fin 1) (r : Fin 512) (f : Fin 704) (g : Fin 2) (hg : g.val = z1.val) (R : Fin 2048) (hR : R.val = o + r.val) :
    k0_pay6 (F := Ideal) x1 (View.ld x0 (Rect.unit (s := S2048x1024) ![o, 0] S512x1024.size h0))
      (View.ld x2 (Rect.unit (s := S1x2x2048x704) ![0, 0, o, 0] S1x1x512x704.size h1))
      (View.ld x2 (Rect.unit (s := S1x2x2048x704) ![0, 1, o, 0] S1x1x512x704.size h2)) (ix4 z0 z1 r f) = left x0 x1 x2 g R f := by
  rw [gate_apply, left_gate (by omega)]
  exact congr (congr (congrArg dgate (Finset.sum_congr rfl fun k _ => congrArg (fun x : EReal => x * x1 (ix4 0 0 f k)) (rows_apply x0 o h0 r R hR k)))
    (plane_apply x2 0 o h1 0 0 r f 0 rfl R hR)) (plane_apply x2 1 o h2 0 0 r f 1 rfl R hR)

/-- One strip of the up projection's plane. -/
theorem up_strip (x0 : Vec Ideal S2048x1024 .bf16) (x1 : Vec Ideal S1x1x704x1024 .bf16) (x2 : Vec Ideal S1x2x2048x704 .bf16)
    (o : ℕ) (h0 h1) (z0 z1 : Fin 1) (r : Fin 512) (f : Fin 704) (g : Fin 2) (hg : g.val = 1 + z1.val) (R : Fin 2048) (hR : R.val = o + r.val) :
    k0_pay8 (F := Ideal) (k0_pay7 (F := Ideal) x1 (View.ld x0 (Rect.unit (s := S2048x1024) ![o, 0] S512x1024.size h0))
      (View.ld x2 (Rect.unit (s := S1x2x2048x704) ![0, 0, o, 0] S1x1x512x704.size h1))) (ix4 z0 z1 r f) = left x0 x1 x2 g R f := by
  rw [up_apply, left_up (by omega)]
  exact congr (congrArg dup (Finset.sum_congr rfl fun k _ => congrArg (fun x : EReal => x * x1 (ix4 0 0 f k)) (rows_apply x0 o h0 r R hR k)))
    (plane_apply x2 0 o h1 0 0 r f 0 rfl R hR)

/-- The whole block, from its eight strips. -/
theorem out_apply (x0 : Vec Ideal S2048x1024 .bf16) (x1 : Vec Ideal S1x1x704x1024 .bf16) (x2 : Vec Ideal S1x2x2048x704 .bf16)
    (y : S1x2x2048x704.Idx) :
    out0_3 (F := Ideal) x0 x1 x2 y = left x0 x1 x2 (y 1) (y 2) (y 3) := by
  unfold_out out0_3
  rw [strip1, strip2, strip3, strip4, strip5, strip6, show View.ld x1 r0_0 = x1 from View.ld_unit_lit _ x1 (by decide)]
  canon_tiles x h
  all_goals
    obtain ⟨z0, z1, r, f, rfl⟩ : ∃ (z0 : Fin 1) (z1 : Fin 1) (r : Fin 512) (f : Fin 704), x = ix4 z0 z1 r f :=
      ⟨x 0, x 1, x 2, x 3, eq_ix4 x⟩
    have e3 : (y 3 : Fin 704) = f := Fin.ext h3
    rw [e3]
  · exact up_strip x0 x1 x2 1536 _ _ z0 z1 r f (y 1) h1 (y 2) h2
  · exact gate_strip x0 x1 x2 1536 _ _ _ z0 z1 r f (y 1) h1 (y 2) h2
  · exact up_strip x0 x1 x2 1024 _ _ z0 z1 r f (y 1) h1 (y 2) h2
  · exact gate_strip x0 x1 x2 1024 _ _ _ z0 z1 r f (y 1) h1 (y 2) h2
  · exact up_strip x0 x1 x2 512 _ _ z0 z1 r f (y 1) h1 (y 2) h2
  · exact gate_strip x0 x1 x2 512 _ _ _ z0 z1 r f (y 1) h1 (y 2) h2
  · exact up_strip x0 x1 x2 0 _ _ z0 z1 r f (y 1) h1 (y 2) (h2.trans (Nat.zero_add _).symm)
  · exact gate_strip x0 x1 x2 0 _ _ _ z0 z1 r f (y 1) h1 (y 2) (h2.trans (Nat.zero_add _).symm)

/-! ## The reference -/

open Cert.GateRefIdeal.Read in
/-- The activation's cotangent. -/
theorem cot_apply (w : FVec Ideal S2816x1024 .f32) (x : FVec Ideal S2048x1024 .f32) (r : Fin 2048) (f : Fin 2816) :
    val_main_v3 (F := Ideal) w x (ix2 r f) = ∑ k : Fin 1024, x (ix2 r k) * w (ix2 f k) := by
  pointwise [val_main_v3]

/-- The logistic function as the reference spells it. -/
def sg' (a : EReal) : EReal := Ideal.div 1 (1 + Ideal.exp (-a))

open Cert.GateRefIdeal.Read in
theorem sg'_apply (a : FVec Ideal S2048x2816 .f32) (i : S2048x2816.Idx) : val_main_v0_2 (F := Ideal) a i = sg' (a i) := by
  pointwise [val_main_v0_2, val_main_call0_v4, val_main_call0_cst_0, val_main_call0_v3, val_main_call0_v2, val_main_call0_cst,
    val_main_call0_v1, val_main_call0_v0, sg']

open Cert.GateRefIdeal.Read in
/-- The gate's cotangent as the reference spells it. -/
theorem da_apply (a b : FVec Ideal S2048x2816 .f32) (w : FVec Ideal S2816x1024 .f32) (x : FVec Ideal S2048x1024 .f32) (i : S2048x2816.Idx) :
    val_main_v6 (F := Ideal) a b w x i
      = val_main_v3 (F := Ideal) w x i * b i * sg' (a i)
        + a i * (val_main_v3 (F := Ideal) w x i * b i) * (sg' (a i) * (1 - sg' (a i))) := by
  rw [← sg'_apply]
  unfold val_main_v6 val_main_call1_v1 val_main_call1_v2 val_main_call1_v0 val_main_v5 val_main_v0_1 val_main_call0_v7
  generalize val_main_v3 (F := Ideal) w x = y
  generalize val_main_v0_2 (F := Ideal) a = s
  pointwise [val_main_call0_v6, val_main_call0_cst_1]

open Cert.GateRefIdeal.Read in
/-- The up projection's cotangent as the reference spells it. -/
theorem db_apply (a : FVec Ideal S2048x2816 .f32) (w : FVec Ideal S2816x1024 .f32) (x : FVec Ideal S2048x1024 .f32) (i : S2048x2816.Idx) :
    val_main_v4 (F := Ideal) a w x i = a i * sg' (a i) * val_main_v3 (F := Ideal) w x i := by
  rw [← sg'_apply]
  unfold val_main_v4 val_main_v0_0
  generalize val_main_v3 (F := Ideal) w x = y
  generalize val_main_v0_2 (F := Ideal) a = s
  pointwise

/-- A change of format keeps the ideal value. -/
theorem truncf_ideal {s : Shape} (x : FVec Ideal s .f32) (h) : truncf (F := Ideal) .bf16 x h = x := rfl

open Cert.GateRefIdeal.Read in
/-- The two cotangents stacked. -/
theorem stack_apply (a b : FVec Ideal S2048x2816 .f32) (w : FVec Ideal S2816x1024 .f32) (x : FVec Ideal S2048x1024 .f32)
    (g : Fin 2) (r : Fin 2048) (f : Fin 2816) :
    val_main_v9 (F := Ideal) a b w x (ix3 g r f)
      = if g.val < 1 then val_main_v6 (F := Ideal) a b w x (ix2 r f) else val_main_v4 (F := Ideal) a w x (ix2 r f) := by
  unfold val_main_v9 val_main_v8 val_main_v7
  generalize val_main_v6 (F := Ideal) a b w x = y
  generalize val_main_v4 (F := Ideal) a w x = z
  pointwise
  split <;> rfl

open Cert.GateRefIdeal.Read in
/-- The stack cut in the four shards. -/
theorem shards_apply (a b : FVec Ideal S2048x2816 .f32) (w : FVec Ideal S2816x1024 .f32) (x : FVec Ideal S2048x1024 .f32)
    (g : Fin 2) (r : Fin 2048) (s : Fin 4) (f : Fin 704) :
    val_main_v10 (F := Ideal) a b w x (ix4 g r s f) = val_main_v9 (F := Ideal) a b w x (ix3 g r ⟨s.val * 704 + f.val, by omega⟩) := by
  rw [val_main_v10]
  generalize val_main_v9 (F := Ideal) a b w x = y
  rw [Pointwise.shapeCast_apply]
  pointwise

/-- The reference's two cotangents over the four argument arrays, the shards first. -/
abbrev cots (a b : FVec Ideal S2048x2816 .f32) (w : FVec Ideal S2816x1024 .f32) (x : FVec Ideal S2048x1024 .f32) : FVec Ideal S4x2x2048x704 .bf16 :=
  Cert.GateRefIdeal.Read.val_main_v12 (F := Ideal) a b w x

open Cert.GateRefIdeal.Read in
theorem cots_apply (a b : FVec Ideal S2048x2816 .f32) (w : FVec Ideal S2816x1024 .f32) (x : FVec Ideal S2048x1024 .f32)
    (s : Fin 4) (g : Fin 2) (r : Fin 2048) (f : Fin 704) :
    cots a b w x (ix4 s g r f)
      = if g.val < 1 then val_main_v6 (F := Ideal) a b w x (ix2 r ⟨s.val * 704 + f.val, by omega⟩)
        else val_main_v4 (F := Ideal) a w x (ix2 r ⟨s.val * 704 + f.val, by omega⟩) := by
  rw [← stack_apply, ← shards_apply, cots, val_main_v12, val_main_v11]
  generalize val_main_v10 (F := Ideal) a b w x = y
  rw [truncf_ideal, Pointwise.transpose_apply]
  pointwise

/-! ## The algebra -/

theorem sg_eq (a : EReal) : sg a = sg' a := by rw [sg, sg', sub_eq_add_neg, zero_add]

theorem sg'_coe (r : ℝ) : sg' r = (((1 + Real.exp (-r))⁻¹ : ℝ) : EReal) := Ideal.logistic_coe r

theorem sg'_top : sg' ⊤ = 1 := by simp [sg', Ideal.div]

theorem sg'_bot : sg' ⊥ = 0 := by
  rw [sg', EReal.neg_bot, Ideal.exp_top, show (1 : EReal) + ⊤ = ⊤ from EReal.coe_add_top 1]
  simp [Ideal.div]

/-- The two spellings of the gate's cotangent agree where the activation's cotangent times the up projection is real. -/
theorem gate_alg (d a b : EReal) (h : ∃ r : ℝ, d * b = r) :
    dgate d a b = d * b * sg' a + a * (d * b) * (sg' a * (1 - sg' a)) := by
  obtain ⟨p, hp⟩ := h
  rw [dgate, sg_eq, hp]
  induction a using EReal.rec with
  | bot => rw [sg'_bot]; simp
  | top =>
    rw [sg'_top, show (1 : EReal) - 1 = 0 from by
      rw [← EReal.coe_one, ← EReal.coe_sub, sub_self, EReal.coe_zero]]
    simp
  | coe x =>
    rw [sg'_coe]
    generalize (1 + Real.exp (-x))⁻¹ = s
    norm_cast
    ring

/-- The two spellings of the up projection's cotangent agree. -/
theorem up_alg (d a : EReal) : dup d a = a * sg' a * d := by
  rw [dup, sg_eq, mul_comm (a * sg' a) d, mul_assoc]

/-- A sum of products of real numbers is real. -/
theorem real_sum {n : ℕ} (f g : Fin n → EReal) (hf : ∀ k, ∃ r : ℝ, f k = r) (hg : ∀ k, ∃ r : ℝ, g k = r) :
    ∃ r : ℝ, ∑ k : Fin n, f k * g k = r :=
  Finset.sum_induction _ (fun x : EReal => ∃ r : ℝ, x = r)
    (fun x y ⟨p, hp⟩ ⟨q, hq⟩ => ⟨p + q, by rw [hp, hq, EReal.coe_add]⟩) ⟨0, rfl⟩
    (fun k _ => by
      obtain ⟨p, hp⟩ := hf k
      obtain ⟨q, hq⟩ := hg k
      exact ⟨p * q, by rw [hp, hq, EReal.coe_mul]⟩)

/-! ## The kernel's blocks -/

variable (m : (ℓ : Loc nD τ sig) → Buf (Elt Ideal) ℓ)

/-- Which block of each array a grid point works on. -/
theorem idx : ∀ t : Fin cfg0.N, win0_0.index t = ![0, 0] ∧ win0_1.index t = ![t.val, 0, 0, 0]
    ∧ win0_2.index t = ![t.val, 0, 0, 0] ∧ win0_3.index t = ![t.val, 0, 0, 0] :=
  (by decide +kernel : ∀ t : Fin grid0.N, _)

/-- The layer's cotangent, whole at every point. -/
theorem block0_apply (c : Dev nD) (t : Fin cfg0.N) (r : Fin 2048) (d : Fin 1024) :
    iblk m c 0 t (ix2 r d) = m ((c : Thread nD τ).loc main_arg3) (ix2 r d) := by
  blk_ext! [iblk, V, idx t]

/-- The projection's array that the host prepares, at an index. -/
theorem weights_apply (c : Dev nD) (s : Fin 4) (r : Fin 704) (d : Fin 1024) :
    V m c (Pipeline.arrRef spec0 1) (ix4 s 0 r d) = m ((c : Thread nD τ).loc main_arg2) (ix2 ⟨s.val * 704 + r.val, by omega⟩ d) := by
  entry_read
  rw [truncf_ideal]
  pointwise

/-- A block of it. -/
theorem block1_apply (c : Dev nD) (t : Fin cfg0.N) (s : Fin 4) (hs : s.val = t.val) (r : Fin 704) (d : Fin 1024) :
    iblk m c 1 t (ix4 0 0 r d) = V m c (Pipeline.arrRef spec0 1) (ix4 s 0 r d) := by
  have i0 : ((cfg0.win 1).blk t).view.emb (ix4 0 0 r d) = (ix4 s 0 r d : S4x1x704x1024.Idx) := by
    blk_ext [idx t]
  unfold iblk
  rw [View.read_apply, i0]
  exact cast_eq _ _

/-- The activations' array that the host prepares, at an index. -/
theorem acts_apply (c : Dev nD) (s : Fin 4) (g : Fin 2) (r : Fin 2048) (f : Fin 704) :
    V m c (Pipeline.arrRef spec0 2) (ix4 s g r f)
      = if g.val < 1 then m ((c : Thread nD τ).loc main_arg0) (ix2 r ⟨s.val * 704 + f.val, by omega⟩)
        else m ((c : Thread nD τ).loc main_arg1) (ix2 r ⟨s.val * 704 + f.val, by omega⟩) := by
  entry_read
  rw [truncf_ideal]
  pointwise
  split <;> rfl

/-- A block of it. -/
theorem block2_apply (c : Dev nD) (t : Fin cfg0.N) (s : Fin 4) (hs : s.val = t.val) (g : Fin 2) (r : Fin 2048) (f : Fin 704) :
    iblk m c 2 t (ix4 0 g r f) = V m c (Pipeline.arrRef spec0 2) (ix4 s g r f) := by
  have i0 : ((cfg0.win 2).blk t).view.emb (ix4 0 g r f) = (ix4 s g r f : S4x2x2048x704.Idx) := by
    blk_ext [idx t]
  unfold iblk
  rw [View.read_apply, i0]
  exact cast_eq _ _

/-- Where an index of point `t`'s block of the result lies. -/
theorem result_block (t : Fin cfg0.N) (s : Fin 4) (hs : s.val = t.val) (z : Fin 1) (g : Fin 2) (r : Fin 2048) (f : Fin 704) :
    ((cfg0.win 3).blk t).view.emb (ix4 z g r f) = (ix4 s g r f : S4x2x2048x704.Idx) := by
  blk_ext [idx t]

/-- The argument arrays a device holds. -/
abbrev arrA (c : Dev nD) : FVec Ideal S2048x2816 .f32 := m ((c : Thread nD τ).loc main_arg0)
abbrev arrB (c : Dev nD) : FVec Ideal S2048x2816 .f32 := m ((c : Thread nD τ).loc main_arg1)
abbrev arrW (c : Dev nD) : FVec Ideal S2816x1024 .f32 := m ((c : Thread nD τ).loc main_arg2)
abbrev arrD (c : Dev nD) : FVec Ideal S2048x1024 .f32 := m ((c : Thread nD τ).loc main_arg3)

/-- The activation's cotangent from a point's blocks. -/
theorem sum_apply (c : Dev nD) (t : Fin cfg0.N) (s : Fin 4) (hs : s.val = t.val) (r : Fin 2048) (f : Fin 704) :
    dot (iblk m c 0 t) (iblk m c 1 t) r f
      = Cert.GateRefIdeal.Read.val_main_v3 (F := Ideal) (arrW m c) (arrD m c) (ix2 r ⟨s.val * 704 + f.val, by omega⟩) := by
  rw [cot_apply, dot]
  exact Finset.sum_congr rfl fun k _ => congrArg₂ (fun x y : EReal => x * y) (block0_apply m c t r k)
    ((block1_apply m c t s hs f k).trans (weights_apply m c s f k))

/-- What the body stores at an index of point `t`'s block is the reference's cotangent at that block's place in the array. -/
theorem point (c : Dev nD) (hb : ∀ i, ∃ r : ℝ, arrB m c i = (r : EReal)) (hw : ∀ i, ∃ r : ℝ, arrW m c i = (r : EReal))
    (hd : ∀ i, ∃ r : ℝ, arrD m c i = (r : EReal)) (t : Fin cfg0.N) (y : S1x2x2048x704.Idx) :
    out0_3 (F := Ideal) (iblk m c 0 t) (iblk m c 1 t) (iblk m c 2 t) y
      = cots (arrA m c) (arrB m c) (arrW m c) (arrD m c) (((cfg0.win 3).blk t).view.emb y) := by
  have ht : t.val < 4 := lt_of_lt_of_eq t.isLt N_0
  obtain ⟨z, g, r, f, rfl⟩ : ∃ (z : Fin 1) (g : Fin 2) (r : Fin 2048) (f : Fin 704), y = ix4 z g r f :=
    ⟨y 0, y 1, y 2, y 3, eq_ix4 y⟩
  obtain ⟨s, hs⟩ : ∃ s : Fin 4, s.val = t.val := ⟨⟨t.val, ht⟩, rfl⟩
  rw [result_block t s hs, cots_apply, out_apply]
  show left (iblk m c 0 t) (iblk m c 1 t) (iblk m c 2 t) g r f = _
  have ea : (iblk m c 2 t (ix4 0 0 r f) : EReal) = arrA m c (ix2 r ⟨s.val * 704 + f.val, by omega⟩) :=
    (block2_apply m c t s hs 0 r f).trans ((acts_apply m c s 0 r f).trans (if_pos (by decide)))
  have eb : (iblk m c 2 t (ix4 0 1 r f) : EReal) = arrB m c (ix2 r ⟨s.val * 704 + f.val, by omega⟩) :=
    (block2_apply m c t s hs 1 r f).trans ((acts_apply m c s 1 r f).trans (if_neg (by decide)))
  split
  · rename_i h
    rw [left_gate h, da_apply, ← gate_alg]
    · exact congr (congr (congrArg dgate (sum_apply m c t s hs r f)) ea) eb
    · obtain ⟨p, hp⟩ := real_sum (fun k : Fin 1024 => arrD m c (ix2 r k)) (fun k => arrW m c (ix2 ⟨s.val * 704 + f.val, by omega⟩ k))
        (fun k => hd _) (fun k => hw _)
      obtain ⟨q, hq⟩ := hb (ix2 r ⟨s.val * 704 + f.val, by omega⟩)
      exact ⟨p * q, by rw [cot_apply, hq, EReal.coe_mul, ← hp]⟩
  · rename_i h
    rw [left_up h, db_apply, ← up_alg]
    exact congr (congrArg dup (sum_apply m c t s hs r f)) ea

/-- The result array after the run is the reference's. -/
theorem final (c : Dev nD) (hb : ∀ i, ∃ r : ℝ, arrB m c i = (r : EReal)) (hw : ∀ i, ∃ r : ℝ, arrW m c i = (r : EReal))
    (hd : ∀ i, ∃ r : ℝ, arrD m c i = (r : EReal)) :
    (dats m 0 c).arrAt 3 (cfgs 0).N = cots (arrA m c) (arrB m c) (arrW m c) (arrD m c) := by
  refine (dats m 0 c).arrAt_eq_of_covers 3 _ (by decide +kernel) fun t hf y => ?_
  blk_simp
  rw [after0_3]
  exact point m c hb hw hd t y

end Cert.GateIdeal.Product

namespace Cert.Proof.GateClaims

theorem algebraic : Cert.algebraic_GateIdeal_GateRefIdeal_pre_finite_gate := by
  pair_intro
  · run_from Cert.GateIdeal.Value.run_blocks m g
  · run_from Cert.GateRefIdeal.Value.run m' g'
    obtain ⟨hb, hw, hd⟩ := Cert.Finite.gate_pre (Cert.GateIdeal.Product.arrA m c) (Cert.GateIdeal.Product.arrB m c)
      (Cert.GateIdeal.Product.arrW m c) (Cert.GateIdeal.Product.arrD m c) (hpre c)
    rw [Cert.GateIdeal.Product.final m c hb hw hd]
    refine (Cert.GateRefIdeal.Read.val_main_v12_eq (F := Ideal) _ _ _ _).trans ?_
    rw [(hagree c).2.2.2]

end Cert.Proof.GateClaims

end
-- ==== Proof.Gate2.lean ====
/- The cotangents of the second network's gate and up projections: what one grid point of the backward gate kernel stores in each of its
   two planes is what the derivative of the gated product is there, wherever the operands are real numbers. -/
module

public import proofs.«01_k».proof.Defs
public import proofs.«01_k».proof.Proof.Finite
public import proofs.«01_k».proof.Proof.Gen.Gate2Ideal.Value
public import proofs.«01_k».proof.Proof.Gen.GateRefIdeal.Read
public import proofs.«01_k».proof.Proof.Gen.GateRefIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Gate2Ideal.Product

open Cert.Gate2Ideal Cert.Gate2Ideal.Gen

/-- The logistic function as the kernel spells it. -/
def sg (a : EReal) : EReal := Ideal.div 1 (1 + Ideal.exp (0 - a))

/-- The gate's cotangent as the kernel spells it: from the activation's cotangent `d`, the gate `a` and the up projection `b`. -/
def dgate (d a b : EReal) : EReal := d * b * sg a * (1 + a * (1 - sg a))

/-- The up projection's cotangent as the kernel spells it. -/
def dup (d a : EReal) : EReal := d * a * sg a

/-- The activation's cotangent in a strip of 512 rows. -/
theorem strip_apply (w : FVec Ideal S1x1x704x1024 .bf16) (x : FVec Ideal S512x1024 .bf16) (r : Fin 512) (f : Fin 704) :
    k0_pay3 (F := Ideal) w x (ix2 r f) = ∑ k : Fin 1024, x (ix2 r k) * w (ix4 0 0 f k) := by
  pointwise [k0_pay3, k0_pay2]

theorem a_apply (a : FVec Ideal S1x1x512x704 .bf16) (r : Fin 512) (f : Fin 704) :
    k0_pay4 (F := Ideal) a (ix2 r f) = a (ix4 0 0 r f) := by
  pointwise [k0_pay4]

theorem sg_apply (a : FVec Ideal S1x1x512x704 .bf16) (r : Fin 512) (f : Fin 704) :
    k0_pay5 (F := Ideal) a (ix2 r f) = sg (a (ix4 0 0 r f)) := by
  rw [sg, ← a_apply a r f]
  unfold k0_pay5
  generalize k0_pay4 (F := Ideal) a = y
  pointwise

theorem gate_apply (w : FVec Ideal S1x1x704x1024 .bf16) (x : FVec Ideal S512x1024 .bf16) (a b : FVec Ideal S1x1x512x704 .bf16)
    (z0 z1 : Fin 1) (r : Fin 512) (f : Fin 704) :
    k0_pay6 (F := Ideal) w x a b (ix4 z0 z1 r f)
      = dgate (∑ k : Fin 1024, x (ix2 r k) * w (ix4 0 0 f k)) (a (ix4 0 0 r f)) (b (ix4 0 0 r f)) := by
  rw [← strip_apply, dgate, ← sg_apply a r f, ← a_apply a r f]
  unfold k0_pay6
  generalize k0_pay3 (F := Ideal) w x = y
  generalize k0_pay4 (F := Ideal) a = y1
  generalize k0_pay5 (F := Ideal) a = y2
  pointwise

theorem up_apply (w : FVec Ideal S1x1x704x1024 .bf16) (x : FVec Ideal S512x1024 .bf16) (a : FVec Ideal S1x1x512x704 .bf16)
    (z0 z1 : Fin 1) (r : Fin 512) (f : Fin 704) :
    k0_pay8 (F := Ideal) (k0_pay7 (F := Ideal) w x a) (ix4 z0 z1 r f)
      = dup (∑ k : Fin 1024, x (ix2 r k) * w (ix4 0 0 f k)) (a (ix4 0 0 r f)) := by
  rw [← strip_apply, dup, ← sg_apply a r f, ← a_apply a r f]
  unfold k0_pay7
  generalize k0_pay3 (F := Ideal) w x = y
  generalize k0_pay4 (F := Ideal) a = y1
  generalize k0_pay5 (F := Ideal) a = y2
  pointwise [k0_pay8]

/-- The four strips of the gate's plane run one text. -/
theorem strip1 (w x a b) : k0_pay12 (F := Ideal) (k0_pay2 w) x a b = k0_pay6 (F := Ideal) w x a b := rfl
theorem strip2 (w x a b) : k0_pay18 (F := Ideal) (k0_pay2 w) x a b = k0_pay6 (F := Ideal) w x a b := rfl
theorem strip3 (w x a b) : k0_pay24 (F := Ideal) (k0_pay2 w) x a b = k0_pay6 (F := Ideal) w x a b := rfl
/-- So do those of the up projection's. -/
theorem strip4 (w x a) : k0_pay14 (F := Ideal) (k0_pay13 (F := Ideal) (k0_pay2 w) x a) = k0_pay8 (F := Ideal) (k0_pay7 (F := Ideal) w x a) := rfl
theorem strip5 (w x a) : k0_pay20 (F := Ideal) (k0_pay19 (F := Ideal) (k0_pay2 w) x a) = k0_pay8 (F := Ideal) (k0_pay7 (F := Ideal) w x a) := rfl
theorem strip6 (w x a) : k0_pay1 (F := Ideal) (k0_pay25 (F := Ideal) (k0_pay2 w) x a) = k0_pay8 (F := Ideal) (k0_pay7 (F := Ideal) w x a) := rfl

/-- The activation's cotangent from a point's blocks. -/
def dot (x0 : FVec Ideal S2048x1024 .bf16) (x1 : FVec Ideal S1x1x704x1024 .bf16) (r : Fin 2048) (f : Fin 704) : EReal :=
  ∑ k : Fin 1024, x0 (ix2 r k) * x1 (ix4 0 0 f k)

/-- What the body leaves at a place of its block. -/
def left (x0 : FVec Ideal S2048x1024 .bf16) (x1 : FVec Ideal S1x1x704x1024 .bf16) (x2 : FVec Ideal S1x2x2048x704 .bf16)
    (g : Fin 2) (r : Fin 2048) (f : Fin 704) : EReal :=
  if g.val < 1 then dgate (dot x0 x1 r f) (x2 (ix4 0 0 r f)) (x2 (ix4 0 1 r f))
  else dup (dot x0 x1 r f) (x2 (ix4 0 0 r f))

theorem left_gate {x0 x1 x2} {g : Fin 2} {r f} (h : g.val < 1) : left x0 x1 x2 g r f
    = dgate (dot x0 x1 r f) (x2 (ix4 0 0 r f)) (x2 (ix4 0 1 r f)) := if_pos h

theorem left_up {x0 x1 x2} {g : Fin 2} {r f} (h : ¬ g.val < 1) : left x0 x1 x2 g r f
    = dup (dot x0 x1 r f) (x2 (ix4 0 0 r f)) := if_neg h

/-- A strip of the cotangent's rows. -/
theorem rows_apply (x0 : Vec Ideal S2048x1024 .bf16) (o : ℕ) (h) (r : Fin 512) (R : Fin 2048) (hR : R.val = o + r.val) (k : Fin 1024) :
    (View.ld (Val := Elt Ideal) (e' := .bf16) x0 (Rect.unit (s := S2048x1024) ![o, 0] S512x1024.size h) (ix2 r k : S512x1024.Idx)) = x0 (ix2 R k) := by
  have e : (Rect.unit (s := S2048x1024) ![o, 0] S512x1024.size h).emb (ix2 r k : S512x1024.Idx) = (ix2 R k : S2048x1024.Idx) := by
    blk_ext
  unfold View.ld
  exact congrArg x0 e

/-- A strip of one of the two planes. -/
theorem plane_apply (x2 : Vec Ideal S1x2x2048x704 .bf16) (p o : ℕ) (h) (z0 z1 : Fin 1) (r : Fin 512) (f : Fin 704) (P : Fin 2)
    (hP : P.val = p) (R : Fin 2048) (hR : R.val = o + r.val) :
    (View.ld (Val := Elt Ideal) (e' := .bf16) x2 (Rect.unit (s := S1x2x2048x704) ![0, p, o, 0] S1x1x512x704.size h) (ix4 z0 z1 r f : S1x1x512x704.Idx)) = x2 (ix4 0 P R f) := by
  have e : (Rect.unit (s := S1x2x2048x704) ![0, p, o, 0] S1x1x512x704.size h).emb (ix4 z0 z1 r f : S1x1x512x704.Idx)
      = (ix4 0 P R f : S1x2x2048x704.Idx) := by
    blk_ext
  unfold View.ld
  exact congrArg x2 e

/-- One strip of the gate's plane. -/
theorem gate_strip (x0 : Vec Ideal S2048x1024 .bf16) (x1 : Vec Ideal S1x1x704x1024 .bf16) (x2 : Vec Ideal S1x2x2048x704 .bf16)
    (o : ℕ) (h0 h1 h2) (z0 z1 : Fin 1) (r : Fin 512) (f : Fin 704) (g : Fin 2) (hg : g.val = z1.val) (R : Fin 2048) (hR : R.val = o + r.val) :
    k0_pay6 (F := Ideal) x1 (View.ld x0 (Rect.unit (s := S2048x1024) ![o, 0] S512x1024.size h0))
      (View.ld x2 (Rect.unit (s := S1x2x2048x704) ![0, 0, o, 0] S1x1x512x704.size h1))
      (View.ld x2 (Rect.unit (s := S1x2x2048x704) ![0, 1, o, 0] S1x1x512x704.size h2)) (ix4 z0 z1 r f) = left x0 x1 x2 g R f := by
  rw [gate_apply, left_gate (by omega)]
  exact congr (congr (congrArg dgate (Finset.sum_congr rfl fun k _ => congrArg (fun x : EReal => x * x1 (ix4 0 0 f k)) (rows_apply x0 o h0 r R hR k)))
    (plane_apply x2 0 o h1 0 0 r f 0 rfl R hR)) (plane_apply x2 1 o h2 0 0 r f 1 rfl R hR)

/-- One strip of the up projection's plane. -/
theorem up_strip (x0 : Vec Ideal S2048x1024 .bf16) (x1 : Vec Ideal S1x1x704x1024 .bf16) (x2 : Vec Ideal S1x2x2048x704 .bf16)
    (o : ℕ) (h0 h1) (z0 z1 : Fin 1) (r : Fin 512) (f : Fin 704) (g : Fin 2) (hg : g.val = 1 + z1.val) (R : Fin 2048) (hR : R.val = o + r.val) :
    k0_pay8 (F := Ideal) (k0_pay7 (F := Ideal) x1 (View.ld x0 (Rect.unit (s := S2048x1024) ![o, 0] S512x1024.size h0))
      (View.ld x2 (Rect.unit (s := S1x2x2048x704) ![0, 0, o, 0] S1x1x512x704.size h1))) (ix4 z0 z1 r f) = left x0 x1 x2 g R f := by
  rw [up_apply, left_up (by omega)]
  exact congr (congrArg dup (Finset.sum_congr rfl fun k _ => congrArg (fun x : EReal => x * x1 (ix4 0 0 f k)) (rows_apply x0 o h0 r R hR k)))
    (plane_apply x2 0 o h1 0 0 r f 0 rfl R hR)

/-- The whole block, from its eight strips. -/
theorem out_apply (x0 : Vec Ideal S2048x1024 .bf16) (x1 : Vec Ideal S1x1x704x1024 .bf16) (x2 : Vec Ideal S1x2x2048x704 .bf16)
    (y : S1x2x2048x704.Idx) :
    out0_3 (F := Ideal) x0 x1 x2 y = left x0 x1 x2 (y 1) (y 2) (y 3) := by
  unfold_out out0_3
  rw [strip1, strip2, strip3, strip4, strip5, strip6, show View.ld x1 r0_0 = x1 from View.ld_unit_lit _ x1 (by decide)]
  canon_tiles x h
  all_goals
    obtain ⟨z0, z1, r, f, rfl⟩ : ∃ (z0 : Fin 1) (z1 : Fin 1) (r : Fin 512) (f : Fin 704), x = ix4 z0 z1 r f :=
      ⟨x 0, x 1, x 2, x 3, eq_ix4 x⟩
    have e3 : (y 3 : Fin 704) = f := Fin.ext h3
    rw [e3]
  · exact up_strip x0 x1 x2 1536 _ _ z0 z1 r f (y 1) h1 (y 2) h2
  · exact gate_strip x0 x1 x2 1536 _ _ _ z0 z1 r f (y 1) h1 (y 2) h2
  · exact up_strip x0 x1 x2 1024 _ _ z0 z1 r f (y 1) h1 (y 2) h2
  · exact gate_strip x0 x1 x2 1024 _ _ _ z0 z1 r f (y 1) h1 (y 2) h2
  · exact up_strip x0 x1 x2 512 _ _ z0 z1 r f (y 1) h1 (y 2) h2
  · exact gate_strip x0 x1 x2 512 _ _ _ z0 z1 r f (y 1) h1 (y 2) h2
  · exact up_strip x0 x1 x2 0 _ _ z0 z1 r f (y 1) h1 (y 2) (h2.trans (Nat.zero_add _).symm)
  · exact gate_strip x0 x1 x2 0 _ _ _ z0 z1 r f (y 1) h1 (y 2) (h2.trans (Nat.zero_add _).symm)

/-! ## The reference -/

open Cert.GateRefIdeal.Read in
/-- The activation's cotangent. -/
theorem cot_apply (w : FVec Ideal S2816x1024 .f32) (x : FVec Ideal S2048x1024 .f32) (r : Fin 2048) (f : Fin 2816) :
    val_main_v3 (F := Ideal) w x (ix2 r f) = ∑ k : Fin 1024, x (ix2 r k) * w (ix2 f k) := by
  pointwise [val_main_v3]

/-- The logistic function as the reference spells it. -/
def sg' (a : EReal) : EReal := Ideal.div 1 (1 + Ideal.exp (-a))

open Cert.GateRefIdeal.Read in
theorem sg'_apply (a : FVec Ideal S2048x2816 .f32) (i : S2048x2816.Idx) : val_main_v0_2 (F := Ideal) a i = sg' (a i) := by
  pointwise [val_main_v0_2, val_main_call0_v4, val_main_call0_cst_0, val_main_call0_v3, val_main_call0_v2, val_main_call0_cst,
    val_main_call0_v1, val_main_call0_v0, sg']

open Cert.GateRefIdeal.Read in
/-- The gate's cotangent as the reference spells it. -/
theorem da_apply (a b : FVec Ideal S2048x2816 .f32) (w : FVec Ideal S2816x1024 .f32) (x : FVec Ideal S2048x1024 .f32) (i : S2048x2816.Idx) :
    val_main_v6 (F := Ideal) a b w x i
      = val_main_v3 (F := Ideal) w x i * b i * sg' (a i)
        + a i * (val_main_v3 (F := Ideal) w x i * b i) * (sg' (a i) * (1 - sg' (a i))) := by
  rw [← sg'_apply]
  unfold val_main_v6 val_main_call1_v1 val_main_call1_v2 val_main_call1_v0 val_main_v5 val_main_v0_1 val_main_call0_v7
  generalize val_main_v3 (F := Ideal) w x = y
  generalize val_main_v0_2 (F := Ideal) a = s
  pointwise [val_main_call0_v6, val_main_call0_cst_1]

open Cert.GateRefIdeal.Read in
/-- The up projection's cotangent as the reference spells it. -/
theorem db_apply (a : FVec Ideal S2048x2816 .f32) (w : FVec Ideal S2816x1024 .f32) (x : FVec Ideal S2048x1024 .f32) (i : S2048x2816.Idx) :
    val_main_v4 (F := Ideal) a w x i = a i * sg' (a i) * val_main_v3 (F := Ideal) w x i := by
  rw [← sg'_apply]
  unfold val_main_v4 val_main_v0_0
  generalize val_main_v3 (F := Ideal) w x = y
  generalize val_main_v0_2 (F := Ideal) a = s
  pointwise

/-- A change of format keeps the ideal value. -/
theorem truncf_ideal {s : Shape} (x : FVec Ideal s .f32) (h) : truncf (F := Ideal) .bf16 x h = x := rfl

open Cert.GateRefIdeal.Read in
/-- The two cotangents stacked. -/
theorem stack_apply (a b : FVec Ideal S2048x2816 .f32) (w : FVec Ideal S2816x1024 .f32) (x : FVec Ideal S2048x1024 .f32)
    (g : Fin 2) (r : Fin 2048) (f : Fin 2816) :
    val_main_v9 (F := Ideal) a b w x (ix3 g r f)
      = if g.val < 1 then val_main_v6 (F := Ideal) a b w x (ix2 r f) else val_main_v4 (F := Ideal) a w x (ix2 r f) := by
  unfold val_main_v9 val_main_v8 val_main_v7
  generalize val_main_v6 (F := Ideal) a b w x = y
  generalize val_main_v4 (F := Ideal) a w x = z
  pointwise
  split <;> rfl

open Cert.GateRefIdeal.Read in
/-- The stack cut in the four shards. -/
theorem shards_apply (a b : FVec Ideal S2048x2816 .f32) (w : FVec Ideal S2816x1024 .f32) (x : FVec Ideal S2048x1024 .f32)
    (g : Fin 2) (r : Fin 2048) (s : Fin 4) (f : Fin 704) :
    val_main_v10 (F := Ideal) a b w x (ix4 g r s f) = val_main_v9 (F := Ideal) a b w x (ix3 g r ⟨s.val * 704 + f.val, by omega⟩) := by
  rw [val_main_v10]
  generalize val_main_v9 (F := Ideal) a b w x = y
  rw [Pointwise.shapeCast_apply]
  pointwise

/-- The reference's two cotangents over the four argument arrays, the shards first. -/
abbrev cots (a b : FVec Ideal S2048x2816 .f32) (w : FVec Ideal S2816x1024 .f32) (x : FVec Ideal S2048x1024 .f32) : FVec Ideal S4x2x2048x704 .bf16 :=
  Cert.GateRefIdeal.Read.val_main_v12 (F := Ideal) a b w x

open Cert.GateRefIdeal.Read in
theorem cots_apply (a b : FVec Ideal S2048x2816 .f32) (w : FVec Ideal S2816x1024 .f32) (x : FVec Ideal S2048x1024 .f32)
    (s : Fin 4) (g : Fin 2) (r : Fin 2048) (f : Fin 704) :
    cots a b w x (ix4 s g r f)
      = if g.val < 1 then val_main_v6 (F := Ideal) a b w x (ix2 r ⟨s.val * 704 + f.val, by omega⟩)
        else val_main_v4 (F := Ideal) a w x (ix2 r ⟨s.val * 704 + f.val, by omega⟩) := by
  rw [← stack_apply, ← shards_apply, cots, val_main_v12, val_main_v11]
  generalize val_main_v10 (F := Ideal) a b w x = y
  rw [truncf_ideal, Pointwise.transpose_apply]
  pointwise

/-! ## The algebra -/

theorem sg_eq (a : EReal) : sg a = sg' a := by rw [sg, sg', sub_eq_add_neg, zero_add]

theorem sg'_coe (r : ℝ) : sg' r = (((1 + Real.exp (-r))⁻¹ : ℝ) : EReal) := Ideal.logistic_coe r

theorem sg'_top : sg' ⊤ = 1 := by simp [sg', Ideal.div]

theorem sg'_bot : sg' ⊥ = 0 := by
  rw [sg', EReal.neg_bot, Ideal.exp_top, show (1 : EReal) + ⊤ = ⊤ from EReal.coe_add_top 1]
  simp [Ideal.div]

/-- The two spellings of the gate's cotangent agree where the activation's cotangent times the up projection is real. -/
theorem gate_alg (d a b : EReal) (h : ∃ r : ℝ, d * b = r) :
    dgate d a b = d * b * sg' a + a * (d * b) * (sg' a * (1 - sg' a)) := by
  obtain ⟨p, hp⟩ := h
  rw [dgate, sg_eq, hp]
  induction a using EReal.rec with
  | bot => rw [sg'_bot]; simp
  | top =>
    rw [sg'_top, show (1 : EReal) - 1 = 0 from by
      rw [← EReal.coe_one, ← EReal.coe_sub, sub_self, EReal.coe_zero]]
    simp
  | coe x =>
    rw [sg'_coe]
    generalize (1 + Real.exp (-x))⁻¹ = s
    norm_cast
    ring

/-- The two spellings of the up projection's cotangent agree. -/
theorem up_alg (d a : EReal) : dup d a = a * sg' a * d := by
  rw [dup, sg_eq, mul_comm (a * sg' a) d, mul_assoc]

/-- A sum of products of real numbers is real. -/
theorem real_sum {n : ℕ} (f g : Fin n → EReal) (hf : ∀ k, ∃ r : ℝ, f k = r) (hg : ∀ k, ∃ r : ℝ, g k = r) :
    ∃ r : ℝ, ∑ k : Fin n, f k * g k = r :=
  Finset.sum_induction _ (fun x : EReal => ∃ r : ℝ, x = r)
    (fun x y ⟨p, hp⟩ ⟨q, hq⟩ => ⟨p + q, by rw [hp, hq, EReal.coe_add]⟩) ⟨0, rfl⟩
    (fun k _ => by
      obtain ⟨p, hp⟩ := hf k
      obtain ⟨q, hq⟩ := hg k
      exact ⟨p * q, by rw [hp, hq, EReal.coe_mul]⟩)

/-! ## The kernel's blocks -/

variable (m : (ℓ : Loc nD τ sig) → Buf (Elt Ideal) ℓ)

/-- Which block of each array a grid point works on. -/
theorem idx : ∀ t : Fin cfg0.N, win0_0.index t = ![0, 0] ∧ win0_1.index t = ![t.val, 2, 0, 0]
    ∧ win0_2.index t = ![t.val, 0, 0, 0] ∧ win0_3.index t = ![t.val, 0, 0, 0] :=
  (by decide +kernel : ∀ t : Fin grid0.N, _)

/-- The layer's cotangent, whole at every point. -/
theorem block0_apply (c : Dev nD) (t : Fin cfg0.N) (r : Fin 2048) (d : Fin 1024) :
    iblk m c 0 t (ix2 r d) = m ((c : Thread nD τ).loc main_arg3) (ix2 r d) := by
  blk_ext! [iblk, V, idx t]

/-- The projection's array that the host prepares, at an index. -/
theorem weights_apply (c : Dev nD) (s : Fin 4) (r : Fin 704) (d : Fin 1024) :
    V m c (Pipeline.arrRef spec0 1) (ix4 s 2 r d) = m ((c : Thread nD τ).loc main_arg2) (ix2 ⟨s.val * 704 + r.val, by omega⟩ d) := by
  entry_read
  simp only [truncf_ideal]
  pointwise

/-- A block of it. -/
theorem block1_apply (c : Dev nD) (t : Fin cfg0.N) (s : Fin 4) (hs : s.val = t.val) (r : Fin 704) (d : Fin 1024) :
    iblk m c 1 t (ix4 0 0 r d) = V m c (Pipeline.arrRef spec0 1) (ix4 s 2 r d) := by
  have i0 : ((cfg0.win 1).blk t).view.emb (ix4 0 0 r d) = (ix4 s 2 r d : S4x3x704x1024.Idx) := by
    blk_ext [idx t]
  unfold iblk
  rw [View.read_apply, i0]
  exact cast_eq _ _

/-- The activations' array that the host prepares, at an index. -/
theorem acts_apply (c : Dev nD) (s : Fin 4) (g : Fin 2) (r : Fin 2048) (f : Fin 704) :
    V m c (Pipeline.arrRef spec0 2) (ix4 s g r f)
      = if g.val < 1 then m ((c : Thread nD τ).loc main_arg0) (ix2 r ⟨s.val * 704 + f.val, by omega⟩)
        else m ((c : Thread nD τ).loc main_arg1) (ix2 r ⟨s.val * 704 + f.val, by omega⟩) := by
  entry_read
  rw [truncf_ideal]
  pointwise
  split <;> rfl

/-- A block of it. -/
theorem block2_apply (c : Dev nD) (t : Fin cfg0.N) (s : Fin 4) (hs : s.val = t.val) (g : Fin 2) (r : Fin 2048) (f : Fin 704) :
    iblk m c 2 t (ix4 0 g r f) = V m c (Pipeline.arrRef spec0 2) (ix4 s g r f) := by
  have i0 : ((cfg0.win 2).blk t).view.emb (ix4 0 g r f) = (ix4 s g r f : S4x2x2048x704.Idx) := by
    blk_ext [idx t]
  unfold iblk
  rw [View.read_apply, i0]
  exact cast_eq _ _

/-- Where an index of point `t`'s block of the result lies. -/
theorem result_block (t : Fin cfg0.N) (s : Fin 4) (hs : s.val = t.val) (z : Fin 1) (g : Fin 2) (r : Fin 2048) (f : Fin 704) :
    ((cfg0.win 3).blk t).view.emb (ix4 z g r f) = (ix4 s g r f : S4x2x2048x704.Idx) := by
  blk_ext [idx t]

/-- The argument arrays a device holds. -/
abbrev arrA (c : Dev nD) : FVec Ideal S2048x2816 .f32 := m ((c : Thread nD τ).loc main_arg0)
abbrev arrB (c : Dev nD) : FVec Ideal S2048x2816 .f32 := m ((c : Thread nD τ).loc main_arg1)
abbrev arrW (c : Dev nD) : FVec Ideal S2816x1024 .f32 := m ((c : Thread nD τ).loc main_arg2)
abbrev arrD (c : Dev nD) : FVec Ideal S2048x1024 .f32 := m ((c : Thread nD τ).loc main_arg3)

/-- The activation's cotangent from a point's blocks. -/
theorem sum_apply (c : Dev nD) (t : Fin cfg0.N) (s : Fin 4) (hs : s.val = t.val) (r : Fin 2048) (f : Fin 704) :
    dot (iblk m c 0 t) (iblk m c 1 t) r f
      = Cert.GateRefIdeal.Read.val_main_v3 (F := Ideal) (arrW m c) (arrD m c) (ix2 r ⟨s.val * 704 + f.val, by omega⟩) := by
  rw [cot_apply, dot]
  exact Finset.sum_congr rfl fun k _ => congrArg₂ (fun x y : EReal => x * y) (block0_apply m c t r k)
    ((block1_apply m c t s hs f k).trans (weights_apply m c s f k))

/-- What the body stores at an index of point `t`'s block is the reference's cotangent at that block's place in the array. -/
theorem point (c : Dev nD) (hb : ∀ i, ∃ r : ℝ, arrB m c i = (r : EReal)) (hw : ∀ i, ∃ r : ℝ, arrW m c i = (r : EReal))
    (hd : ∀ i, ∃ r : ℝ, arrD m c i = (r : EReal)) (t : Fin cfg0.N) (y : S1x2x2048x704.Idx) :
    out0_3 (F := Ideal) (iblk m c 0 t) (iblk m c 1 t) (iblk m c 2 t) y
      = cots (arrA m c) (arrB m c) (arrW m c) (arrD m c) (((cfg0.win 3).blk t).view.emb y) := by
  have ht : t.val < 4 := lt_of_lt_of_eq t.isLt N_0
  obtain ⟨z, g, r, f, rfl⟩ : ∃ (z : Fin 1) (g : Fin 2) (r : Fin 2048) (f : Fin 704), y = ix4 z g r f :=
    ⟨y 0, y 1, y 2, y 3, eq_ix4 y⟩
  obtain ⟨s, hs⟩ : ∃ s : Fin 4, s.val = t.val := ⟨⟨t.val, ht⟩, rfl⟩
  rw [result_block t s hs, cots_apply, out_apply]
  show left (iblk m c 0 t) (iblk m c 1 t) (iblk m c 2 t) g r f = _
  have ea : (iblk m c 2 t (ix4 0 0 r f) : EReal) = arrA m c (ix2 r ⟨s.val * 704 + f.val, by omega⟩) :=
    (block2_apply m c t s hs 0 r f).trans ((acts_apply m c s 0 r f).trans (if_pos (by decide)))
  have eb : (iblk m c 2 t (ix4 0 1 r f) : EReal) = arrB m c (ix2 r ⟨s.val * 704 + f.val, by omega⟩) :=
    (block2_apply m c t s hs 1 r f).trans ((acts_apply m c s 1 r f).trans (if_neg (by decide)))
  split
  · rename_i h
    rw [left_gate h, da_apply, ← gate_alg]
    · exact congr (congr (congrArg dgate (sum_apply m c t s hs r f)) ea) eb
    · obtain ⟨p, hp⟩ := real_sum (fun k : Fin 1024 => arrD m c (ix2 r k)) (fun k => arrW m c (ix2 ⟨s.val * 704 + f.val, by omega⟩ k))
        (fun k => hd _) (fun k => hw _)
      obtain ⟨q, hq⟩ := hb (ix2 r ⟨s.val * 704 + f.val, by omega⟩)
      exact ⟨p * q, by rw [cot_apply, hq, EReal.coe_mul, ← hp]⟩
  · rename_i h
    rw [left_up h, db_apply, ← up_alg]
    exact congr (congrArg dup (sum_apply m c t s hs r f)) ea

/-- The result array after the run is the reference's. -/
theorem final (c : Dev nD) (hb : ∀ i, ∃ r : ℝ, arrB m c i = (r : EReal)) (hw : ∀ i, ∃ r : ℝ, arrW m c i = (r : EReal))
    (hd : ∀ i, ∃ r : ℝ, arrD m c i = (r : EReal)) :
    (dats m 0 c).arrAt 3 (cfgs 0).N = cots (arrA m c) (arrB m c) (arrW m c) (arrD m c) := by
  refine (dats m 0 c).arrAt_eq_of_covers 3 _ (by decide +kernel) fun t hf y => ?_
  blk_simp
  rw [after0_3]
  exact point m c hb hw hd t y

end Cert.Gate2Ideal.Product

namespace Cert.Proof.Gate2Claims

theorem algebraic : Cert.algebraic_Gate2Ideal_GateRefIdeal_pre_finite_gate := by
  pair_intro
  · run_from Cert.Gate2Ideal.Value.run_blocks m g
  · run_from Cert.GateRefIdeal.Value.run m' g'
    obtain ⟨hb, hw, hd⟩ := Cert.Finite.gate_pre (Cert.Gate2Ideal.Product.arrA m c) (Cert.Gate2Ideal.Product.arrB m c)
      (Cert.Gate2Ideal.Product.arrW m c) (Cert.Gate2Ideal.Product.arrD m c) (hpre c)
    rw [Cert.Gate2Ideal.Product.final m c hb hw hd]
    refine (Cert.GateRefIdeal.Read.val_main_v12_eq (F := Ideal) _ _ _ _).trans ?_
    rw [(hagree c).2.2.2]

end Cert.Proof.Gate2Claims

end
-- ==== Proof.Wdown.lean ====
/- The gradient of the first network's down projection: every block of the kernel's result is the product of the
   hidden values' transpose with the cotangent, which is the derivative that the reference takes. -/
module

public import proofs.«01_k».proof.Defs
public import proofs.«01_k».proof.Proof.Gen.WdownIdeal.Value
public import proofs.«01_k».proof.Proof.Gen.WdownRefIdeal.Read
public import proofs.«01_k».proof.Proof.Gen.WdownRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WdownIdeal.Product

open Cert.WdownIdeal Cert.WdownIdeal.Gen

variable (m : (ℓ : Loc nD τ sig) → Buf (Elt Ideal) ℓ)

/-- The reference's gradient over the two argument arrays. -/
abbrev grad (s : FVec Ideal S2048x2816 .f32) (dy : FVec Ideal S2048x1024 .f32) : FVec Ideal S4x1x704x1024 .bf16 :=
  Cert.WdownRefIdeal.Read.val_main_v5 (F := Ideal) s dy

/-- Which block of each array a grid point works on. -/
theorem idx : ∀ t : Fin cfg0.N, win0_0.index t = ![t.val, 0, 0] ∧ win0_1.index t = ![0, 0]
    ∧ win0_2.index t = ![t.val, 0, 0, 0] :=
  (by decide +kernel : ∀ t : Fin grid0.N, _)

/-- The gradient at an index, as a sum over the rows. -/
theorem grad_apply (s : FVec Ideal S2048x2816 .f32) (dy : FVec Ideal S2048x1024 .f32) (j : S4x1x704x1024.Idx) :
    grad s dy j = ∑ k : Fin 2048, s (ix2 k ⟨(j 0).val * 704 + (j 2).val, by idx_bounds j; omega⟩) * dy (ix2 k (j 3)) := by
  pointwise [grad, Cert.WdownRefIdeal.Read.val_main_v5, Cert.WdownRefIdeal.Read.val_main_v4,
    Cert.WdownRefIdeal.Read.val_main_v3, Cert.WdownRefIdeal.Read.val_main_v2]
  exact Finset.sum_congr rfl fun k _ => mul_comm _ _

/-- What the body stores at an index of point `t`'s block is the gradient at that block's place in the array. -/
theorem point (c : Dev nD) (t : Fin cfg0.N) (y : S1x1x704x1024.Idx) :
    k0_pay1 (F := Ideal) (iblk m c 0 t) (iblk m c 1 t) y
      = grad (m ((c : Thread nD τ).loc main_arg0)) (m ((c : Thread nD τ).loc main_arg1)) (((cfg0.win 2).blk t).view.emb y) := by
  rw [grad_apply]
  pointwise [k0_pay1]
  blk_point [iblk, V, idx t]

/-- The result array after the run is the gradient. -/
theorem final (c : Dev nD) : (dats m 0 c).arrAt 2 (cfgs 0).N
    = grad (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

end Cert.WdownIdeal.Product

namespace Cert.Proof.WdownClaims

theorem algebraic : Cert.algebraic_WdownIdeal_WdownRefIdeal := by
  pair_intro
  · run_from Cert.WdownIdeal.Value.run_blocks m g
  · run_from Cert.WdownRefIdeal.Value.run m' g'
    rw [Cert.WdownIdeal.Product.final m c]
    exact Cert.WdownRefIdeal.Read.val_main_v5_eq _ _

end Cert.Proof.WdownClaims

end
-- ==== Proof.Wgu.lean ====
/- The gradients of the first network's gate and up projections: each block of the kernel's result is the transpose of
   one cotangent's shard times the layer's input, which is the derivative that the reference takes. -/
module

public import proofs.«01_k».proof.Defs
public import proofs.«01_k».proof.Proof.Gen.WguIdeal.Value
public import proofs.«01_k».proof.Proof.Gen.WguRefIdeal.Read
public import proofs.«01_k».proof.Proof.Gen.WguRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WguIdeal.Product

open Cert.WguIdeal Cert.WguIdeal.Gen

variable (m : (ℓ : Loc nD τ sig) → Buf (Elt Ideal) ℓ)

/-- The reference's two gradients, stacked, over the three argument arrays. -/
abbrev grad (h : FVec Ideal S2048x1024 .f32) (da db : FVec Ideal S2048x2816 .f32) : FVec Ideal S4x2x704x1024 .bf16 :=
  Cert.WguRefIdeal.Read.val_main_v14 (F := Ideal) h da db

/-- Which block of each array a grid point works on. -/
theorem idx : ∀ t : Fin cfg0.N, win0_0.index t = ![t.val % 4, t.val / 4, 0, 0] ∧ win0_1.index t = ![0, 0]
    ∧ win0_2.index t = ![t.val % 4, t.val / 4, 0, 0] :=
  (by decide +kernel : ∀ t : Fin grid0.N, _)

/-- A change of format keeps the ideal value. -/
theorem truncf_ideal {s : Shape} (x : FVec Ideal s .f32) (h) : truncf (F := Ideal) .bf16 x h = x := rfl

/-- The gradient of the gate projection, transposed. -/
theorem gate_apply (h : FVec Ideal S2048x1024 .f32) (da : FVec Ideal S2048x2816 .f32) (a : Fin 2816) (b : Fin 1024) :
    Cert.WguRefIdeal.Read.val_main_v7 (F := Ideal) h da (ix2 a b) = ∑ k : Fin 2048, da (ix2 k a) * h (ix2 k b) := by
  pointwise [Cert.WguRefIdeal.Read.val_main_v7, Cert.WguRefIdeal.Read.val_main_v6, Cert.WguRefIdeal.Read.val_main_v5]

/-- The gradient of the up projection, transposed. -/
theorem up_apply (h : FVec Ideal S2048x1024 .f32) (db : FVec Ideal S2048x2816 .f32) (a : Fin 2816) (b : Fin 1024) :
    Cert.WguRefIdeal.Read.val_main_v8 (F := Ideal) h db (ix2 a b) = ∑ k : Fin 2048, db (ix2 k a) * h (ix2 k b) := by
  pointwise [Cert.WguRefIdeal.Read.val_main_v8, Cert.WguRefIdeal.Read.val_main_v4, Cert.WguRefIdeal.Read.val_main_v3]

/-- The two gradients stacked. -/
theorem stack_apply (h : FVec Ideal S2048x1024 .f32) (da db : FVec Ideal S2048x2816 .f32) (g : Fin 2) (a : Fin 2816) (b : Fin 1024) :
    Cert.WguRefIdeal.Read.val_main_v11 (F := Ideal) h da db (ix3 g a b)
      = if g.val < 1 then Cert.WguRefIdeal.Read.val_main_v7 (F := Ideal) h da (ix2 a b)
        else Cert.WguRefIdeal.Read.val_main_v8 (F := Ideal) h db (ix2 a b) := by
  pointwise [Cert.WguRefIdeal.Read.val_main_v11, Cert.WguRefIdeal.Read.val_main_v10, Cert.WguRefIdeal.Read.val_main_v9]
  split <;> rfl

/-- The stack cut in the four shards. -/
theorem shards_apply (h : FVec Ideal S2048x1024 .f32) (da db : FVec Ideal S2048x2816 .f32) (s : Fin 4) (g : Fin 2) (r : Fin 704)
    (c : Fin 1024) :
    Cert.WguRefIdeal.Read.val_main_v12 (F := Ideal) h da db (ix4 g s r c)
      = Cert.WguRefIdeal.Read.val_main_v11 (F := Ideal) h da db (ix3 g ⟨s.val * 704 + r.val, by omega⟩ c) := by
  rw [Cert.WguRefIdeal.Read.val_main_v12]
  generalize Cert.WguRefIdeal.Read.val_main_v11 (F := Ideal) h da db = x
  rw [Pointwise.shapeCast_apply]
  pointwise

/-- The gradient at an index, as a sum over the rows. -/
theorem grad_apply (h : FVec Ideal S2048x1024 .f32) (da db : FVec Ideal S2048x2816 .f32) (s : Fin 4) (g : Fin 2) (r : Fin 704)
    (c : Fin 1024) :
    grad h da db (ix4 s g r c) = ∑ k : Fin 2048,
      (if g.val < 1 then da (ix2 k ⟨s.val * 704 + r.val, by omega⟩) else db (ix2 k ⟨s.val * 704 + r.val, by omega⟩))
        * h (ix2 k c) := by
  have e : grad h da db (ix4 s g r c) = Cert.WguRefIdeal.Read.val_main_v12 (F := Ideal) h da db (ix4 g s r c) := by
    rw [grad, Cert.WguRefIdeal.Read.val_main_v14, Cert.WguRefIdeal.Read.val_main_v13]
    generalize Cert.WguRefIdeal.Read.val_main_v12 (F := Ideal) h da db = x
    rw [truncf_ideal, Pointwise.transpose_apply]
    pointwise
  rw [e, shards_apply, stack_apply]
  split
  · exact gate_apply ..
  · exact up_apply ..

/-- The cotangents' array that the host prepares, at an index. -/
theorem cotangents_apply (c : Dev nD) (s : Fin 4) (g : Fin 2) (r : Fin 2048) (f : Fin 704) :
    V m c (Pipeline.arrRef spec0 0) (ix4 s g r f)
      = if g.val < 1 then m ((c : Thread nD τ).loc main_arg1) (ix2 r ⟨s.val * 704 + f.val, by omega⟩)
        else m ((c : Thread nD τ).loc main_arg2) (ix2 r ⟨s.val * 704 + f.val, by omega⟩) := by
  entry_read
  rw [truncf_ideal]
  pointwise
  split <;> rfl

/-- A block of the cotangents' array. -/
theorem block0_apply (c : Dev nD) (t : Fin cfg0.N) (s : Fin 4) (g : Fin 2) (hs : s.val = t.val % 4) (hg : g.val = t.val / 4)
    (r : Fin 2048) (f : Fin 704) :
    iblk m c 0 t (ix4 0 0 r f) = V m c (Pipeline.arrRef spec0 0) (ix4 s g r f) := by
  have i0 : ((cfg0.win 0).blk t).view.emb (ix4 0 0 r f) = (ix4 s g r f : S4x2x2048x704.Idx) := by
    blk_ext [idx t]
  unfold iblk
  rw [View.read_apply, i0]
  exact cast_eq _ _

/-- The layer's input, whole at every point. -/
theorem block1_apply (c : Dev nD) (t : Fin cfg0.N) (r : Fin 2048) (d : Fin 1024) :
    iblk m c 1 t (ix2 r d) = m ((c : Thread nD τ).loc main_arg0) (ix2 r d) := by
  blk_ext! [iblk, V, idx t]

/-- Where an index of point `t`'s block of the result lies. -/
theorem result_block (t : Fin cfg0.N) (s : Fin 4) (g : Fin 2) (hs : s.val = t.val % 4) (hg : g.val = t.val / 4)
    (a b : Fin 1) (r : Fin 704) (d : Fin 1024) :
    ((cfg0.win 2).blk t).view.emb (ix4 a b r d) = (ix4 s g r d : S4x2x704x1024.Idx) := by
  blk_ext [idx t]

/-- The body's product at an index. -/
theorem payload_apply (x : FVec Ideal S1x1x2048x704 .bf16) (h : FVec Ideal S2048x1024 .bf16) (a b : Fin 1) (r : Fin 704) (d : Fin 1024) :
    k0_pay1 (F := Ideal) x h (ix4 a b r d) = ∑ k : Fin 2048, x (ix4 0 0 k r) * h (ix2 k d) := by
  pointwise [k0_pay1]

/-- What the body stores at an index of point `t`'s block is the gradient at that block's place in the array. -/
theorem point (c : Dev nD) (t : Fin cfg0.N) (y : S1x1x704x1024.Idx) :
    k0_pay1 (F := Ideal) (iblk m c 0 t) (iblk m c 1 t) y
      = grad (m ((c : Thread nD τ).loc main_arg0)) (m ((c : Thread nD τ).loc main_arg1)) (m ((c : Thread nD τ).loc main_arg2))
          (((cfg0.win 2).blk t).view.emb y) := by
  have ht : t.val < 8 := lt_of_lt_of_eq t.isLt N_0
  obtain ⟨a, b, r, d, rfl⟩ : ∃ (a : Fin 1) (b : Fin 1) (r : Fin 704) (d : Fin 1024), y = ix4 a b r d :=
    ⟨y 0, y 1, y 2, y 3, eq_ix4 y⟩
  obtain ⟨s, hs⟩ : ∃ s : Fin 4, s.val = t.val % 4 := ⟨⟨t.val % 4, by omega⟩, rfl⟩
  obtain ⟨g, hg⟩ : ∃ g : Fin 2, g.val = t.val / 4 := ⟨⟨t.val / 4, by omega⟩, rfl⟩
  rw [result_block t s g hs hg, grad_apply, payload_apply]
  exact Finset.sum_congr rfl fun k _ => congrArg₂ (· * ·)
    ((block0_apply m c t s g hs hg k r).trans (cotangents_apply m c s g k r)) (block1_apply m c t k d)

/-- The result array after the run is the gradient. -/
theorem final (c : Dev nD) : (dats m 0 c).arrAt 2 (cfgs 0).N
    = grad (m ((c : Thread nD τ).loc main_arg0)) (m ((c : Thread nD τ).loc main_arg1)) (m ((c : Thread nD τ).loc main_arg2)) := by
  refine (dats m 0 c).arrAt_eq_of_covers 2 _ (by decide +kernel) fun t hf y => ?_
  blk_simp
  rw [after0_2]
  unfold outsAt0
  frame_out
  exact point m c t y

end Cert.WguIdeal.Product

namespace Cert.Proof.WguClaims

theorem algebraic : Cert.algebraic_WguIdeal_WguRefIdeal := by
  pair_intro
  · run_from Cert.WguIdeal.Value.run_blocks m g
  · run_from Cert.WguRefIdeal.Value.run m' g'
    rw [Cert.WguIdeal.Product.final m c]
    refine (Cert.WguRefIdeal.Read.val_main_v14_eq (F := Ideal) _ _ _).trans ?_
    rw [(hagree c).2.2]

end Cert.Proof.WguClaims

end
-- ==== Proof.Dh.lean ====
/- The gradient of the first network's input: the kernel adds, shard by shard, the products of the two cotangents with the
   gate and up projections in an array it carries from point to point; the total is the derivative the reference takes. -/
module

public import proofs.«01_k».proof.Defs
public import proofs.«01_k».proof.Proof.Gen.DhIdeal.Value
public import proofs.«01_k».proof.Proof.Gen.DhRefIdeal.Read
public import proofs.«01_k».proof.Proof.Gen.DhRefIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DhIdeal.Product

open Cert.DhIdeal Cert.DhIdeal.Gen

variable (m : (ℓ : Loc nD τ sig) → Buf (Elt Ideal) ℓ)

/-- The reference's gradient over the four argument arrays. -/
abbrev grad (wg wu : FVec Ideal S1024x2816 .f32) (da db : FVec Ideal S2048x2816 .f32) : FVec Ideal S2048x1024 .f32 :=
  Cert.DhRefIdeal.Read.val_main_v5 (F := Ideal) wg wu da db

/-- Which block of each array a grid point works on. -/
theorem idx : ∀ t : Fin cfg0.N, win0_0.index t = ![t.val, 0, 0, 0] ∧ win0_1.index t = ![t.val, 0, 0, 0]
    ∧ win0_2.index t = ![0, 0] :=
  (by decide +kernel : ∀ t : Fin grid0.N, _)

/-- A change of format keeps the ideal value. -/
theorem truncf_ideal {s : Shape} (x : FVec Ideal s .f32) (h) : truncf (F := Ideal) .bf16 x h = x := rfl

/-- What one shard contributes: the product of each cotangent's shard with its projection's shard, added. -/
def part (x : FVec Ideal S1x2x2048x704 .bf16) (w : FVec Ideal S1x2x704x1024 .bf16) (j : S2048x1024.Idx) : EReal :=
  (∑ k : Fin 704, x (ix4 0 0 (j 0) k) * w (ix4 0 0 k (j 1))) + ∑ k : Fin 704, x (ix4 0 1 (j 0) k) * w (ix4 0 1 k (j 1))

/-- One shard of a product of a cotangent with a projection. -/
def cut (d : FVec Ideal S2048x2816 .f32) (w : FVec Ideal S1024x2816 .f32) (s : Fin 4) (a : Fin 2048) (b : Fin 1024) : EReal :=
  ∑ k : Fin 704, d (ix2 a ⟨s.val * 704 + k.val, by omega⟩) * w (ix2 b ⟨s.val * 704 + k.val, by omega⟩)

/-- The four shards of a product add up to the whole product. -/
theorem sum_cut (d : FVec Ideal S2048x2816 .f32) (w : FVec Ideal S1024x2816 .f32) (a : Fin 2048) (b : Fin 1024) :
    ∑ s : Fin 4, cut d w s a b = ∑ k : Fin 2816, d (ix2 a k) * w (ix2 b k) := by
  unfold cut
  refine Fin.sum_mul_add_congr fun s k hl => ?_
  with_reducible rfl

/-- The gradient at an index: the sum of the four shards' contributions. -/
theorem grad_apply (wg wu : FVec Ideal S1024x2816 .f32) (da db : FVec Ideal S2048x2816 .f32) (a : Fin 2048) (b : Fin 1024) :
    grad wg wu da db (ix2 a b) = ∑ s : Fin 4, (cut da wg s a b + cut db wu s a b) := by
  pointwise [grad, Cert.DhRefIdeal.Read.val_main_v5, Cert.DhRefIdeal.Read.val_main_v4, Cert.DhRefIdeal.Read.val_main_v3]
  rw [Finset.sum_add_distrib, sum_cut, sum_cut, add_comm]

/-- The last point's payload at an index. -/
theorem pay4_apply (v0 v2 v5 v7 acc j) : k0_pay4 (F := Ideal) v0 v2 v5 v7 acc j = acc j +
   ((∑ k : Fin 704, v0 (ix4 0 0 (j 0) k) * v2 (ix4 0 0 k (j 1))) + ∑ k : Fin 704, v5 (ix4 0 0 (j 0) k) * v7 (ix4 0 0 k (j 1))) := by
  pointwise [k0_pay4, k0_pay1]

/-- A middle point's payload at an index. -/
theorem pay3_apply (v0 v2 v5 v7 acc j) : k0_pay3 (F := Ideal) v0 v2 v5 v7 acc j = acc j +
   ((∑ k : Fin 704, v0 (ix4 0 0 (j 0) k) * v2 (ix4 0 0 k (j 1))) + ∑ k : Fin 704, v5 (ix4 0 0 (j 0) k) * v7 (ix4 0 0 k (j 1))) := by
  pointwise [k0_pay3, k0_pay1]

/-- The first point's payload at an index. -/
theorem pay2_apply (v0 v2 v5 v7 j) : k0_pay2 (F := Ideal) v0 v2 v5 v7 j =
   ((∑ k : Fin 704, v0 (ix4 0 0 (j 0) k) * v2 (ix4 0 0 k (j 1))) + ∑ k : Fin 704, v5 (ix4 0 0 (j 0) k) * v7 (ix4 0 0 k (j 1))) := by
  pointwise [k0_pay2, k0_pay1]
/-- The last point's result: what was carried to it plus its own contribution. -/
theorem out_C_apply (c : Dev nD) (n : ℕ) (hn : n + 1 < cfg0.N) (h : (n + 1) % 4 = 3) (j : S2048x1024.Idx) :
    (outsAt0 m c (n + 1) hn).1 j
      = (outsAt0 m c n (Nat.lt_of_succ_lt hn)).2 j + part (iblk m c 0 ⟨n + 1, hn⟩) (iblk m c 1 ⟨n + 1, hn⟩) j := by
  rw [show outsAt0 m c (n + 1) hn = _ from outsAt0_C m c ⟨n + 1, hn⟩ (by dsimp only; omega) (by dsimp only; omega) h]
  frame_out
  rw [pay4_apply, read_unread_whole]
  show (outsAt0 m c n (Nat.lt_of_succ_lt hn)).2 j + _ = _
  refine congrArg _ ?_
  generalize iblk m c 0 ⟨n + 1, hn⟩ = x
  generalize iblk m c 1 ⟨n + 1, hn⟩ = w
  pointwise [part]

/-- A middle point carries on what was carried to it plus its own contribution. -/
theorem out_B_apply (c : Dev nD) (n : ℕ) (hn : n + 1 < cfg0.N) (h : (n + 1) % 4 = 1 ∨ (n + 1) % 4 = 2) (j : S2048x1024.Idx) :
    (outsAt0 m c (n + 1) hn).2 j
      = (outsAt0 m c n (Nat.lt_of_succ_lt hn)).2 j + part (iblk m c 0 ⟨n + 1, hn⟩) (iblk m c 1 ⟨n + 1, hn⟩) j := by
  rw [show outsAt0 m c (n + 1) hn = _ from outsAt0_B m c ⟨n + 1, hn⟩ (by dsimp only; omega) (by dsimp only; omega)
    (by dsimp only; omega)]
  frame_out
  rw [pay3_apply, read_unread_whole]
  show (outsAt0 m c n (Nat.lt_of_succ_lt hn)).2 j + _ = _
  refine congrArg _ ?_
  generalize iblk m c 0 ⟨n + 1, hn⟩ = x
  generalize iblk m c 1 ⟨n + 1, hn⟩ = w
  pointwise [part]

/-- The first point carries its own contribution. -/
theorem out_A_apply (c : Dev nD) (hn : 0 < cfg0.N) (j : S2048x1024.Idx) :
    (outsAt0 m c 0 hn).2 j = part (iblk m c 0 ⟨0, hn⟩) (iblk m c 1 ⟨0, hn⟩) j := by
  rw [show outsAt0 m c 0 hn = _ from outsAt0_A m c ⟨0, hn⟩ rfl (by dsimp only; omega) (by dsimp only; omega)]
  frame_out
  rw [pay2_apply]
  generalize iblk m c 0 ⟨0, hn⟩ = x
  generalize iblk m c 1 ⟨0, hn⟩ = w
  pointwise [part]

/-- The cotangents' array that the host prepares, at an index. -/
theorem cotangents_apply (c : Dev nD) (s : Fin 4) (g : Fin 2) (r : Fin 2048) (f : Fin 704) :
    V m c (Pipeline.arrRef spec0 0) (ix4 s g r f)
      = if g.val < 1 then m ((c : Thread nD τ).loc main_arg2) (ix2 r ⟨s.val * 704 + f.val, by omega⟩)
        else m ((c : Thread nD τ).loc main_arg3) (ix2 r ⟨s.val * 704 + f.val, by omega⟩) := by
  entry_read
  rw [truncf_ideal]
  pointwise
  split <;> rfl

/-- The projections' array that the host prepares, at an index. -/
theorem weights_apply (c : Dev nD) (s : Fin 4) (g : Fin 2) (r : Fin 704) (d : Fin 1024) :
    V m c (Pipeline.arrRef spec0 1) (ix4 s g r d)
      = if g.val < 1 then m ((c : Thread nD τ).loc main_arg0) (ix2 d ⟨s.val * 704 + r.val, by omega⟩)
        else m ((c : Thread nD τ).loc main_arg1) (ix2 d ⟨s.val * 704 + r.val, by omega⟩) := by
  entry_read
  rw [truncf_ideal]
  pointwise
  split <;> rfl

/-- A block of the cotangents' array. -/
theorem block0_apply (c : Dev nD) (t : Fin cfg0.N) (s : Fin 4) (hs : s.val = t.val) (g : Fin 2) (r : Fin 2048) (f : Fin 704) :
    iblk m c 0 t (ix4 0 g r f) = V m c (Pipeline.arrRef spec0 0) (ix4 s g r f) := by
  have i0 : ((cfg0.win 0).blk t).view.emb (ix4 0 g r f) = (ix4 s g r f : S4x2x2048x704.Idx) := by
    blk_ext [idx t]
  unfold iblk
  rw [View.read_apply, i0]
  exact cast_eq _ _

/-- A block of the projections' array. -/
theorem block1_apply (c : Dev nD) (t : Fin cfg0.N) (s : Fin 4) (hs : s.val = t.val) (g : Fin 2) (r : Fin 704) (d : Fin 1024) :
    iblk m c 1 t (ix4 0 g r d) = V m c (Pipeline.arrRef spec0 1) (ix4 s g r d) := by
  have i0 : ((cfg0.win 1).blk t).view.emb (ix4 0 g r d) = (ix4 s g r d : S4x2x704x1024.Idx) := by
    blk_ext [idx t]
  unfold iblk
  rw [View.read_apply, i0]
  exact cast_eq _ _

/-- One shard's contribution over the argument arrays. -/
theorem part_apply (c : Dev nD) (t : Fin cfg0.N) (s : Fin 4) (hs : s.val = t.val) (a : Fin 2048) (b : Fin 1024) :
    part (iblk m c 0 t) (iblk m c 1 t) (ix2 a b)
      = cut (m ((c : Thread nD τ).loc main_arg2)) (m ((c : Thread nD τ).loc main_arg0)) s a b
        + cut (m ((c : Thread nD τ).loc main_arg3)) (m ((c : Thread nD τ).loc main_arg1)) s a b := by
  unfold part cut
  refine congrArg₂ (fun x y : EReal => x + y) (Finset.sum_congr rfl fun k _ => ?_) (Finset.sum_congr rfl fun k _ => ?_)
  · exact congrArg₂ (fun x y : EReal => x * y) ((block0_apply m c t s hs 0 a k).trans ((cotangents_apply m c s 0 a k).trans (if_pos (by decide))))
      ((block1_apply m c t s hs 0 k b).trans ((weights_apply m c s 0 k b).trans (if_pos (by decide))))
  · exact congrArg₂ (fun x y : EReal => x * y) ((block0_apply m c t s hs 1 a k).trans ((cotangents_apply m c s 1 a k).trans (if_neg (by decide))))
      ((block1_apply m c t s hs 1 k b).trans ((weights_apply m c s 1 k b).trans (if_neg (by decide))))

/-- A shard's contribution by its number. -/
def shard (c : Dev nD) (j : S2048x1024.Idx) (s : ℕ) : EReal :=
  if h : s < cfg0.N then part (iblk m c 0 ⟨s, h⟩) (iblk m c 1 ⟨s, h⟩) j else 0

/-- After the first three points the carried array holds the contributions so far. -/
theorem carried (c : Dev nD) (j : S2048x1024.Idx) : ∀ (n : ℕ) (hn : n < cfg0.N), n ≤ 2 →
    (outsAt0 m c n hn).2 j = ∑ s ∈ Finset.range (n + 1), shard m c j s
  | 0, hn, _ => by
    rw [out_A_apply, Finset.sum_range_one, shard, dif_pos hn]
  | n + 1, hn, h => by
    rw [out_B_apply m c n hn (by omega), carried c j n (Nat.lt_of_succ_lt hn) (by omega), Finset.sum_range_succ _ (n + 1), shard,
      dif_pos hn]

/-- The last point's result is the sum of the four contributions. -/
theorem last_apply (c : Dev nD) (t : Fin cfg0.N) (ht : t.val = 3) (j : S2048x1024.Idx) :
    (outsAt0 m c t.val t.isLt).1 j = ∑ s ∈ Finset.range 4, shard m c j s := by
  obtain ⟨n, hn⟩ := t
  obtain rfl : n = 2 + 1 := ht
  rw [out_C_apply m c 2 hn rfl, carried m c j 2 (Nat.lt_of_succ_lt hn) le_rfl, Finset.sum_range_succ _ 3, shard, dif_pos hn]

/-- The result array after the run is the gradient. -/
theorem final (c : Dev nD) : (dats m 0 c).arrAt 2 (cfgs 0).N
    = grad (m ((c : Thread nD τ).loc main_arg0)) (m ((c : Thread nD τ).loc main_arg1)) (m ((c : Thread nD τ).loc main_arg2))
        (m ((c : Thread nD τ).loc main_arg3)) := by
  refine (dats m 0 c).arrAt_eq_of_after_last 2 t0_3 (by decide +kernel) _ fun j => ?_
  obtain ⟨a, b, rfl⟩ : ∃ (a : Fin 2048) (b : Fin 1024), j = ix2 a b := ⟨j 0, j 1, eq_ix2 j⟩
  blk_simp
  rw [after0_2]
  refine (last_apply m c t0_3 (by rfl) _).trans ?_
  rw [grad_apply, Finset.sum_range]
  refine Finset.sum_congr rfl fun s _ => ?_
  rw [shard, dif_pos (lt_of_lt_of_eq s.isLt N_0.symm)]
  exact part_apply m c ⟨s.val, lt_of_lt_of_eq s.isLt N_0.symm⟩ s rfl a b

end Cert.DhIdeal.Product

namespace Cert.Proof.DhClaims

theorem algebraic : Cert.algebraic_DhIdeal_DhRefIdeal := by
  pair_intro
  · run_from Cert.DhIdeal.Value.run_blocks m g
  · run_from Cert.DhRefIdeal.Value.run m' g'
    rw [Cert.DhIdeal.Product.final m c]
    exact Cert.DhRefIdeal.Read.val_main_v5_eq _ _ _ _

end Cert.Proof.DhClaims

end
-- ==== Proof.Dh2.lean ====
/- The gradient of the second network's input: the kernel adds, shard by shard, the products of the two cotangents with the
   gate and up projections in an array it carries from point to point; the total is the derivative the reference takes. -/
module

public import proofs.«01_k».proof.Defs
public import proofs.«01_k».proof.Proof.Gen.Dh2Ideal.Value
public import proofs.«01_k».proof.Proof.Gen.DhRefIdeal.Read
public import proofs.«01_k».proof.Proof.Gen.DhRefIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Dh2Ideal.Product

open Cert.Dh2Ideal Cert.Dh2Ideal.Gen

variable (m : (ℓ : Loc nD τ sig) → Buf (Elt Ideal) ℓ)

/-- The reference's gradient over the four argument arrays. -/
abbrev grad (wg wu : FVec Ideal S1024x2816 .f32) (da db : FVec Ideal S2048x2816 .f32) : FVec Ideal S2048x1024 .f32 :=
  Cert.DhRefIdeal.Read.val_main_v5 (F := Ideal) wg wu da db

/-- Which block of each array a grid point works on. -/
theorem idx : ∀ t : Fin cfg0.N, win0_0.index t = ![t.val, 0, 0, 0] ∧ win0_1.index t = ![t.val, 0, 0, 0]
    ∧ win0_2.index t = ![0, 0] :=
  (by decide +kernel : ∀ t : Fin grid0.N, _)

/-- A change of format keeps the ideal value. -/
theorem truncf_ideal {s : Shape} (x : FVec Ideal s .f32) (h) : truncf (F := Ideal) .bf16 x h = x := rfl

/-- What one shard contributes: the product of each cotangent's shard with its projection's shard, added. -/
def part (x : FVec Ideal S1x2x2048x704 .bf16) (w : FVec Ideal S1x2x704x1024 .bf16) (j : S2048x1024.Idx) : EReal :=
  (∑ k : Fin 704, x (ix4 0 0 (j 0) k) * w (ix4 0 0 k (j 1))) + ∑ k : Fin 704, x (ix4 0 1 (j 0) k) * w (ix4 0 1 k (j 1))

/-- One shard of a product of a cotangent with a projection. -/
def cut (d : FVec Ideal S2048x2816 .f32) (w : FVec Ideal S1024x2816 .f32) (s : Fin 4) (a : Fin 2048) (b : Fin 1024) : EReal :=
  ∑ k : Fin 704, d (ix2 a ⟨s.val * 704 + k.val, by omega⟩) * w (ix2 b ⟨s.val * 704 + k.val, by omega⟩)

/-- The four shards of a product add up to the whole product. -/
theorem sum_cut (d : FVec Ideal S2048x2816 .f32) (w : FVec Ideal S1024x2816 .f32) (a : Fin 2048) (b : Fin 1024) :
    ∑ s : Fin 4, cut d w s a b = ∑ k : Fin 2816, d (ix2 a k) * w (ix2 b k) := by
  unfold cut
  refine Fin.sum_mul_add_congr fun s k hl => ?_
  with_reducible rfl

/-- The gradient at an index: the sum of the four shards' contributions. -/
theorem grad_apply (wg wu : FVec Ideal S1024x2816 .f32) (da db : FVec Ideal S2048x2816 .f32) (a : Fin 2048) (b : Fin 1024) :
    grad wg wu da db (ix2 a b) = ∑ s : Fin 4, (cut da wg s a b + cut db wu s a b) := by
  pointwise [grad, Cert.DhRefIdeal.Read.val_main_v5, Cert.DhRefIdeal.Read.val_main_v4, Cert.DhRefIdeal.Read.val_main_v3]
  rw [Finset.sum_add_distrib, sum_cut, sum_cut, add_comm]

/-- The last point's payload at an index. -/
theorem pay4_apply (v0 v2 v5 v7 acc j) : k0_pay4 (F := Ideal) v0 v2 v5 v7 acc j = acc j +
   ((∑ k : Fin 704, v0 (ix4 0 0 (j 0) k) * v2 (ix4 0 0 k (j 1))) + ∑ k : Fin 704, v5 (ix4 0 0 (j 0) k) * v7 (ix4 0 0 k (j 1))) := by
  pointwise [k0_pay4, k0_pay1]

/-- A middle point's payload at an index. -/
theorem pay3_apply (v0 v2 v5 v7 acc j) : k0_pay3 (F := Ideal) v0 v2 v5 v7 acc j = acc j +
   ((∑ k : Fin 704, v0 (ix4 0 0 (j 0) k) * v2 (ix4 0 0 k (j 1))) + ∑ k : Fin 704, v5 (ix4 0 0 (j 0) k) * v7 (ix4 0 0 k (j 1))) := by
  pointwise [k0_pay3, k0_pay1]

/-- The first point's payload at an index. -/
theorem pay2_apply (v0 v2 v5 v7 j) : k0_pay2 (F := Ideal) v0 v2 v5 v7 j =
   ((∑ k : Fin 704, v0 (ix4 0 0 (j 0) k) * v2 (ix4 0 0 k (j 1))) + ∑ k : Fin 704, v5 (ix4 0 0 (j 0) k) * v7 (ix4 0 0 k (j 1))) := by
  pointwise [k0_pay2, k0_pay1]
/-- The last point's result: what was carried to it plus its own contribution. -/
theorem out_C_apply (c : Dev nD) (n : ℕ) (hn : n + 1 < cfg0.N) (h : (n + 1) % 4 = 3) (j : S2048x1024.Idx) :
    (outsAt0 m c (n + 1) hn).1 j
      = (outsAt0 m c n (Nat.lt_of_succ_lt hn)).2 j + part (iblk m c 0 ⟨n + 1, hn⟩) (X0_1 m c ⟨n + 1, hn⟩) j := by
  rw [show outsAt0 m c (n + 1) hn = _ from outsAt0_C m c ⟨n + 1, hn⟩ (by dsimp only; omega) (by dsimp only; omega) h]
  frame_out
  rw [pay4_apply, read_unread_whole]
  show (outsAt0 m c n (Nat.lt_of_succ_lt hn)).2 j + _ = _
  refine congrArg _ ?_
  generalize iblk m c 0 ⟨n + 1, hn⟩ = x
  generalize X0_1 m c ⟨n + 1, hn⟩ = w
  pointwise [part]

/-- A middle point carries on what was carried to it plus its own contribution. -/
theorem out_B_apply (c : Dev nD) (n : ℕ) (hn : n + 1 < cfg0.N) (h : (n + 1) % 4 = 1 ∨ (n + 1) % 4 = 2) (j : S2048x1024.Idx) :
    (outsAt0 m c (n + 1) hn).2 j
      = (outsAt0 m c n (Nat.lt_of_succ_lt hn)).2 j + part (iblk m c 0 ⟨n + 1, hn⟩) (X0_1 m c ⟨n + 1, hn⟩) j := by
  rw [show outsAt0 m c (n + 1) hn = _ from outsAt0_B m c ⟨n + 1, hn⟩ (by dsimp only; omega) (by dsimp only; omega)
    (by dsimp only; omega)]
  frame_out
  rw [pay3_apply, read_unread_whole]
  show (outsAt0 m c n (Nat.lt_of_succ_lt hn)).2 j + _ = _
  refine congrArg _ ?_
  generalize iblk m c 0 ⟨n + 1, hn⟩ = x
  generalize X0_1 m c ⟨n + 1, hn⟩ = w
  pointwise [part]

/-- The first point carries its own contribution. -/
theorem out_A_apply (c : Dev nD) (hn : 0 < cfg0.N) (j : S2048x1024.Idx) :
    (outsAt0 m c 0 hn).2 j = part (iblk m c 0 ⟨0, hn⟩) (X0_1 m c ⟨0, hn⟩) j := by
  rw [show outsAt0 m c 0 hn = _ from outsAt0_A m c ⟨0, hn⟩ rfl (by dsimp only; omega) (by dsimp only; omega)]
  frame_out
  rw [pay2_apply]
  generalize iblk m c 0 ⟨0, hn⟩ = x
  generalize X0_1 m c ⟨0, hn⟩ = w
  pointwise [part]

/-- The cotangents' array that the host prepares, at an index. -/
theorem cotangents_apply (c : Dev nD) (s : Fin 4) (g : Fin 2) (r : Fin 2048) (f : Fin 704) :
    V m c (Pipeline.arrRef spec0 0) (ix4 s g r f)
      = if g.val < 1 then m ((c : Thread nD τ).loc main_arg2) (ix2 r ⟨s.val * 704 + f.val, by omega⟩)
        else m ((c : Thread nD τ).loc main_arg3) (ix2 r ⟨s.val * 704 + f.val, by omega⟩) := by
  entry_read
  rw [truncf_ideal]
  pointwise
  split <;> rfl

/-- The first two planes of three. -/
theorem slots_apply (x : FVec Ideal S4x2x704x1024 .bf16) (y : FVec Ideal S4x1x704x1024 .bf16) (s : Fin 4) (p : Fin 3) (hp : p.val < 2)
    (r : Fin 704) (d : Fin 1024) :
    concatenate S4x3x704x1024 1 [⟨S4x2x704x1024, x⟩, ⟨S4x1x704x1024, y⟩] concatenates_S4x2x704x1024_S4x1x704x1024_S4x3x704x1024_d1
      (ix4 s p r d) = x (ix4 s ⟨p.val, hp⟩ r d) := by
  pointwise
  exact dif_pos hp

/-- The projections' array that the host prepares, at an index. -/
theorem weights_apply (c : Dev nD) (s : Fin 4) (g : Fin 2) (r : Fin 704) (d : Fin 1024) :
    V m c (Pipeline.arrRef spec0 1) (ix4 s (g.castSucc : Fin 3) r d)
      = if g.val < 1 then m ((c : Thread nD τ).loc main_arg0) (ix2 d ⟨s.val * 704 + r.val, by omega⟩)
        else m ((c : Thread nD τ).loc main_arg1) (ix2 d ⟨s.val * 704 + r.val, by omega⟩) := by
  entry_read
  refine (slots_apply _ _ s g.castSucc g.isLt r d).trans ?_
  rw [truncf_ideal]
  rw [show (⟨(g.castSucc : Fin 3).val, g.isLt⟩ : Fin 2) = g from rfl]
  pointwise
  split <;> (after_results_loop; pointwise)

/-- A block of the cotangents' array. -/
theorem block0_apply (c : Dev nD) (t : Fin cfg0.N) (s : Fin 4) (hs : s.val = t.val) (g : Fin 2) (r : Fin 2048) (f : Fin 704) :
    iblk m c 0 t (ix4 0 g r f) = V m c (Pipeline.arrRef spec0 0) (ix4 s g r f) := by
  have i0 : ((cfg0.win 0).blk t).view.emb (ix4 0 g r f) = (ix4 s g r f : S4x2x2048x704.Idx) := by
    blk_ext [idx t]
  unfold iblk
  rw [View.read_apply, i0]
  exact cast_eq _ _

/-- A block of the projections' array. -/
theorem block1_apply (c : Dev nD) (t : Fin cfg0.N) (s : Fin 4) (hs : s.val = t.val) (g : Fin 2) (r : Fin 704) (d : Fin 1024) :
    X0_1 m c t (ix4 0 g r d) = V m c (Pipeline.arrRef spec0 1) (ix4 s (g.castSucc : Fin 3) r d) := by
  unfold X0_1 Pipeline.Window.fill
  rw [dif_pos (moved0_1 t _)]
  unfold iblk
  rw [View.read_apply]
  refine (cast_eq _ _).trans (congrArg _ ?_)
  blk_ext [idx t]
  rfl

/-- One shard's contribution over the argument arrays. -/
theorem part_apply (c : Dev nD) (t : Fin cfg0.N) (s : Fin 4) (hs : s.val = t.val) (a : Fin 2048) (b : Fin 1024) :
    part (iblk m c 0 t) (X0_1 m c t) (ix2 a b)
      = cut (m ((c : Thread nD τ).loc main_arg2)) (m ((c : Thread nD τ).loc main_arg0)) s a b
        + cut (m ((c : Thread nD τ).loc main_arg3)) (m ((c : Thread nD τ).loc main_arg1)) s a b := by
  unfold part cut
  refine congrArg₂ (fun x y : EReal => x + y) (Finset.sum_congr rfl fun k _ => ?_) (Finset.sum_congr rfl fun k _ => ?_)
  · exact congrArg₂ (fun x y : EReal => x * y) ((block0_apply m c t s hs 0 a k).trans ((cotangents_apply m c s 0 a k).trans (if_pos (by decide))))
      ((block1_apply m c t s hs 0 k b).trans ((weights_apply m c s 0 k b).trans (if_pos (by decide))))
  · exact congrArg₂ (fun x y : EReal => x * y) ((block0_apply m c t s hs 1 a k).trans ((cotangents_apply m c s 1 a k).trans (if_neg (by decide))))
      ((block1_apply m c t s hs 1 k b).trans ((weights_apply m c s 1 k b).trans (if_neg (by decide))))

/-- A shard's contribution by its number. -/
def shard (c : Dev nD) (j : S2048x1024.Idx) (s : ℕ) : EReal :=
  if h : s < cfg0.N then part (iblk m c 0 ⟨s, h⟩) (X0_1 m c ⟨s, h⟩) j else 0

/-- After the first three points the carried array holds the contributions so far. -/
theorem carried (c : Dev nD) (j : S2048x1024.Idx) : ∀ (n : ℕ) (hn : n < cfg0.N), n ≤ 2 →
    (outsAt0 m c n hn).2 j = ∑ s ∈ Finset.range (n + 1), shard m c j s
  | 0, hn, _ => by
    rw [out_A_apply, Finset.sum_range_one, shard, dif_pos hn]
  | n + 1, hn, h => by
    rw [out_B_apply m c n hn (by omega), carried c j n (Nat.lt_of_succ_lt hn) (by omega), Finset.sum_range_succ _ (n + 1), shard,
      dif_pos hn]

/-- The last point's result is the sum of the four contributions. -/
theorem last_apply (c : Dev nD) (t : Fin cfg0.N) (ht : t.val = 3) (j : S2048x1024.Idx) :
    (outsAt0 m c t.val t.isLt).1 j = ∑ s ∈ Finset.range 4, shard m c j s := by
  obtain ⟨n, hn⟩ := t
  obtain rfl : n = 2 + 1 := ht
  rw [out_C_apply m c 2 hn rfl, carried m c j 2 (Nat.lt_of_succ_lt hn) le_rfl, Finset.sum_range_succ _ 3, shard, dif_pos hn]

/-- The result array after the run is the gradient. -/
theorem final (c : Dev nD) : (dats m 0 c).arrAt 2 (cfgs 0).N
    = grad (m ((c : Thread nD τ).loc main_arg0)) (m ((c : Thread nD τ).loc main_arg1)) (m ((c : Thread nD τ).loc main_arg2))
        (m ((c : Thread nD τ).loc main_arg3)) := by
  refine (dats m 0 c).arrAt_eq_of_after_last 2 t0_3 (by decide +kernel) _ fun j => ?_
  obtain ⟨a, b, rfl⟩ : ∃ (a : Fin 2048) (b : Fin 1024), j = ix2 a b := ⟨j 0, j 1, eq_ix2 j⟩
  blk_simp
  rw [after0_2]
  refine (last_apply m c t0_3 (by rfl) _).trans ?_
  rw [grad_apply, Finset.sum_range]
  refine Finset.sum_congr rfl fun s _ => ?_
  rw [shard, dif_pos (lt_of_lt_of_eq s.isLt N_0.symm)]
  exact part_apply m c ⟨s.val, lt_of_lt_of_eq s.isLt N_0.symm⟩ s rfl a b

end Cert.Dh2Ideal.Product

namespace Cert.Proof.Dh2Claims

theorem algebraic : Cert.algebraic_Dh2Ideal_DhRefIdeal := by
  pair_intro
  · run_from Cert.Dh2Ideal.Value.run_blocks m g
  · run_from Cert.DhRefIdeal.Value.run m' g'
    rw [Cert.Dh2Ideal.Product.final m c]
    exact Cert.DhRefIdeal.Read.val_main_v5_eq _ _ _ _

end Cert.Proof.Dh2Claims

end
-- ==== Proof.GateUp.lean ====
/- The first network's gate and up projections and its activation: what one grid point of the kernel stores in the two planes of
   products and in the activations is what the reference computes there. -/
module

public import proofs.«01_k».proof.Defs
public import proofs.«01_k».proof.Proof.Gen.GateUpIdeal.Value
public import proofs.«01_k».proof.Proof.Gen.GateUpRefIdeal.Read
public import proofs.«01_k».proof.Proof.Gen.GateUpRefIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateUpIdeal.Product

open Cert.GateUpIdeal Cert.GateUpIdeal.Gen

/-- The logistic function as the kernel spells it. -/
def sg (a : EReal) : EReal := Ideal.div 1 (1 + Ideal.exp (0 - a))

/-- The logistic function as the reference spells it. -/
def sg' (a : EReal) : EReal := Ideal.div 1 (1 + Ideal.exp (-a))

theorem sg_eq (a : EReal) : sg a = sg' a := by rw [sg, sg', sub_eq_add_neg, zero_add]

/-- A product in a strip of 512 rows: the gate's and the up projection's. -/
theorem a_apply (w : FVec Ideal S1x1x704x1024 .bf16) (x : FVec Ideal S512x1024 .bf16) (r : Fin 512) (f : Fin 704) :
    k0_pay5 (F := Ideal) w x (ix2 r f) = ∑ k : Fin 1024, x (ix2 r k) * w (ix4 0 0 f k) := by
  pointwise [k0_pay5, k0_pay4, k0_pay2]

theorem b_apply (w : FVec Ideal S1x1x704x1024 .bf16) (x : FVec Ideal S512x1024 .bf16) (r : Fin 512) (f : Fin 704) :
    k0_pay6 (F := Ideal) w x (ix2 r f) = ∑ k : Fin 1024, x (ix2 r k) * w (ix4 0 0 f k) := by
  pointwise [k0_pay6, k0_pay4, k0_pay3]

/-- The gate's plane in a strip. -/
theorem gate_apply (w : FVec Ideal S1x1x704x1024 .bf16) (x : FVec Ideal S512x1024 .bf16) (z0 z1 : Fin 1) (r : Fin 512) (f : Fin 704) :
    k0_pay7 (F := Ideal) w x (ix4 z0 z1 r f) = ∑ k : Fin 1024, x (ix2 r k) * w (ix4 0 0 f k) := by
  rw [← a_apply]
  unfold k0_pay7
  generalize k0_pay5 (F := Ideal) w x = y
  pointwise

/-- The up projection's plane in a strip. -/
theorem up_apply (w : FVec Ideal S1x1x704x1024 .bf16) (x : FVec Ideal S512x1024 .bf16) (z0 z1 : Fin 1) (r : Fin 512) (f : Fin 704) :
    k0_pay8 (F := Ideal) w x (ix4 z0 z1 r f) = ∑ k : Fin 1024, x (ix2 r k) * w (ix4 0 0 f k) := by
  rw [← b_apply]
  unfold k0_pay8
  generalize k0_pay6 (F := Ideal) w x = y
  pointwise

/-- The activation in a strip. -/
theorem act_apply (w w' : FVec Ideal S1x1x704x1024 .bf16) (x : FVec Ideal S512x1024 .bf16) (z0 : Fin 1) (r : Fin 512) (f : Fin 704) :
    k0_pay9 (F := Ideal) w w' x (ix3 z0 r f) = (∑ k : Fin 1024, x (ix2 r k) * w (ix4 0 0 f k))
      * sg (∑ k : Fin 1024, x (ix2 r k) * w (ix4 0 0 f k)) * ∑ k : Fin 1024, x (ix2 r k) * w' (ix4 0 0 f k) := by
  rw [← a_apply, ← b_apply, sg]
  unfold k0_pay9
  generalize k0_pay5 (F := Ideal) w x = y
  generalize k0_pay6 (F := Ideal) w' x = y'
  pointwise

/-- The four strips run one text. -/
theorem strip1 (w x) : k0_pay13 (F := Ideal) (k0_pay2 w) x = k0_pay7 (F := Ideal) w x := rfl
theorem strip2 (w x) : k0_pay20 (F := Ideal) (k0_pay19 (k0_pay2 w) x) = k0_pay7 (F := Ideal) w x := rfl
theorem strip3 (w x) : k0_pay26 (F := Ideal) (k0_pay2 w) x = k0_pay7 (F := Ideal) w x := rfl
theorem strip4 (w x) : k0_pay14 (F := Ideal) (k0_pay3 w) x = k0_pay8 (F := Ideal) w x := rfl
theorem strip5 (w x) : k0_pay21 (F := Ideal) (k0_pay18 (k0_pay3 w) x) = k0_pay8 (F := Ideal) w x := rfl
theorem strip6 (w x) : k0_pay27 (F := Ideal) (k0_pay3 w) x = k0_pay8 (F := Ideal) w x := rfl
theorem strip7 (w w' x) : k0_pay15 (F := Ideal) (k0_pay2 w) (k0_pay3 w') x = k0_pay9 (F := Ideal) w w' x := rfl
theorem strip8 (w w' x) : k0_pay22 (F := Ideal) (k0_pay17 (k0_pay2 w) x) (k0_pay18 (k0_pay3 w') x) = k0_pay9 (F := Ideal) w w' x := rfl
theorem strip9 (w w' x) : k0_pay1 (F := Ideal) (k0_pay24 (k0_pay2 w) x) (k0_pay25 (k0_pay3 w') x) k0_pay28
    = k0_pay9 (F := Ideal) w w' x := rfl

/-- A product from a point's blocks. -/
def dot (x0 : FVec Ideal S2048x1024 .bf16) (w : FVec Ideal S1x1x704x1024 .bf16) (r : Fin 2048) (f : Fin 704) : EReal :=
  ∑ k : Fin 1024, x0 (ix2 r k) * w (ix4 0 0 f k)

/-- What the body leaves at a place of the planes. -/
def left (x0 : FVec Ideal S2048x1024 .bf16) (x1 x2 : FVec Ideal S1x1x704x1024 .bf16) (g : Fin 2) (r : Fin 2048) (f : Fin 704) : EReal :=
  if g.val < 1 then dot x0 x1 r f else dot x0 x2 r f

theorem left_gate {x0 x1 x2} {g : Fin 2} {r f} (h : g.val < 1) : left x0 x1 x2 g r f = dot x0 x1 r f := if_pos h
theorem left_up {x0 x1 x2} {g : Fin 2} {r f} (h : ¬ g.val < 1) : left x0 x1 x2 g r f = dot x0 x2 r f := if_neg h

/-- What the body leaves at a place of the activations. -/
def act (x0 : FVec Ideal S2048x1024 .bf16) (x1 x2 : FVec Ideal S1x1x704x1024 .bf16) (r : Fin 2048) (f : Fin 704) : EReal :=
  dot x0 x1 r f * sg (dot x0 x1 r f) * dot x0 x2 r f

/-- A strip of the input's rows. -/
theorem rows_apply (x0 : Vec Ideal S2048x1024 .bf16) (o : ℕ) (h) (r : Fin 512) (R : Fin 2048) (hR : R.val = o + r.val) (k : Fin 1024) :
    (View.ld (Val := Elt Ideal) (e' := .bf16) x0 (Rect.unit (s := S2048x1024) ![o, 0] S512x1024.size h) (ix2 r k : S512x1024.Idx)) = x0 (ix2 R k) := by
  have e : (Rect.unit (s := S2048x1024) ![o, 0] S512x1024.size h).emb (ix2 r k : S512x1024.Idx) = (ix2 R k : S2048x1024.Idx) := by
    blk_ext
  unfold View.ld
  exact congrArg x0 e

/-- A product over a strip of rows. -/
theorem dot_strip (x0 : Vec Ideal S2048x1024 .bf16) (w : FVec Ideal S1x1x704x1024 .bf16) (o : ℕ) (h) (r : Fin 512) (f : Fin 704)
    (R : Fin 2048) (hR : R.val = o + r.val) :
    (∑ k : Fin 1024, (View.ld (Val := Elt Ideal) (e' := .bf16) x0 (Rect.unit (s := S2048x1024) ![o, 0] S512x1024.size h) (ix2 r k : S512x1024.Idx) : EReal)
      * w (ix4 0 0 f k)) = dot x0 w R f :=
  Finset.sum_congr rfl fun k _ => congrArg (fun x : EReal => x * w (ix4 0 0 f k)) (rows_apply x0 o h r R hR k)

/-- One strip of the gate's plane. -/
theorem gate_strip (x0 : Vec Ideal S2048x1024 .bf16) (x1 x2 : Vec Ideal S1x1x704x1024 .bf16)
    (o : ℕ) (h0) (z0 z1 : Fin 1) (r : Fin 512) (f : Fin 704) (g : Fin 2) (hg : g.val = z1.val) (R : Fin 2048) (hR : R.val = o + r.val) :
    k0_pay7 (F := Ideal) x1 (View.ld x0 (Rect.unit (s := S2048x1024) ![o, 0] S512x1024.size h0)) (ix4 z0 z1 r f) = left x0 x1 x2 g R f := by
  rw [gate_apply, left_gate (by omega)]
  exact dot_strip x0 x1 o h0 r f R hR

/-- One strip of the up projection's plane. -/
theorem up_strip (x0 : Vec Ideal S2048x1024 .bf16) (x1 x2 : Vec Ideal S1x1x704x1024 .bf16)
    (o : ℕ) (h0) (z0 z1 : Fin 1) (r : Fin 512) (f : Fin 704) (g : Fin 2) (hg : g.val = 1 + z1.val) (R : Fin 2048) (hR : R.val = o + r.val) :
    k0_pay8 (F := Ideal) x2 (View.ld x0 (Rect.unit (s := S2048x1024) ![o, 0] S512x1024.size h0)) (ix4 z0 z1 r f) = left x0 x1 x2 g R f := by
  rw [up_apply, left_up (by omega)]
  exact dot_strip x0 x2 o h0 r f R hR

/-- One strip of the activations. -/
theorem act_strip (x0 : Vec Ideal S2048x1024 .bf16) (x1 x2 : Vec Ideal S1x1x704x1024 .bf16)
    (o : ℕ) (h0) (z0 : Fin 1) (r : Fin 512) (f : Fin 704) (R : Fin 2048) (hR : R.val = o + r.val) :
    k0_pay9 (F := Ideal) x1 x2 (View.ld x0 (Rect.unit (s := S2048x1024) ![o, 0] S512x1024.size h0)) (ix3 z0 r f) = act x0 x1 x2 R f := by
  rw [act_apply, act]
  exact congrArg₂ (fun a b : EReal => a * sg a * b) (dot_strip x0 x1 o h0 r f R hR) (dot_strip x0 x2 o h0 r f R hR)

/-- The whole block of the planes, from its eight strips. -/
theorem out3_apply (x0 : Vec Ideal S2048x1024 .bf16) (x1 x2 : Vec Ideal S1x1x704x1024 .bf16) (y : S1x2x2048x704.Idx) :
    out0_3 (F := Ideal) x0 x1 x2 y = left x0 x1 x2 (y 1) (y 2) (y 3) := by
  unfold_out out0_3
  rw [strip1, strip2, strip3, strip4, strip5, strip6, show View.ld x1 r0_0 = x1 from View.ld_unit_lit _ x1 (by decide),
    show View.ld x2 r0_0 = x2 from View.ld_unit_lit _ x2 (by decide)]
  canon_tiles x h
  all_goals
    obtain ⟨z0, z1, r, f, rfl⟩ : ∃ (z0 : Fin 1) (z1 : Fin 1) (r : Fin 512) (f : Fin 704), x = ix4 z0 z1 r f :=
      ⟨x 0, x 1, x 2, x 3, eq_ix4 x⟩
    have e3 : (y 3 : Fin 704) = f := Fin.ext h3
    rw [e3]
  · exact up_strip x0 x1 x2 1536 _ z0 z1 r f (y 1) h1 (y 2) h2
  · exact gate_strip x0 x1 x2 1536 _ z0 z1 r f (y 1) h1 (y 2) h2
  · exact up_strip x0 x1 x2 1024 _ z0 z1 r f (y 1) h1 (y 2) h2
  · exact gate_strip x0 x1 x2 1024 _ z0 z1 r f (y 1) h1 (y 2) h2
  · exact up_strip x0 x1 x2 512 _ z0 z1 r f (y 1) h1 (y 2) h2
  · exact gate_strip x0 x1 x2 512 _ z0 z1 r f (y 1) h1 (y 2) h2
  · exact up_strip x0 x1 x2 0 _ z0 z1 r f (y 1) h1 (y 2) (h2.trans (Nat.zero_add _).symm)
  · exact gate_strip x0 x1 x2 0 _ z0 z1 r f (y 1) h1 (y 2) (h2.trans (Nat.zero_add _).symm)

/-- The whole block of the activations, from its four strips. -/
theorem out4_apply (x0 : Vec Ideal S2048x1024 .bf16) (x1 x2 : Vec Ideal S1x1x704x1024 .bf16) (y : S1x2048x704.Idx) :
    out0_4 (F := Ideal) x0 x1 x2 y = act x0 x1 x2 (y 1) (y 2) := by
  unfold_out out0_4
  rw [strip7, strip8, strip9, show View.ld x1 r0_0 = x1 from View.ld_unit_lit _ x1 (by decide),
    show View.ld x2 r0_0 = x2 from View.ld_unit_lit _ x2 (by decide)]
  canon_tiles x h
  all_goals
    obtain ⟨z0, r, f, rfl⟩ : ∃ (z0 : Fin 1) (r : Fin 512) (f : Fin 704), x = ix3 z0 r f :=
      ⟨x 0, x 1, x 2, eq_ix3 x⟩
    have e2 : (y 2 : Fin 704) = f := Fin.ext h2
    rw [e2]
  · exact act_strip x0 x1 x2 1536 _ z0 r f (y 1) h1
  · exact act_strip x0 x1 x2 1024 _ z0 r f (y 1) h1
  · exact act_strip x0 x1 x2 512 _ z0 r f (y 1) h1
  · exact act_strip x0 x1 x2 0 _ z0 r f (y 1) (h1.trans (Nat.zero_add _).symm)

/-! ## The reference -/

open Cert.GateUpRefIdeal.Read in
/-- The gate's product. -/
theorem refa_apply (h : FVec Ideal S2048x1024 .f32) (w : FVec Ideal S1024x2816 .f32) (r : Fin 2048) (f : Fin 2816) :
    val_main_v0 (F := Ideal) h w (ix2 r f) = ∑ k : Fin 1024, h (ix2 r k) * w (ix2 k f) := by
  pointwise [val_main_v0]

open Cert.GateUpRefIdeal.Read in
/-- The up projection's product. -/
theorem refb_apply (h : FVec Ideal S2048x1024 .f32) (w : FVec Ideal S1024x2816 .f32) (r : Fin 2048) (f : Fin 2816) :
    val_main_v1 (F := Ideal) h w (ix2 r f) = ∑ k : Fin 1024, h (ix2 r k) * w (ix2 k f) := by
  pointwise [val_main_v1]

open Cert.GateUpRefIdeal.Read in
/-- The activation. -/
theorem refs_apply (h : FVec Ideal S2048x1024 .f32) (wg wu : FVec Ideal S1024x2816 .f32) (i : Cert.GateUpRefIdeal.S2048x2816.Idx) :
    val_main_v3 (F := Ideal) h wg wu i
      = val_main_v0 (F := Ideal) h wg i * sg' (val_main_v0 (F := Ideal) h wg i) * val_main_v1 (F := Ideal) h wu i := by
  unfold val_main_v3 val_main_v2 val_main_call0_v5 val_main_call0_v3 val_main_call0_v1 val_main_call0_v0
  generalize val_main_v0 (F := Ideal) h wg = y
  generalize val_main_v1 (F := Ideal) h wu = y'
  pointwise [val_main_call0_v4, val_main_call0_cst_0, val_main_call0_v2, val_main_call0_cst, sg']

/-- A change of format keeps the ideal value. -/
theorem truncf_ideal {s : Shape} (x : FVec Ideal s .f32) (h) : truncf (F := Ideal) .bf16 x h = x := rfl

open Cert.GateUpRefIdeal.Read in
/-- The two products stacked. -/
theorem stack_apply (h : FVec Ideal S2048x1024 .f32) (wg wu : FVec Ideal S1024x2816 .f32) (g : Fin 2) (r : Fin 2048) (f : Fin 2816) :
    val_main_v6 (F := Ideal) h wg wu (ix3 g r f)
      = if g.val < 1 then val_main_v0 (F := Ideal) h wg (ix2 r f) else val_main_v1 (F := Ideal) h wu (ix2 r f) := by
  unfold val_main_v6 val_main_v5 val_main_v4
  generalize val_main_v0 (F := Ideal) h wg = y
  generalize val_main_v1 (F := Ideal) h wu = z
  pointwise
  split <;> rfl

open Cert.GateUpRefIdeal.Read in
/-- The stack cut in the four shards. -/
theorem shards_apply (h : FVec Ideal S2048x1024 .f32) (wg wu : FVec Ideal S1024x2816 .f32)
    (g : Fin 2) (r : Fin 2048) (s : Fin 4) (f : Fin 704) :
    val_main_v7 (F := Ideal) h wg wu (ix4 g r s f) = val_main_v6 (F := Ideal) h wg wu (ix3 g r ⟨s.val * 704 + f.val, by omega⟩) := by
  rw [val_main_v7]
  generalize val_main_v6 (F := Ideal) h wg wu = y
  rw [Pointwise.shapeCast_apply]
  pointwise

open Cert.GateUpRefIdeal.Read in
/-- The activations cut in the four shards. -/
theorem cuts_apply (h : FVec Ideal S2048x1024 .f32) (wg wu : FVec Ideal S1024x2816 .f32) (r : Fin 2048) (s : Fin 4) (f : Fin 704) :
    val_main_v10 (F := Ideal) h wg wu (ix3 r s f) = val_main_v3 (F := Ideal) h wg wu (ix2 r ⟨s.val * 704 + f.val, by omega⟩) := by
  rw [val_main_v10]
  generalize val_main_v3 (F := Ideal) h wg wu = y
  rw [Pointwise.shapeCast_apply]
  pointwise

/-- The reference's two results over the argument arrays. -/
abbrev planes (h : FVec Ideal S2048x1024 .f32) (wg wu : FVec Ideal S1024x2816 .f32) : FVec Ideal S4x2x2048x704 .bf16 :=
  Cert.GateUpRefIdeal.Read.val_main_v9 (F := Ideal) h wg wu
abbrev acts (h : FVec Ideal S2048x1024 .f32) (wg wu : FVec Ideal S1024x2816 .f32) : FVec Ideal S4x2048x704 .bf16 :=
  Cert.GateUpRefIdeal.Read.val_main_v12 (F := Ideal) h wg wu

open Cert.GateUpRefIdeal.Read in
theorem planes_apply (h : FVec Ideal S2048x1024 .f32) (wg wu : FVec Ideal S1024x2816 .f32)
    (s : Fin 4) (g : Fin 2) (r : Fin 2048) (f : Fin 704) :
    planes h wg wu (ix4 s g r f)
      = if g.val < 1 then val_main_v0 (F := Ideal) h wg (ix2 r ⟨s.val * 704 + f.val, by omega⟩)
        else val_main_v1 (F := Ideal) h wu (ix2 r ⟨s.val * 704 + f.val, by omega⟩) := by
  rw [← stack_apply, ← shards_apply, planes, val_main_v9, val_main_v8]
  generalize val_main_v7 (F := Ideal) h wg wu = y
  rw [truncf_ideal, Pointwise.transpose_apply]
  pointwise

open Cert.GateUpRefIdeal.Read in
theorem acts_apply (h : FVec Ideal S2048x1024 .f32) (wg wu : FVec Ideal S1024x2816 .f32) (s : Fin 4) (r : Fin 2048) (f : Fin 704) :
    acts h wg wu (ix3 s r f) = val_main_v3 (F := Ideal) h wg wu (ix2 r ⟨s.val * 704 + f.val, by omega⟩) := by
  rw [← cuts_apply, acts, val_main_v12, val_main_v11]
  generalize val_main_v10 (F := Ideal) h wg wu = y
  rw [truncf_ideal, Pointwise.transpose_apply]
  pointwise

/-! ## The kernel's blocks -/

variable (m : (ℓ : Loc nD τ sig) → Buf (Elt Ideal) ℓ)

/-- Which block of each array a grid point works on. -/
theorem idx : ∀ t : Fin cfg0.N, win0_0.index t = ![0, 0] ∧ win0_1.index t = ![t.val, 0, 0, 0]
    ∧ win0_2.index t = ![t.val, 1, 0, 0] ∧ win0_3.index t = ![t.val, 0, 0, 0] ∧ win0_4.index t = ![t.val, 0, 0] :=
  (by decide +kernel : ∀ t : Fin grid0.N, _)

/-- The input, whole at every point. -/
theorem block0_apply (c : Dev nD) (t : Fin cfg0.N) (r : Fin 2048) (d : Fin 1024) :
    iblk m c 0 t (ix2 r d) = m ((c : Thread nD τ).loc main_arg0) (ix2 r d) := by
  blk_ext! [iblk, V, idx t]

/-- The projections' array that the host prepares, at an index. -/
theorem weights_apply (c : Dev nD) (s : Fin 4) (g : Fin 2) (r : Fin 704) (d : Fin 1024) :
    V m c (Pipeline.arrRef spec0 1) (ix4 s g r d)
      = if g.val < 1 then m ((c : Thread nD τ).loc main_arg1) (ix2 d ⟨s.val * 704 + r.val, by omega⟩)
        else m ((c : Thread nD τ).loc main_arg2) (ix2 d ⟨s.val * 704 + r.val, by omega⟩) := by
  entry_read
  rw [truncf_ideal]
  pointwise
  split <;> rfl

/-- A block of it for the gate. -/
theorem block1_apply (c : Dev nD) (t : Fin cfg0.N) (s : Fin 4) (hs : s.val = t.val) (r : Fin 704) (d : Fin 1024) :
    iblk m c 1 t (ix4 0 0 r d) = V m c (Pipeline.arrRef spec0 1) (ix4 s 0 r d) := by
  have i0 : ((cfg0.win 1).blk t).view.emb (ix4 0 0 r d) = (ix4 s 0 r d : S4x2x704x1024.Idx) := by
    blk_ext [idx t]
  unfold iblk
  rw [View.read_apply, i0]
  exact cast_eq _ _

/-- A block of it for the up projection. -/
theorem block2_apply (c : Dev nD) (t : Fin cfg0.N) (s : Fin 4) (hs : s.val = t.val) (r : Fin 704) (d : Fin 1024) :
    iblk m c 2 t (ix4 0 0 r d) = V m c (Pipeline.arrRef spec0 1) (ix4 s 1 r d) := by
  have i0 : ((cfg0.win 2).blk t).view.emb (ix4 0 0 r d) = (ix4 s 1 r d : S4x2x704x1024.Idx) := by
    blk_ext [idx t]
  unfold iblk
  rw [View.read_apply, i0]
  exact cast_eq _ _

/-- Where an index of point `t`'s block of each result lies. -/
theorem planes_block (t : Fin cfg0.N) (s : Fin 4) (hs : s.val = t.val) (z : Fin 1) (g : Fin 2) (r : Fin 2048) (f : Fin 704) :
    ((cfg0.win 3).blk t).view.emb (ix4 z g r f) = (ix4 s g r f : S4x2x2048x704.Idx) := by
  blk_ext [idx t]
theorem acts_block (t : Fin cfg0.N) (s : Fin 4) (hs : s.val = t.val) (z : Fin 1) (r : Fin 2048) (f : Fin 704) :
    ((cfg0.win 4).blk t).view.emb (ix3 z r f) = (ix3 s r f : S4x2048x704.Idx) := by
  blk_ext [idx t]

/-- The argument arrays a device holds. -/
abbrev arrH (c : Dev nD) : FVec Ideal S2048x1024 .f32 := m ((c : Thread nD τ).loc main_arg0)
abbrev arrG (c : Dev nD) : FVec Ideal S1024x2816 .f32 := m ((c : Thread nD τ).loc main_arg1)
abbrev arrU (c : Dev nD) : FVec Ideal S1024x2816 .f32 := m ((c : Thread nD τ).loc main_arg2)

/-- The products from a point's blocks. -/
theorem dota_apply (c : Dev nD) (t : Fin cfg0.N) (s : Fin 4) (hs : s.val = t.val) (r : Fin 2048) (f : Fin 704) :
    dot (iblk m c 0 t) (iblk m c 1 t) r f
      = Cert.GateUpRefIdeal.Read.val_main_v0 (F := Ideal) (arrH m c) (arrG m c) (ix2 r ⟨s.val * 704 + f.val, by omega⟩) := by
  rw [refa_apply, dot]
  exact Finset.sum_congr rfl fun k _ => congrArg₂ (fun x y : EReal => x * y) (block0_apply m c t r k)
    ((block1_apply m c t s hs f k).trans ((weights_apply m c s 0 f k).trans (if_pos (by decide))))
theorem dotb_apply (c : Dev nD) (t : Fin cfg0.N) (s : Fin 4) (hs : s.val = t.val) (r : Fin 2048) (f : Fin 704) :
    dot (iblk m c 0 t) (iblk m c 2 t) r f
      = Cert.GateUpRefIdeal.Read.val_main_v1 (F := Ideal) (arrH m c) (arrU m c) (ix2 r ⟨s.val * 704 + f.val, by omega⟩) := by
  rw [refb_apply, dot]
  exact Finset.sum_congr rfl fun k _ => congrArg₂ (fun x y : EReal => x * y) (block0_apply m c t r k)
    ((block2_apply m c t s hs f k).trans ((weights_apply m c s 1 f k).trans (if_neg (by decide))))

/-- What the body stores at an index of point `t`'s block is the reference's value at that block's place in the array. -/
theorem point3 (c : Dev nD) (t : Fin cfg0.N) (y : S1x2x2048x704.Idx) :
    out0_3 (F := Ideal) (iblk m c 0 t) (iblk m c 1 t) (iblk m c 2 t) y
      = planes (arrH m c) (arrG m c) (arrU m c) (((cfg0.win 3).blk t).view.emb y) := by
  have ht : t.val < 4 := lt_of_lt_of_eq t.isLt N_0
  obtain ⟨z, g, r, f, rfl⟩ : ∃ (z : Fin 1) (g : Fin 2) (r : Fin 2048) (f : Fin 704), y = ix4 z g r f :=
    ⟨y 0, y 1, y 2, y 3, eq_ix4 y⟩
  obtain ⟨s, hs⟩ : ∃ s : Fin 4, s.val = t.val := ⟨⟨t.val, ht⟩, rfl⟩
  rw [planes_block t s hs, planes_apply, out3_apply]
  show left (iblk m c 0 t) (iblk m c 1 t) (iblk m c 2 t) g r f = _
  split
  · rename_i h
    rw [left_gate h]
    exact dota_apply m c t s hs r f
  · rename_i h
    rw [left_up h]
    exact dotb_apply m c t s hs r f

theorem point4 (c : Dev nD) (t : Fin cfg0.N) (y : S1x2048x704.Idx) :
    out0_4 (F := Ideal) (iblk m c 0 t) (iblk m c 1 t) (iblk m c 2 t) y
      = acts (arrH m c) (arrG m c) (arrU m c) (((cfg0.win 4).blk t).view.emb y) := by
  have ht : t.val < 4 := lt_of_lt_of_eq t.isLt N_0
  obtain ⟨z, r, f, rfl⟩ : ∃ (z : Fin 1) (r : Fin 2048) (f : Fin 704), y = ix3 z r f := ⟨y 0, y 1, y 2, eq_ix3 y⟩
  obtain ⟨s, hs⟩ : ∃ s : Fin 4, s.val = t.val := ⟨⟨t.val, ht⟩, rfl⟩
  rw [acts_block t s hs, acts_apply, out4_apply, refs_apply]
  show act (iblk m c 0 t) (iblk m c 1 t) (iblk m c 2 t) r f = _
  rw [act, sg_eq]
  exact congrArg₂ (fun a b : EReal => a * sg' a * b) (dota_apply m c t s hs r f) (dotb_apply m c t s hs r f)

/-- The result arrays after the run are the reference's. -/
theorem final3 (c : Dev nD) : (dats m 0 c).arrAt 3 (cfgs 0).N = planes (arrH m c) (arrG m c) (arrU m c) := by
  refine (dats m 0 c).arrAt_eq_of_covers 3 _ (by decide +kernel) fun t hf y => ?_
  blk_simp
  rw [after0_3]
  exact point3 m c t y
theorem final4 (c : Dev nD) : (dats m 0 c).arrAt 4 (cfgs 0).N = acts (arrH m c) (arrG m c) (arrU m c) := by
  refine (dats m 0 c).arrAt_eq_of_covers 4 _ (by decide +kernel) fun t hf y => ?_
  blk_simp
  rw [after0_4]
  exact point4 m c t y

end Cert.GateUpIdeal.Product

namespace Cert.Proof.GateUpClaims

theorem algebraic : Cert.algebraic_GateUpIdeal_GateUpRefIdeal := by
  pair_intro
  · run_from Cert.GateUpIdeal.Value.run_blocks m g
  · run_from Cert.GateUpRefIdeal.Value.run m' g'
    · rw [Cert.GateUpIdeal.Product.final3 m c]
      rw [(hagree c).2.2]
      exact Cert.GateUpRefIdeal.Read.val_main_v9_eq (F := Ideal) _ _ _
    · rw [Cert.GateUpIdeal.Product.final4 m c]
      exact Cert.GateUpRefIdeal.Read.val_main_v12_eq (F := Ideal) _ _ _

end Cert.Proof.GateUpClaims

end
-- ==== Proof.GateUp2.lean ====
/- The second network's gate and up projections and its activation: what one grid point of the kernel stores in the two planes of
   products and in the activations is what the reference computes there. -/
module

public import proofs.«01_k».proof.Defs
public import proofs.«01_k».proof.Proof.Gen.GateUp2Ideal.Value
public import proofs.«01_k».proof.Proof.Gen.GateUpRefIdeal.Read
public import proofs.«01_k».proof.Proof.Gen.GateUpRefIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.GateUp2Ideal.Product

open Cert.GateUp2Ideal Cert.GateUp2Ideal.Gen

/-- The logistic function as the kernel spells it. -/
def sg (a : EReal) : EReal := Ideal.div 1 (1 + Ideal.exp (0 - a))

/-- The logistic function as the reference spells it. -/
def sg' (a : EReal) : EReal := Ideal.div 1 (1 + Ideal.exp (-a))

theorem sg_eq (a : EReal) : sg a = sg' a := by rw [sg, sg', sub_eq_add_neg, zero_add]

/-- A product in a strip of 512 rows: the gate's and the up projection's. -/
theorem a_apply (w : FVec Ideal S1x1x704x1024 .bf16) (x : FVec Ideal S512x1024 .bf16) (r : Fin 512) (f : Fin 704) :
    k0_pay5 (F := Ideal) w x (ix2 r f) = ∑ k : Fin 1024, x (ix2 r k) * w (ix4 0 0 f k) := by
  pointwise [k0_pay5, k0_pay4, k0_pay2]

theorem b_apply (w : FVec Ideal S1x1x704x1024 .bf16) (x : FVec Ideal S512x1024 .bf16) (r : Fin 512) (f : Fin 704) :
    k0_pay6 (F := Ideal) w x (ix2 r f) = ∑ k : Fin 1024, x (ix2 r k) * w (ix4 0 0 f k) := by
  pointwise [k0_pay6, k0_pay4, k0_pay3]

/-- The gate's plane in a strip. -/
theorem gate_apply (w : FVec Ideal S1x1x704x1024 .bf16) (x : FVec Ideal S512x1024 .bf16) (z0 z1 : Fin 1) (r : Fin 512) (f : Fin 704) :
    k0_pay7 (F := Ideal) w x (ix4 z0 z1 r f) = ∑ k : Fin 1024, x (ix2 r k) * w (ix4 0 0 f k) := by
  rw [← a_apply]
  unfold k0_pay7
  generalize k0_pay5 (F := Ideal) w x = y
  pointwise

/-- The up projection's plane in a strip. -/
theorem up_apply (w : FVec Ideal S1x1x704x1024 .bf16) (x : FVec Ideal S512x1024 .bf16) (z0 z1 : Fin 1) (r : Fin 512) (f : Fin 704) :
    k0_pay8 (F := Ideal) w x (ix4 z0 z1 r f) = ∑ k : Fin 1024, x (ix2 r k) * w (ix4 0 0 f k) := by
  rw [← b_apply]
  unfold k0_pay8
  generalize k0_pay6 (F := Ideal) w x = y
  pointwise

/-- The activation in a strip. -/
theorem act_apply (w w' : FVec Ideal S1x1x704x1024 .bf16) (x : FVec Ideal S512x1024 .bf16) (z0 : Fin 1) (r : Fin 512) (f : Fin 704) :
    k0_pay9 (F := Ideal) w w' x (ix3 z0 r f) = (∑ k : Fin 1024, x (ix2 r k) * w (ix4 0 0 f k))
      * sg (∑ k : Fin 1024, x (ix2 r k) * w (ix4 0 0 f k)) * ∑ k : Fin 1024, x (ix2 r k) * w' (ix4 0 0 f k) := by
  rw [← a_apply, ← b_apply, sg]
  unfold k0_pay9
  generalize k0_pay5 (F := Ideal) w x = y
  generalize k0_pay6 (F := Ideal) w' x = y'
  pointwise

/-- The four strips run one text. -/
theorem strip1 (w x) : k0_pay13 (F := Ideal) (k0_pay2 w) x = k0_pay7 (F := Ideal) w x := rfl
theorem strip2 (w x) : k0_pay20 (F := Ideal) (k0_pay19 (k0_pay2 w) x) = k0_pay7 (F := Ideal) w x := rfl
theorem strip3 (w x) : k0_pay26 (F := Ideal) (k0_pay2 w) x = k0_pay7 (F := Ideal) w x := rfl
theorem strip4 (w x) : k0_pay14 (F := Ideal) (k0_pay3 w) x = k0_pay8 (F := Ideal) w x := rfl
theorem strip5 (w x) : k0_pay21 (F := Ideal) (k0_pay18 (k0_pay3 w) x) = k0_pay8 (F := Ideal) w x := rfl
theorem strip6 (w x) : k0_pay27 (F := Ideal) (k0_pay3 w) x = k0_pay8 (F := Ideal) w x := rfl
theorem strip7 (w w' x) : k0_pay15 (F := Ideal) (k0_pay2 w) (k0_pay3 w') x = k0_pay9 (F := Ideal) w w' x := rfl
theorem strip8 (w w' x) : k0_pay22 (F := Ideal) (k0_pay17 (k0_pay2 w) x) (k0_pay18 (k0_pay3 w') x) = k0_pay9 (F := Ideal) w w' x := rfl
theorem strip9 (w w' x) : k0_pay1 (F := Ideal) (k0_pay24 (k0_pay2 w) x) (k0_pay25 (k0_pay3 w') x) k0_pay28
    = k0_pay9 (F := Ideal) w w' x := rfl

/-- A product from a point's blocks. -/
def dot (x0 : FVec Ideal S2048x1024 .bf16) (w : FVec Ideal S1x1x704x1024 .bf16) (r : Fin 2048) (f : Fin 704) : EReal :=
  ∑ k : Fin 1024, x0 (ix2 r k) * w (ix4 0 0 f k)

/-- What the body leaves at a place of the planes. -/
def left (x0 : FVec Ideal S2048x1024 .bf16) (x1 x2 : FVec Ideal S1x1x704x1024 .bf16) (g : Fin 2) (r : Fin 2048) (f : Fin 704) : EReal :=
  if g.val < 1 then dot x0 x1 r f else dot x0 x2 r f

theorem left_gate {x0 x1 x2} {g : Fin 2} {r f} (h : g.val < 1) : left x0 x1 x2 g r f = dot x0 x1 r f := if_pos h
theorem left_up {x0 x1 x2} {g : Fin 2} {r f} (h : ¬ g.val < 1) : left x0 x1 x2 g r f = dot x0 x2 r f := if_neg h

/-- What the body leaves at a place of the activations. -/
def act (x0 : FVec Ideal S2048x1024 .bf16) (x1 x2 : FVec Ideal S1x1x704x1024 .bf16) (r : Fin 2048) (f : Fin 704) : EReal :=
  dot x0 x1 r f * sg (dot x0 x1 r f) * dot x0 x2 r f

/-- A strip of the input's rows. -/
theorem rows_apply (x0 : Vec Ideal S2048x1024 .bf16) (o : ℕ) (h) (r : Fin 512) (R : Fin 2048) (hR : R.val = o + r.val) (k : Fin 1024) :
    (View.ld (Val := Elt Ideal) (e' := .bf16) x0 (Rect.unit (s := S2048x1024) ![o, 0] S512x1024.size h) (ix2 r k : S512x1024.Idx)) = x0 (ix2 R k) := by
  have e : (Rect.unit (s := S2048x1024) ![o, 0] S512x1024.size h).emb (ix2 r k : S512x1024.Idx) = (ix2 R k : S2048x1024.Idx) := by
    blk_ext
  unfold View.ld
  exact congrArg x0 e

/-- A product over a strip of rows. -/
theorem dot_strip (x0 : Vec Ideal S2048x1024 .bf16) (w : FVec Ideal S1x1x704x1024 .bf16) (o : ℕ) (h) (r : Fin 512) (f : Fin 704)
    (R : Fin 2048) (hR : R.val = o + r.val) :
    (∑ k : Fin 1024, (View.ld (Val := Elt Ideal) (e' := .bf16) x0 (Rect.unit (s := S2048x1024) ![o, 0] S512x1024.size h) (ix2 r k : S512x1024.Idx) : EReal)
      * w (ix4 0 0 f k)) = dot x0 w R f :=
  Finset.sum_congr rfl fun k _ => congrArg (fun x : EReal => x * w (ix4 0 0 f k)) (rows_apply x0 o h r R hR k)

/-- One strip of the gate's plane. -/
theorem gate_strip (x0 : Vec Ideal S2048x1024 .bf16) (x1 x2 : Vec Ideal S1x1x704x1024 .bf16)
    (o : ℕ) (h0) (z0 z1 : Fin 1) (r : Fin 512) (f : Fin 704) (g : Fin 2) (hg : g.val = z1.val) (R : Fin 2048) (hR : R.val = o + r.val) :
    k0_pay7 (F := Ideal) x1 (View.ld x0 (Rect.unit (s := S2048x1024) ![o, 0] S512x1024.size h0)) (ix4 z0 z1 r f) = left x0 x1 x2 g R f := by
  rw [gate_apply, left_gate (by omega)]
  exact dot_strip x0 x1 o h0 r f R hR

/-- One strip of the up projection's plane. -/
theorem up_strip (x0 : Vec Ideal S2048x1024 .bf16) (x1 x2 : Vec Ideal S1x1x704x1024 .bf16)
    (o : ℕ) (h0) (z0 z1 : Fin 1) (r : Fin 512) (f : Fin 704) (g : Fin 2) (hg : g.val = 1 + z1.val) (R : Fin 2048) (hR : R.val = o + r.val) :
    k0_pay8 (F := Ideal) x2 (View.ld x0 (Rect.unit (s := S2048x1024) ![o, 0] S512x1024.size h0)) (ix4 z0 z1 r f) = left x0 x1 x2 g R f := by
  rw [up_apply, left_up (by omega)]
  exact dot_strip x0 x2 o h0 r f R hR

/-- One strip of the activations. -/
theorem act_strip (x0 : Vec Ideal S2048x1024 .bf16) (x1 x2 : Vec Ideal S1x1x704x1024 .bf16)
    (o : ℕ) (h0) (z0 : Fin 1) (r : Fin 512) (f : Fin 704) (R : Fin 2048) (hR : R.val = o + r.val) :
    k0_pay9 (F := Ideal) x1 x2 (View.ld x0 (Rect.unit (s := S2048x1024) ![o, 0] S512x1024.size h0)) (ix3 z0 r f) = act x0 x1 x2 R f := by
  rw [act_apply, act]
  exact congrArg₂ (fun a b : EReal => a * sg a * b) (dot_strip x0 x1 o h0 r f R hR) (dot_strip x0 x2 o h0 r f R hR)

/-- The whole block of the planes, from its eight strips. -/
theorem out3_apply (x0 : Vec Ideal S2048x1024 .bf16) (x1 x2 : Vec Ideal S1x1x704x1024 .bf16) (y : S1x2x2048x704.Idx) :
    out0_3 (F := Ideal) x0 x1 x2 y = left x0 x1 x2 (y 1) (y 2) (y 3) := by
  unfold_out out0_3
  rw [strip1, strip2, strip3, strip4, strip5, strip6, show View.ld x1 r0_0 = x1 from View.ld_unit_lit _ x1 (by decide),
    show View.ld x2 r0_0 = x2 from View.ld_unit_lit _ x2 (by decide)]
  canon_tiles x h
  all_goals
    obtain ⟨z0, z1, r, f, rfl⟩ : ∃ (z0 : Fin 1) (z1 : Fin 1) (r : Fin 512) (f : Fin 704), x = ix4 z0 z1 r f :=
      ⟨x 0, x 1, x 2, x 3, eq_ix4 x⟩
    have e3 : (y 3 : Fin 704) = f := Fin.ext h3
    rw [e3]
  · exact up_strip x0 x1 x2 1536 _ z0 z1 r f (y 1) h1 (y 2) h2
  · exact gate_strip x0 x1 x2 1536 _ z0 z1 r f (y 1) h1 (y 2) h2
  · exact up_strip x0 x1 x2 1024 _ z0 z1 r f (y 1) h1 (y 2) h2
  · exact gate_strip x0 x1 x2 1024 _ z0 z1 r f (y 1) h1 (y 2) h2
  · exact up_strip x0 x1 x2 512 _ z0 z1 r f (y 1) h1 (y 2) h2
  · exact gate_strip x0 x1 x2 512 _ z0 z1 r f (y 1) h1 (y 2) h2
  · exact up_strip x0 x1 x2 0 _ z0 z1 r f (y 1) h1 (y 2) (h2.trans (Nat.zero_add _).symm)
  · exact gate_strip x0 x1 x2 0 _ z0 z1 r f (y 1) h1 (y 2) (h2.trans (Nat.zero_add _).symm)

/-- The whole block of the activations, from its four strips. -/
theorem out4_apply (x0 : Vec Ideal S2048x1024 .bf16) (x1 x2 : Vec Ideal S1x1x704x1024 .bf16) (y : S1x2048x704.Idx) :
    out0_4 (F := Ideal) x0 x1 x2 y = act x0 x1 x2 (y 1) (y 2) := by
  unfold_out out0_4
  rw [strip7, strip8, strip9, show View.ld x1 r0_0 = x1 from View.ld_unit_lit _ x1 (by decide),
    show View.ld x2 r0_0 = x2 from View.ld_unit_lit _ x2 (by decide)]
  canon_tiles x h
  all_goals
    obtain ⟨z0, r, f, rfl⟩ : ∃ (z0 : Fin 1) (r : Fin 512) (f : Fin 704), x = ix3 z0 r f :=
      ⟨x 0, x 1, x 2, eq_ix3 x⟩
    have e2 : (y 2 : Fin 704) = f := Fin.ext h2
    rw [e2]
  · exact act_strip x0 x1 x2 1536 _ z0 r f (y 1) h1
  · exact act_strip x0 x1 x2 1024 _ z0 r f (y 1) h1
  · exact act_strip x0 x1 x2 512 _ z0 r f (y 1) h1
  · exact act_strip x0 x1 x2 0 _ z0 r f (y 1) (h1.trans (Nat.zero_add _).symm)

/-! ## The reference -/

open Cert.GateUpRefIdeal.Read in
/-- The gate's product. -/
theorem refa_apply (h : FVec Ideal S2048x1024 .f32) (w : FVec Ideal S1024x2816 .f32) (r : Fin 2048) (f : Fin 2816) :
    val_main_v0 (F := Ideal) h w (ix2 r f) = ∑ k : Fin 1024, h (ix2 r k) * w (ix2 k f) := by
  pointwise [val_main_v0]

open Cert.GateUpRefIdeal.Read in
/-- The up projection's product. -/
theorem refb_apply (h : FVec Ideal S2048x1024 .f32) (w : FVec Ideal S1024x2816 .f32) (r : Fin 2048) (f : Fin 2816) :
    val_main_v1 (F := Ideal) h w (ix2 r f) = ∑ k : Fin 1024, h (ix2 r k) * w (ix2 k f) := by
  pointwise [val_main_v1]

open Cert.GateUpRefIdeal.Read in
/-- The activation. -/
theorem refs_apply (h : FVec Ideal S2048x1024 .f32) (wg wu : FVec Ideal S1024x2816 .f32) (i : Cert.GateUpRefIdeal.S2048x2816.Idx) :
    val_main_v3 (F := Ideal) h wg wu i
      = val_main_v0 (F := Ideal) h wg i * sg' (val_main_v0 (F := Ideal) h wg i) * val_main_v1 (F := Ideal) h wu i := by
  unfold val_main_v3 val_main_v2 val_main_call0_v5 val_main_call0_v3 val_main_call0_v1 val_main_call0_v0
  generalize val_main_v0 (F := Ideal) h wg = y
  generalize val_main_v1 (F := Ideal) h wu = y'
  pointwise [val_main_call0_v4, val_main_call0_cst_0, val_main_call0_v2, val_main_call0_cst, sg']

/-- A change of format keeps the ideal value. -/
theorem truncf_ideal {s : Shape} (x : FVec Ideal s .f32) (h) : truncf (F := Ideal) .bf16 x h = x := rfl

open Cert.GateUpRefIdeal.Read in
/-- The two products stacked. -/
theorem stack_apply (h : FVec Ideal S2048x1024 .f32) (wg wu : FVec Ideal S1024x2816 .f32) (g : Fin 2) (r : Fin 2048) (f : Fin 2816) :
    val_main_v6 (F := Ideal) h wg wu (ix3 g r f)
      = if g.val < 1 then val_main_v0 (F := Ideal) h wg (ix2 r f) else val_main_v1 (F := Ideal) h wu (ix2 r f) := by
  unfold val_main_v6 val_main_v5 val_main_v4
  generalize val_main_v0 (F := Ideal) h wg = y
  generalize val_main_v1 (F := Ideal) h wu = z
  pointwise
  split <;> rfl

open Cert.GateUpRefIdeal.Read in
/-- The stack cut in the four shards. -/
theorem shards_apply (h : FVec Ideal S2048x1024 .f32) (wg wu : FVec Ideal S1024x2816 .f32)
    (g : Fin 2) (r : Fin 2048) (s : Fin 4) (f : Fin 704) :
    val_main_v7 (F := Ideal) h wg wu (ix4 g r s f) = val_main_v6 (F := Ideal) h wg wu (ix3 g r ⟨s.val * 704 + f.val, by omega⟩) := by
  rw [val_main_v7]
  generalize val_main_v6 (F := Ideal) h wg wu = y
  rw [Pointwise.shapeCast_apply]
  pointwise

open Cert.GateUpRefIdeal.Read in
/-- The activations cut in the four shards. -/
theorem cuts_apply (h : FVec Ideal S2048x1024 .f32) (wg wu : FVec Ideal S1024x2816 .f32) (r : Fin 2048) (s : Fin 4) (f : Fin 704) :
    val_main_v10 (F := Ideal) h wg wu (ix3 r s f) = val_main_v3 (F := Ideal) h wg wu (ix2 r ⟨s.val * 704 + f.val, by omega⟩) := by
  rw [val_main_v10]
  generalize val_main_v3 (F := Ideal) h wg wu = y
  rw [Pointwise.shapeCast_apply]
  pointwise

/-- The reference's two results over the argument arrays. -/
abbrev planes (h : FVec Ideal S2048x1024 .f32) (wg wu : FVec Ideal S1024x2816 .f32) : FVec Ideal S4x2x2048x704 .bf16 :=
  Cert.GateUpRefIdeal.Read.val_main_v9 (F := Ideal) h wg wu
abbrev acts (h : FVec Ideal S2048x1024 .f32) (wg wu : FVec Ideal S1024x2816 .f32) : FVec Ideal S4x2048x704 .bf16 :=
  Cert.GateUpRefIdeal.Read.val_main_v12 (F := Ideal) h wg wu

open Cert.GateUpRefIdeal.Read in
theorem planes_apply (h : FVec Ideal S2048x1024 .f32) (wg wu : FVec Ideal S1024x2816 .f32)
    (s : Fin 4) (g : Fin 2) (r : Fin 2048) (f : Fin 704) :
    planes h wg wu (ix4 s g r f)
      = if g.val < 1 then val_main_v0 (F := Ideal) h wg (ix2 r ⟨s.val * 704 + f.val, by omega⟩)
        else val_main_v1 (F := Ideal) h wu (ix2 r ⟨s.val * 704 + f.val, by omega⟩) := by
  rw [← stack_apply, ← shards_apply, planes, val_main_v9, val_main_v8]
  generalize val_main_v7 (F := Ideal) h wg wu = y
  rw [truncf_ideal, Pointwise.transpose_apply]
  pointwise

open Cert.GateUpRefIdeal.Read in
theorem acts_apply (h : FVec Ideal S2048x1024 .f32) (wg wu : FVec Ideal S1024x2816 .f32) (s : Fin 4) (r : Fin 2048) (f : Fin 704) :
    acts h wg wu (ix3 s r f) = val_main_v3 (F := Ideal) h wg wu (ix2 r ⟨s.val * 704 + f.val, by omega⟩) := by
  rw [← cuts_apply, acts, val_main_v12, val_main_v11]
  generalize val_main_v10 (F := Ideal) h wg wu = y
  rw [truncf_ideal, Pointwise.transpose_apply]
  pointwise

/-! ## The kernel's blocks -/

variable (m : (ℓ : Loc nD τ sig) → Buf (Elt Ideal) ℓ)

/-- Which block of each array a grid point works on. -/
theorem idx : ∀ t : Fin cfg0.N, win0_0.index t = ![0, 0] ∧ win0_1.index t = ![t.val, 0, 0, 0]
    ∧ win0_2.index t = ![t.val, 1, 0, 0] ∧ win0_3.index t = ![t.val, 0, 0, 0] ∧ win0_4.index t = ![t.val, 0, 0] :=
  (by decide +kernel : ∀ t : Fin grid0.N, _)

/-- The input, whole at every point. -/
theorem block0_apply (c : Dev nD) (t : Fin cfg0.N) (r : Fin 2048) (d : Fin 1024) :
    iblk m c 0 t (ix2 r d) = m ((c : Thread nD τ).loc main_arg0) (ix2 r d) := by
  blk_ext! [iblk, V, idx t]

/-- The first two planes of three. -/
theorem slots_apply (x : FVec Ideal S4x2x704x1024 .bf16) (y : FVec Ideal S4x1x704x1024 .bf16) (s : Fin 4) (p : Fin 3) (hp : p.val < 2)
    (r : Fin 704) (d : Fin 1024) :
    concatenate S4x3x704x1024 1 [⟨S4x2x704x1024, x⟩, ⟨S4x1x704x1024, y⟩] concatenates_S4x2x704x1024_S4x1x704x1024_S4x3x704x1024_d1
      (ix4 s p r d) = x (ix4 s ⟨p.val, hp⟩ r d) := by
  pointwise
  exact dif_pos hp

/-- The projections' array that the host prepares, at an index. -/
theorem weights_apply (c : Dev nD) (s : Fin 4) (g : Fin 2) (r : Fin 704) (d : Fin 1024) :
    V m c (Pipeline.arrRef spec0 1) (ix4 s (g.castSucc : Fin 3) r d)
      = if g.val < 1 then m ((c : Thread nD τ).loc main_arg1) (ix2 d ⟨s.val * 704 + r.val, by omega⟩)
        else m ((c : Thread nD τ).loc main_arg2) (ix2 d ⟨s.val * 704 + r.val, by omega⟩) := by
  entry_read
  refine (slots_apply _ _ s g.castSucc g.isLt r d).trans ?_
  rw [truncf_ideal]
  rw [show (⟨(g.castSucc : Fin 3).val, g.isLt⟩ : Fin 2) = g from rfl]
  pointwise
  split <;> (after_results_loop; pointwise)

/-- A block of it for the gate. -/
theorem block1_apply (c : Dev nD) (t : Fin cfg0.N) (s : Fin 4) (hs : s.val = t.val) (r : Fin 704) (d : Fin 1024) :
    iblk m c 1 t (ix4 0 0 r d) = V m c (Pipeline.arrRef spec0 1) (ix4 s 0 r d) := by
  have i0 : ((cfg0.win 1).blk t).view.emb (ix4 0 0 r d) = (ix4 s 0 r d : S4x3x704x1024.Idx) := by
    blk_ext [idx t]
  unfold iblk
  rw [View.read_apply, i0]
  exact cast_eq _ _

/-- A block of it for the up projection. -/
theorem block2_apply (c : Dev nD) (t : Fin cfg0.N) (s : Fin 4) (hs : s.val = t.val) (r : Fin 704) (d : Fin 1024) :
    iblk m c 2 t (ix4 0 0 r d) = V m c (Pipeline.arrRef spec0 1) (ix4 s 1 r d) := by
  have i0 : ((cfg0.win 2).blk t).view.emb (ix4 0 0 r d) = (ix4 s 1 r d : S4x3x704x1024.Idx) := by
    blk_ext [idx t]
  unfold iblk
  rw [View.read_apply, i0]
  exact cast_eq _ _

/-- Where an index of point `t`'s block of each result lies. -/
theorem planes_block (t : Fin cfg0.N) (s : Fin 4) (hs : s.val = t.val) (z : Fin 1) (g : Fin 2) (r : Fin 2048) (f : Fin 704) :
    ((cfg0.win 3).blk t).view.emb (ix4 z g r f) = (ix4 s g r f : S4x2x2048x704.Idx) := by
  blk_ext [idx t]
theorem acts_block (t : Fin cfg0.N) (s : Fin 4) (hs : s.val = t.val) (z : Fin 1) (r : Fin 2048) (f : Fin 704) :
    ((cfg0.win 4).blk t).view.emb (ix3 z r f) = (ix3 s r f : S4x2048x704.Idx) := by
  blk_ext [idx t]

/-- The argument arrays a device holds. -/
abbrev arrH (c : Dev nD) : FVec Ideal S2048x1024 .f32 := m ((c : Thread nD τ).loc main_arg0)
abbrev arrG (c : Dev nD) : FVec Ideal S1024x2816 .f32 := m ((c : Thread nD τ).loc main_arg1)
abbrev arrU (c : Dev nD) : FVec Ideal S1024x2816 .f32 := m ((c : Thread nD τ).loc main_arg2)

/-- The products from a point's blocks. -/
theorem dota_apply (c : Dev nD) (t : Fin cfg0.N) (s : Fin 4) (hs : s.val = t.val) (r : Fin 2048) (f : Fin 704) :
    dot (iblk m c 0 t) (iblk m c 1 t) r f
      = Cert.GateUpRefIdeal.Read.val_main_v0 (F := Ideal) (arrH m c) (arrG m c) (ix2 r ⟨s.val * 704 + f.val, by omega⟩) := by
  rw [refa_apply, dot]
  exact Finset.sum_congr rfl fun k _ => congrArg₂ (fun x y : EReal => x * y) (block0_apply m c t r k)
    ((block1_apply m c t s hs f k).trans ((weights_apply m c s 0 f k).trans (if_pos (by decide))))
theorem dotb_apply (c : Dev nD) (t : Fin cfg0.N) (s : Fin 4) (hs : s.val = t.val) (r : Fin 2048) (f : Fin 704) :
    dot (iblk m c 0 t) (iblk m c 2 t) r f
      = Cert.GateUpRefIdeal.Read.val_main_v1 (F := Ideal) (arrH m c) (arrU m c) (ix2 r ⟨s.val * 704 + f.val, by omega⟩) := by
  rw [refb_apply, dot]
  exact Finset.sum_congr rfl fun k _ => congrArg₂ (fun x y : EReal => x * y) (block0_apply m c t r k)
    ((block2_apply m c t s hs f k).trans ((weights_apply m c s 1 f k).trans (if_neg (by decide))))

/-- What the body stores at an index of point `t`'s block is the reference's value at that block's place in the array. -/
theorem point3 (c : Dev nD) (t : Fin cfg0.N) (y : S1x2x2048x704.Idx) :
    out0_3 (F := Ideal) (iblk m c 0 t) (iblk m c 1 t) (iblk m c 2 t) y
      = planes (arrH m c) (arrG m c) (arrU m c) (((cfg0.win 3).blk t).view.emb y) := by
  have ht : t.val < 4 := lt_of_lt_of_eq t.isLt N_0
  obtain ⟨z, g, r, f, rfl⟩ : ∃ (z : Fin 1) (g : Fin 2) (r : Fin 2048) (f : Fin 704), y = ix4 z g r f :=
    ⟨y 0, y 1, y 2, y 3, eq_ix4 y⟩
  obtain ⟨s, hs⟩ : ∃ s : Fin 4, s.val = t.val := ⟨⟨t.val, ht⟩, rfl⟩
  rw [planes_block t s hs, planes_apply, out3_apply]
  show left (iblk m c 0 t) (iblk m c 1 t) (iblk m c 2 t) g r f = _
  split
  · rename_i h
    rw [left_gate h]
    exact dota_apply m c t s hs r f
  · rename_i h
    rw [left_up h]
    exact dotb_apply m c t s hs r f

theorem point4 (c : Dev nD) (t : Fin cfg0.N) (y : S1x2048x704.Idx) :
    out0_4 (F := Ideal) (iblk m c 0 t) (iblk m c 1 t) (iblk m c 2 t) y
      = acts (arrH m c) (arrG m c) (arrU m c) (((cfg0.win 4).blk t).view.emb y) := by
  have ht : t.val < 4 := lt_of_lt_of_eq t.isLt N_0
  obtain ⟨z, r, f, rfl⟩ : ∃ (z : Fin 1) (r : Fin 2048) (f : Fin 704), y = ix3 z r f := ⟨y 0, y 1, y 2, eq_ix3 y⟩
  obtain ⟨s, hs⟩ : ∃ s : Fin 4, s.val = t.val := ⟨⟨t.val, ht⟩, rfl⟩
  rw [acts_block t s hs, acts_apply, out4_apply, refs_apply]
  show act (iblk m c 0 t) (iblk m c 1 t) (iblk m c 2 t) r f = _
  rw [act, sg_eq]
  exact congrArg₂ (fun a b : EReal => a * sg' a * b) (dota_apply m c t s hs r f) (dotb_apply m c t s hs r f)

/-- The result arrays after the run are the reference's. -/
theorem final3 (c : Dev nD) : (dats m 0 c).arrAt 3 (cfgs 0).N = planes (arrH m c) (arrG m c) (arrU m c) := by
  refine (dats m 0 c).arrAt_eq_of_covers 3 _ (by decide +kernel) fun t hf y => ?_
  blk_simp
  rw [after0_3]
  exact point3 m c t y
theorem final4 (c : Dev nD) : (dats m 0 c).arrAt 4 (cfgs 0).N = acts (arrH m c) (arrG m c) (arrU m c) := by
  refine (dats m 0 c).arrAt_eq_of_covers 4 _ (by decide +kernel) fun t hf y => ?_
  blk_simp
  rw [after0_4]
  exact point4 m c t y

end Cert.GateUp2Ideal.Product

namespace Cert.Proof.GateUp2Claims

theorem algebraic : Cert.algebraic_GateUp2Ideal_GateUpRefIdeal := by
  pair_intro
  · run_from Cert.GateUp2Ideal.Value.run_blocks m g
  · run_from Cert.GateUpRefIdeal.Value.run m' g'
    · rw [Cert.GateUp2Ideal.Product.final3 m c]
      rw [(hagree c).2.2]
      exact Cert.GateUpRefIdeal.Read.val_main_v9_eq (F := Ideal) _ _ _
    · rw [Cert.GateUp2Ideal.Product.final4 m c]
      exact Cert.GateUpRefIdeal.Read.val_main_v12_eq (F := Ideal) _ _ _

end Cert.Proof.GateUp2Claims

end
-- ==== Proof.Down.lean ====
/- The first network's down projection: the kernel adds, shard by shard, the products of the activations with the projection in an array
   it carries from point to point; the total is the reference's product. -/
module

public import proofs.«01_k».proof.Defs
public import proofs.«01_k».proof.Proof.Gen.DownIdeal.Value
public import proofs.«01_k».proof.Proof.Gen.DownRefIdeal.Read
public import proofs.«01_k».proof.Proof.Gen.DownRefIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DownIdeal.Product

open Cert.DownIdeal Cert.DownIdeal.Gen

variable (m : (ℓ : Loc nD τ sig) → Buf (Elt Ideal) ℓ)

/-- The reference's product over the two argument arrays. -/
abbrev prod (x : FVec Ideal S2048x2816 .f32) (w : FVec Ideal S2816x1024 .f32) : FVec Ideal S2048x1024 .f32 :=
  Cert.DownRefIdeal.Read.val_main_v0 (F := Ideal) x w

/-- Which block of each array a grid point works on. -/
theorem idx : ∀ t : Fin cfg0.N, win0_0.index t = ![t.val, 0, 0] ∧ win0_1.index t = ![t.val, 0, 0, 0]
    ∧ win0_2.index t = ![0, 0] :=
  (by decide +kernel : ∀ t : Fin grid0.N, _)

/-- A change of format keeps the ideal value. -/
theorem truncf_ideal {s : Shape} (x : FVec Ideal s .f32) (h) : truncf (F := Ideal) .bf16 x h = x := rfl

/-- What one shard contributes. -/
def part (x : FVec Ideal S1x2048x704 .bf16) (w : FVec Ideal S1x1x704x1024 .bf16) (j : S2048x1024.Idx) : EReal :=
  ∑ k : Fin 704, x (ix3 0 (j 0) k) * w (ix4 0 0 k (j 1))

/-- One shard of the product. -/
def cut (x : FVec Ideal S2048x2816 .f32) (w : FVec Ideal S2816x1024 .f32) (s : Fin 4) (a : Fin 2048) (b : Fin 1024) : EReal :=
  ∑ k : Fin 704, x (ix2 a ⟨s.val * 704 + k.val, by omega⟩) * w (ix2 ⟨s.val * 704 + k.val, by omega⟩ b)

/-- The four shards add up to the whole product. -/
theorem sum_cut (x : FVec Ideal S2048x2816 .f32) (w : FVec Ideal S2816x1024 .f32) (a : Fin 2048) (b : Fin 1024) :
    ∑ s : Fin 4, cut x w s a b = ∑ k : Fin 2816, x (ix2 a k) * w (ix2 k b) := by
  unfold cut
  refine Fin.sum_mul_add_congr fun s k hl => ?_
  with_reducible rfl

/-- The product at an index: the sum of the four shards' contributions. -/
theorem prod_apply (x : FVec Ideal S2048x2816 .f32) (w : FVec Ideal S2816x1024 .f32) (a : Fin 2048) (b : Fin 1024) :
    prod x w (ix2 a b) = ∑ s : Fin 4, cut x w s a b := by
  rw [sum_cut]
  pointwise [prod, Cert.DownRefIdeal.Read.val_main_v0]

/-- The last point's payload at an index. -/
theorem pay4_apply (v0 v2 acc j) : k0_pay4 (F := Ideal) v0 v2 acc j = acc j + part v0 v2 j := by
  pointwise [k0_pay4, k0_pay1, part]

/-- A middle point's payload at an index. -/
theorem pay3_apply (v0 v2 acc j) : k0_pay3 (F := Ideal) v0 v2 acc j = acc j + part v0 v2 j := by
  pointwise [k0_pay3, k0_pay1, part]

/-- The first point's payload at an index. -/
theorem pay2_apply (v0 v2 j) : k0_pay2 (F := Ideal) v0 v2 j = part v0 v2 j := by
  pointwise [k0_pay2, k0_pay1, part]

/-- The last point's result: what was carried to it plus its own contribution. -/
theorem out_C_apply (c : Dev nD) (n : ℕ) (hn : n + 1 < cfg0.N) (h : (n + 1) % 4 = 3) (j : S2048x1024.Idx) :
    (outsAt0 m c (n + 1) hn).1 j
      = (outsAt0 m c n (Nat.lt_of_succ_lt hn)).2 j + part (iblk m c 0 ⟨n + 1, hn⟩) (iblk m c 1 ⟨n + 1, hn⟩) j := by
  rw [show outsAt0 m c (n + 1) hn = _ from outsAt0_C m c ⟨n + 1, hn⟩ (by dsimp only; omega) (by dsimp only; omega) h]
  frame_out
  rw [pay4_apply, read_unread_whole]
  rfl

/-- A middle point carries on what was carried to it plus its own contribution. -/
theorem out_B_apply (c : Dev nD) (n : ℕ) (hn : n + 1 < cfg0.N) (h : (n + 1) % 4 = 1 ∨ (n + 1) % 4 = 2) (j : S2048x1024.Idx) :
    (outsAt0 m c (n + 1) hn).2 j
      = (outsAt0 m c n (Nat.lt_of_succ_lt hn)).2 j + part (iblk m c 0 ⟨n + 1, hn⟩) (iblk m c 1 ⟨n + 1, hn⟩) j := by
  rw [show outsAt0 m c (n + 1) hn = _ from outsAt0_B m c ⟨n + 1, hn⟩ (by dsimp only; omega) (by dsimp only; omega)
    (by dsimp only; omega)]
  frame_out
  rw [pay3_apply, read_unread_whole]
  rfl

/-- The first point carries its own contribution. -/
theorem out_A_apply (c : Dev nD) (hn : 0 < cfg0.N) (j : S2048x1024.Idx) :
    (outsAt0 m c 0 hn).2 j = part (iblk m c 0 ⟨0, hn⟩) (iblk m c 1 ⟨0, hn⟩) j := by
  rw [show outsAt0 m c 0 hn = _ from outsAt0_A m c ⟨0, hn⟩ rfl (by dsimp only; omega) (by dsimp only; omega)]
  frame_out
  rw [pay2_apply]

/-- The activations' array that the host prepares, at an index. -/
theorem acts_apply (c : Dev nD) (s : Fin 4) (r : Fin 2048) (f : Fin 704) :
    V m c (Pipeline.arrRef spec0 0) (ix3 s r f) = m ((c : Thread nD τ).loc main_arg0) (ix2 r ⟨s.val * 704 + f.val, by omega⟩) := by
  entry_read
  rw [truncf_ideal]
  pointwise

/-- The projection's array that the host prepares, at an index. -/
theorem weights_apply (c : Dev nD) (s : Fin 4) (r : Fin 704) (d : Fin 1024) :
    V m c (Pipeline.arrRef spec0 1) (ix4 s 0 r d) = m ((c : Thread nD τ).loc main_arg1) (ix2 ⟨s.val * 704 + r.val, by omega⟩ d) := by
  entry_read
  rw [truncf_ideal]
  pointwise

/-- A block of the activations. -/
theorem block0_apply (c : Dev nD) (t : Fin cfg0.N) (s : Fin 4) (hs : s.val = t.val) (r : Fin 2048) (f : Fin 704) :
    iblk m c 0 t (ix3 0 r f) = V m c (Pipeline.arrRef spec0 0) (ix3 s r f) := by
  have i0 : ((cfg0.win 0).blk t).view.emb (ix3 0 r f) = (ix3 s r f : S4x2048x704.Idx) := by
    blk_ext [idx t]
  unfold iblk
  rw [View.read_apply, i0]
  exact cast_eq _ _

/-- A block of the projection. -/
theorem block1_apply (c : Dev nD) (t : Fin cfg0.N) (s : Fin 4) (hs : s.val = t.val) (r : Fin 704) (d : Fin 1024) :
    iblk m c 1 t (ix4 0 0 r d) = V m c (Pipeline.arrRef spec0 1) (ix4 s 0 r d) := by
  have i0 : ((cfg0.win 1).blk t).view.emb (ix4 0 0 r d) = (ix4 s 0 r d : S4x1x704x1024.Idx) := by
    blk_ext [idx t]
  unfold iblk
  rw [View.read_apply, i0]
  exact cast_eq _ _

/-- One shard's contribution over the argument arrays. -/
theorem part_apply (c : Dev nD) (t : Fin cfg0.N) (s : Fin 4) (hs : s.val = t.val) (a : Fin 2048) (b : Fin 1024) :
    part (iblk m c 0 t) (iblk m c 1 t) (ix2 a b)
      = cut (m ((c : Thread nD τ).loc main_arg0)) (m ((c : Thread nD τ).loc main_arg1)) s a b := by
  unfold part cut
  exact Finset.sum_congr rfl fun k _ => congrArg₂ (fun x y : EReal => x * y) ((block0_apply m c t s hs a k).trans (acts_apply m c s a k))
    ((block1_apply m c t s hs k b).trans (weights_apply m c s k b))

/-- A shard's contribution by its number. -/
def shard (c : Dev nD) (j : S2048x1024.Idx) (s : ℕ) : EReal :=
  if h : s < cfg0.N then part (iblk m c 0 ⟨s, h⟩) (iblk m c 1 ⟨s, h⟩) j else 0

/-- After the first three points the carried array holds the contributions so far. -/
theorem carried (c : Dev nD) (j : S2048x1024.Idx) : ∀ (n : ℕ) (hn : n < cfg0.N), n ≤ 2 →
    (outsAt0 m c n hn).2 j = ∑ s ∈ Finset.range (n + 1), shard m c j s
  | 0, hn, _ => by
    rw [out_A_apply, Finset.sum_range_one, shard, dif_pos hn]
  | n + 1, hn, h => by
    rw [out_B_apply m c n hn (by omega), carried c j n (Nat.lt_of_succ_lt hn) (by omega), Finset.sum_range_succ _ (n + 1), shard,
      dif_pos hn]

/-- The last point's result is the sum of the four contributions. -/
theorem last_apply (c : Dev nD) (t : Fin cfg0.N) (ht : t.val = 3) (j : S2048x1024.Idx) :
    (outsAt0 m c t.val t.isLt).1 j = ∑ s ∈ Finset.range 4, shard m c j s := by
  obtain ⟨n, hn⟩ := t
  obtain rfl : n = 2 + 1 := ht
  rw [out_C_apply m c 2 hn rfl, carried m c j 2 (Nat.lt_of_succ_lt hn) le_rfl, Finset.sum_range_succ _ 3, shard, dif_pos hn]

/-- The result array after the run is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_after_last 2 t0_3 (by decide +kernel) _ fun j => ?_
  obtain ⟨a, b, rfl⟩ : ∃ (a : Fin 2048) (b : Fin 1024), j = ix2 a b := ⟨j 0, j 1, eq_ix2 j⟩
  blk_simp
  rw [after0_2]
  refine (last_apply m c t0_3 (by rfl) _).trans ?_
  rw [prod_apply, Finset.sum_range]
  refine Finset.sum_congr rfl fun s _ => ?_
  rw [shard, dif_pos (lt_of_lt_of_eq s.isLt N_0.symm)]
  exact part_apply m c ⟨s.val, lt_of_lt_of_eq s.isLt N_0.symm⟩ s rfl a b

end Cert.DownIdeal.Product

namespace Cert.Proof.DownClaims

theorem algebraic : Cert.algebraic_DownIdeal_DownRefIdeal := by
  pair_intro
  · run_from Cert.DownIdeal.Value.run_blocks m g
  · run_from Cert.DownRefIdeal.Value.run m' g'
    rw [Cert.DownIdeal.Product.final m c]
    exact Cert.DownRefIdeal.Read.val_main_v0_eq (F := Ideal) _ _

end Cert.Proof.DownClaims

end
-- ==== Proof.Down2.lean ====
/- The second network's down projection: the kernel adds, shard by shard, the products of the activations with the projection in an array
   it carries from point to point; the total is the reference's product. -/
module

public import proofs.«01_k».proof.Defs
public import proofs.«01_k».proof.Proof.Gen.Down2Ideal.Value
public import proofs.«01_k».proof.Proof.Gen.DownRefIdeal.Read
public import proofs.«01_k».proof.Proof.Gen.DownRefIdeal.Run
public import Idealize.ShloMosaic.Lib.Pipeline.ValueKit
public import Idealize.ShloMosaic.Lib.Pipeline.ReadBack
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Down2Ideal.Product

open Cert.Down2Ideal Cert.Down2Ideal.Gen

variable (m : (ℓ : Loc nD τ sig) → Buf (Elt Ideal) ℓ)

/-- The reference's product over the two argument arrays. -/
abbrev prod (x : FVec Ideal S2048x2816 .f32) (w : FVec Ideal S2816x1024 .f32) : FVec Ideal S2048x1024 .f32 :=
  Cert.DownRefIdeal.Read.val_main_v0 (F := Ideal) x w

/-- Which block of each array a grid point works on. -/
theorem idx : ∀ t : Fin cfg0.N, win0_0.index t = ![t.val, 0, 0] ∧ win0_1.index t = ![t.val, 2, 0, 0]
    ∧ win0_2.index t = ![0, 0] :=
  (by decide +kernel : ∀ t : Fin grid0.N, _)

/-- A change of format keeps the ideal value. -/
theorem truncf_ideal {s : Shape} (x : FVec Ideal s .f32) (h) : truncf (F := Ideal) .bf16 x h = x := rfl

/-- What one shard contributes. -/
def part (x : FVec Ideal S1x2048x704 .bf16) (w : FVec Ideal S1x1x704x1024 .bf16) (j : S2048x1024.Idx) : EReal :=
  ∑ k : Fin 704, x (ix3 0 (j 0) k) * w (ix4 0 0 k (j 1))

/-- One shard of the product. -/
def cut (x : FVec Ideal S2048x2816 .f32) (w : FVec Ideal S2816x1024 .f32) (s : Fin 4) (a : Fin 2048) (b : Fin 1024) : EReal :=
  ∑ k : Fin 704, x (ix2 a ⟨s.val * 704 + k.val, by omega⟩) * w (ix2 ⟨s.val * 704 + k.val, by omega⟩ b)

/-- The four shards add up to the whole product. -/
theorem sum_cut (x : FVec Ideal S2048x2816 .f32) (w : FVec Ideal S2816x1024 .f32) (a : Fin 2048) (b : Fin 1024) :
    ∑ s : Fin 4, cut x w s a b = ∑ k : Fin 2816, x (ix2 a k) * w (ix2 k b) := by
  unfold cut
  refine Fin.sum_mul_add_congr fun s k hl => ?_
  with_reducible rfl

/-- The product at an index: the sum of the four shards' contributions. -/
theorem prod_apply (x : FVec Ideal S2048x2816 .f32) (w : FVec Ideal S2816x1024 .f32) (a : Fin 2048) (b : Fin 1024) :
    prod x w (ix2 a b) = ∑ s : Fin 4, cut x w s a b := by
  rw [sum_cut]
  pointwise [prod, Cert.DownRefIdeal.Read.val_main_v0]

/-- The last point's payload at an index. -/
theorem pay4_apply (v0 v2 acc j) : k0_pay4 (F := Ideal) v0 v2 acc j = acc j + part v0 v2 j := by
  pointwise [k0_pay4, k0_pay1, part]

/-- A middle point's payload at an index. -/
theorem pay3_apply (v0 v2 acc j) : k0_pay3 (F := Ideal) v0 v2 acc j = acc j + part v0 v2 j := by
  pointwise [k0_pay3, k0_pay1, part]

/-- The first point's payload at an index. -/
theorem pay2_apply (v0 v2 j) : k0_pay2 (F := Ideal) v0 v2 j = part v0 v2 j := by
  pointwise [k0_pay2, k0_pay1, part]

/-- The last point's result: what was carried to it plus its own contribution. -/
theorem out_C_apply (c : Dev nD) (n : ℕ) (hn : n + 1 < cfg0.N) (h : (n + 1) % 4 = 3) (j : S2048x1024.Idx) :
    (outsAt0 m c (n + 1) hn).1 j
      = (outsAt0 m c n (Nat.lt_of_succ_lt hn)).2 j + part (iblk m c 0 ⟨n + 1, hn⟩) (iblk m c 1 ⟨n + 1, hn⟩) j := by
  rw [show outsAt0 m c (n + 1) hn = _ from outsAt0_C m c ⟨n + 1, hn⟩ (by dsimp only; omega) (by dsimp only; omega) h]
  frame_out
  rw [pay4_apply, read_unread_whole]
  rfl

/-- A middle point carries on what was carried to it plus its own contribution. -/
theorem out_B_apply (c : Dev nD) (n : ℕ) (hn : n + 1 < cfg0.N) (h : (n + 1) % 4 = 1 ∨ (n + 1) % 4 = 2) (j : S2048x1024.Idx) :
    (outsAt0 m c (n + 1) hn).2 j
      = (outsAt0 m c n (Nat.lt_of_succ_lt hn)).2 j + part (iblk m c 0 ⟨n + 1, hn⟩) (iblk m c 1 ⟨n + 1, hn⟩) j := by
  rw [show outsAt0 m c (n + 1) hn = _ from outsAt0_B m c ⟨n + 1, hn⟩ (by dsimp only; omega) (by dsimp only; omega)
    (by dsimp only; omega)]
  frame_out
  rw [pay3_apply, read_unread_whole]
  rfl

/-- The first point carries its own contribution. -/
theorem out_A_apply (c : Dev nD) (hn : 0 < cfg0.N) (j : S2048x1024.Idx) :
    (outsAt0 m c 0 hn).2 j = part (iblk m c 0 ⟨0, hn⟩) (iblk m c 1 ⟨0, hn⟩) j := by
  rw [show outsAt0 m c 0 hn = _ from outsAt0_A m c ⟨0, hn⟩ rfl (by dsimp only; omega) (by dsimp only; omega)]
  frame_out
  rw [pay2_apply]

/-- The activations' array that the host prepares, at an index. -/
theorem acts_apply (c : Dev nD) (s : Fin 4) (r : Fin 2048) (f : Fin 704) :
    V m c (Pipeline.arrRef spec0 0) (ix3 s r f) = m ((c : Thread nD τ).loc main_arg0) (ix2 r ⟨s.val * 704 + f.val, by omega⟩) := by
  entry_read
  rw [truncf_ideal]
  pointwise

/-- The projection's array that the host prepares, at an index. -/
theorem weights_apply (c : Dev nD) (s : Fin 4) (r : Fin 704) (d : Fin 1024) :
    V m c (Pipeline.arrRef spec0 1) (ix4 s 2 r d) = m ((c : Thread nD τ).loc main_arg1) (ix2 ⟨s.val * 704 + r.val, by omega⟩ d) := by
  entry_read
  pointwise

/-- A block of the activations. -/
theorem block0_apply (c : Dev nD) (t : Fin cfg0.N) (s : Fin 4) (hs : s.val = t.val) (r : Fin 2048) (f : Fin 704) :
    iblk m c 0 t (ix3 0 r f) = V m c (Pipeline.arrRef spec0 0) (ix3 s r f) := by
  have i0 : ((cfg0.win 0).blk t).view.emb (ix3 0 r f) = (ix3 s r f : S4x2048x704.Idx) := by
    blk_ext [idx t]
  unfold iblk
  rw [View.read_apply, i0]
  exact cast_eq _ _

/-- A block of the projection. -/
theorem block1_apply (c : Dev nD) (t : Fin cfg0.N) (s : Fin 4) (hs : s.val = t.val) (r : Fin 704) (d : Fin 1024) :
    iblk m c 1 t (ix4 0 0 r d) = V m c (Pipeline.arrRef spec0 1) (ix4 s 2 r d) := by
  have i0 : ((cfg0.win 1).blk t).view.emb (ix4 0 0 r d) = (ix4 s 2 r d : S4x3x704x1024.Idx) := by
    blk_ext [idx t]
  unfold iblk
  rw [View.read_apply, i0]
  exact cast_eq _ _

/-- One shard's contribution over the argument arrays. -/
theorem part_apply (c : Dev nD) (t : Fin cfg0.N) (s : Fin 4) (hs : s.val = t.val) (a : Fin 2048) (b : Fin 1024) :
    part (iblk m c 0 t) (iblk m c 1 t) (ix2 a b)
      = cut (m ((c : Thread nD τ).loc main_arg0)) (m ((c : Thread nD τ).loc main_arg1)) s a b := by
  unfold part cut
  exact Finset.sum_congr rfl fun k _ => congrArg₂ (fun x y : EReal => x * y) ((block0_apply m c t s hs a k).trans (acts_apply m c s a k))
    ((block1_apply m c t s hs k b).trans (weights_apply m c s k b))

/-- A shard's contribution by its number. -/
def shard (c : Dev nD) (j : S2048x1024.Idx) (s : ℕ) : EReal :=
  if h : s < cfg0.N then part (iblk m c 0 ⟨s, h⟩) (iblk m c 1 ⟨s, h⟩) j else 0

/-- After the first three points the carried array holds the contributions so far. -/
theorem carried (c : Dev nD) (j : S2048x1024.Idx) : ∀ (n : ℕ) (hn : n < cfg0.N), n ≤ 2 →
    (outsAt0 m c n hn).2 j = ∑ s ∈ Finset.range (n + 1), shard m c j s
  | 0, hn, _ => by
    rw [out_A_apply, Finset.sum_range_one, shard, dif_pos hn]
  | n + 1, hn, h => by
    rw [out_B_apply m c n hn (by omega), carried c j n (Nat.lt_of_succ_lt hn) (by omega), Finset.sum_range_succ _ (n + 1), shard,
      dif_pos hn]

/-- The last point's result is the sum of the four contributions. -/
theorem last_apply (c : Dev nD) (t : Fin cfg0.N) (ht : t.val = 3) (j : S2048x1024.Idx) :
    (outsAt0 m c t.val t.isLt).1 j = ∑ s ∈ Finset.range 4, shard m c j s := by
  obtain ⟨n, hn⟩ := t
  obtain rfl : n = 2 + 1 := ht
  rw [out_C_apply m c 2 hn rfl, carried m c j 2 (Nat.lt_of_succ_lt hn) le_rfl, Finset.sum_range_succ _ 3, shard, dif_pos hn]

/-- The result array after the run is the reference's product. -/
theorem final (c : Dev nD) : (dats m 0 c).arrAt 2 (cfgs 0).N
    = prod (m ((c : Thread nD τ).loc main_arg0)) (m ((c : Thread nD τ).loc main_arg1)) := by
  refine (dats m 0 c).arrAt_eq_of_after_last 2 t0_3 (by decide +kernel) _ fun j => ?_
  obtain ⟨a, b, rfl⟩ : ∃ (a : Fin 2048) (b : Fin 1024), j = ix2 a b := ⟨j 0, j 1, eq_ix2 j⟩
  blk_simp
  rw [after0_2]
  refine (last_apply m c t0_3 (by rfl) _).trans ?_
  rw [prod_apply, Finset.sum_range]
  refine Finset.sum_congr rfl fun s _ => ?_
  rw [shard, dif_pos (lt_of_lt_of_eq s.isLt N_0.symm)]
  exact part_apply m c ⟨s.val, lt_of_lt_of_eq s.isLt N_0.symm⟩ s rfl a b

end Cert.Down2Ideal.Product

namespace Cert.Proof.Down2Claims

theorem algebraic : Cert.algebraic_Down2Ideal_DownRefIdeal := by
  pair_intro
  · run_from Cert.Down2Ideal.Value.run_blocks m g
  · run_from Cert.DownRefIdeal.Value.run m' g'
    rw [Cert.Down2Ideal.Product.final m c]
    exact Cert.DownRefIdeal.Read.val_main_v0_eq (F := Ideal) _ _

end Cert.Proof.Down2Claims

end
-- ==== Proof.Wo.lean ====
/- The gradient of the mixer's output projection: each block of the kernel's result is the product of the mixed values' transpose
   with the cotangent, which is the derivative that the reference takes. -/
module

public import proofs.«01_k».proof.Defs
public import proofs.«01_k».proof.Proof.Gen.WoIdeal.Value
public import proofs.«01_k».proof.Proof.Gen.WoRefIdeal.Read
public import proofs.«01_k».proof.Proof.Gen.WoRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WoIdeal.Product

open Cert.WoIdeal Cert.WoIdeal.Gen

variable (m : (ℓ : Loc nD τ sig) → Buf (Elt Ideal) ℓ)

/-- The reference's result over the two argument arrays. -/
abbrev want (x0 : FVec Ideal S2048x1024 .f32) (x1 : FVec Ideal S2048x1024 .f32) : FVec Ideal S1024x1024 .f32 :=
  Cert.WoRefIdeal.Read.val_main_v3 (F := Ideal) x0 x1

/-- Which block of each array a grid point works on. -/
theorem idx : ∀ t : Fin cfg0.N, win0_0.index t = ![0, t.val] ∧ win0_1.index t = ![0, 0]
    ∧ win0_2.index t = ![t.val, 0] :=
  (by decide +kernel : ∀ t : Fin grid0.N, _)

/-- The reference's result at an index, as a sum. -/
theorem want_apply (x0 : FVec Ideal S2048x1024 .f32) (x1 : FVec Ideal S2048x1024 .f32) (j : S1024x1024.Idx) :
    want x0 x1 j = ∑ k : Fin 2048, x0 (ix2 k (j 0)) * x1 (ix2 k (j 1)) := by
  pointwise [want, Cert.WoRefIdeal.Read.val_main_v3, Cert.WoRefIdeal.Read.val_main_v2]
  exact Finset.sum_congr rfl fun k _ => mul_comm _ _

/-- What the body stores at an index of point `t`'s block is the reference's result at that block's place in the array. -/
theorem point (c : Dev nD) (t : Fin cfg0.N) (y : S512x1024.Idx) :
    k0_pay1 (F := Ideal) (iblk m c 0 t) (iblk m c 1 t) y
      = want (m ((c : Thread nD τ).loc main_arg0)) (m ((c : Thread nD τ).loc main_arg1)) (((cfg0.win 2).blk t).view.emb y) := by
  rw [want_apply]
  pointwise [k0_pay1]
  blk_point [iblk, V, idx t]

/-- The result array after the run is the reference's. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

end Cert.WoIdeal.Product

namespace Cert.Proof.WoClaims

theorem algebraic : Cert.algebraic_WoIdeal_WoRefIdeal := by
  pair_intro
  · run_from Cert.WoIdeal.Value.run_blocks m g
  · run_from Cert.WoRefIdeal.Value.run m' g'
    rw [Cert.WoIdeal.Product.final m c]
    exact Cert.WoRefIdeal.Read.val_main_v3_eq _ _

end Cert.Proof.WoClaims

end
-- ==== Proof.Dcat.lean ====
/- The cotangent of the mixed values: the kernel's result is the product of the cotangent with the output projection's transpose,
   which is the derivative that the reference takes. -/
module

public import proofs.«01_k».proof.Defs
public import proofs.«01_k».proof.Proof.Gen.DcatIdeal.Value
public import proofs.«01_k».proof.Proof.Gen.DcatRefIdeal.Read
public import proofs.«01_k».proof.Proof.Gen.DcatRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.DcatIdeal.Product

open Cert.DcatIdeal Cert.DcatIdeal.Gen

variable (m : (ℓ : Loc nD τ sig) → Buf (Elt Ideal) ℓ)

/-- The reference's result over the two argument arrays. -/
abbrev want (x0 : FVec Ideal S1024x1024 .f32) (x1 : FVec Ideal S2048x1024 .f32) : FVec Ideal S2048x1024 .bf16 :=
  Cert.DcatRefIdeal.Read.val_main_v3 (F := Ideal) x0 x1

/-- Which block of each array a grid point works on. -/
theorem idx : ∀ t : Fin cfg0.N, win0_0.index t = ![0, 0] ∧ win0_1.index t = ![0, 0]
    ∧ win0_2.index t = ![0, 0] :=
  (by decide +kernel : ∀ t : Fin grid0.N, _)

/-- The reference's result at an index, as a sum. -/
theorem want_apply (x0 : FVec Ideal S1024x1024 .f32) (x1 : FVec Ideal S2048x1024 .f32) (j : S2048x1024.Idx) :
    want x0 x1 j = ∑ k : Fin 1024, x1 (ix2 (j 0) k) * x0 (ix2 (j 1) k) := by
  pointwise [want, Cert.DcatRefIdeal.Read.val_main_v3, Cert.DcatRefIdeal.Read.val_main_v2]

/-- What the body stores at an index of point `t`'s block is the reference's result at that block's place in the array. -/
theorem point (c : Dev nD) (t : Fin cfg0.N) (y : S2048x1024.Idx) :
    k0_pay1 (F := Ideal) (iblk m c 0 t) (iblk m c 1 t) y
      = want (m ((c : Thread nD τ).loc main_arg0)) (m ((c : Thread nD τ).loc main_arg1)) (((cfg0.win 2).blk t).view.emb y) := by
  rw [want_apply]
  pointwise [k0_pay1]
  blk_point [iblk, V, idx t]

/-- The result array after the run is the reference's. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

end Cert.DcatIdeal.Product

namespace Cert.Proof.DcatClaims

theorem algebraic : Cert.algebraic_DcatIdeal_DcatRefIdeal := by
  pair_intro
  · run_from Cert.DcatIdeal.Value.run_blocks m g
  · run_from Cert.DcatRefIdeal.Value.run m' g'
    rw [Cert.DcatIdeal.Product.final m c]
    exact Cert.DcatRefIdeal.Read.val_main_v3_eq _ _

end Cert.Proof.DcatClaims

end
-- ==== Proof.Win.lean ====
/- The gradient of the mixer's input projection: each block of the kernel's result is the product of the projections' cotangent's
   transpose with the input, which is the transpose of the derivative that the reference takes. -/
module

public import proofs.«01_k».proof.Defs
public import proofs.«01_k».proof.Proof.Gen.WinIdeal.Value
public import proofs.«01_k».proof.Proof.Gen.WinRefIdeal.Read
public import proofs.«01_k».proof.Proof.Gen.WinRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.WinIdeal.Product

open Cert.WinIdeal Cert.WinIdeal.Gen

variable (m : (ℓ : Loc nD τ sig) → Buf (Elt Ideal) ℓ)

/-- The reference's result over the two argument arrays. -/
abbrev want (x0 : FVec Ideal S2048x1024 .f32) (x1 : FVec Ideal S2048x1280 .f32) : FVec Ideal S1280x1024 .f32 :=
  Cert.WinRefIdeal.Read.val_main_v4 (F := Ideal) x0 x1

/-- Which block of each array a grid point works on. -/
theorem idx : ∀ t : Fin cfg0.N, win0_0.index t = ![0, t.val] ∧ win0_1.index t = ![0, 0]
    ∧ win0_2.index t = ![t.val, 0] :=
  (by decide +kernel : ∀ t : Fin grid0.N, _)

/-- The reference's result at an index, as a sum. -/
theorem want_apply (x0 : FVec Ideal S2048x1024 .f32) (x1 : FVec Ideal S2048x1280 .f32) (j : S1280x1024.Idx) :
    want x0 x1 j = ∑ k : Fin 2048, x1 (ix2 k (j 0)) * x0 (ix2 k (j 1)) := by
  pointwise [want, Cert.WinRefIdeal.Read.val_main_v4, Cert.WinRefIdeal.Read.val_main_v3, Cert.WinRefIdeal.Read.val_main_v2]

/-- What the body stores at an index of point `t`'s block is the reference's result at that block's place in the array. -/
theorem point (c : Dev nD) (t : Fin cfg0.N) (y : S256x1024.Idx) :
    k0_pay1 (F := Ideal) (iblk m c 0 t) (iblk m c 1 t) y
      = want (m ((c : Thread nD τ).loc main_arg0)) (m ((c : Thread nD τ).loc main_arg1)) (((cfg0.win 2).blk t).view.emb y) := by
  rw [want_apply]
  pointwise [k0_pay1]
  blk_point [iblk, V, idx t]

/-- The result array after the run is the reference's. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

end Cert.WinIdeal.Product

namespace Cert.Proof.WinClaims

theorem algebraic : Cert.algebraic_WinIdeal_WinRefIdeal := by
  pair_intro
  · run_from Cert.WinIdeal.Value.run_blocks m g
  · run_from Cert.WinRefIdeal.Value.run m' g'
    rw [Cert.WinIdeal.Product.final m c]
    exact Cert.WinRefIdeal.Read.val_main_v4_eq _ _

end Cert.Proof.WinClaims

end
-- ==== Proof.MixDh.lean ====
/- The cotangent of the mixer's input: the kernel's result is the product of the projections' cotangent with the input projection's
   transpose, which is the derivative that the reference takes. -/
module

public import proofs.«01_k».proof.Defs
public import proofs.«01_k».proof.Proof.Gen.MixDhIdeal.Value
public import proofs.«01_k».proof.Proof.Gen.MixDhRefIdeal.Read
public import proofs.«01_k».proof.Proof.Gen.MixDhRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixDhIdeal.Product

open Cert.MixDhIdeal Cert.MixDhIdeal.Gen

variable (m : (ℓ : Loc nD τ sig) → Buf (Elt Ideal) ℓ)

/-- The reference's result over the two argument arrays. -/
abbrev want (x0 : FVec Ideal S1024x1280 .f32) (x1 : FVec Ideal S2048x1280 .f32) : FVec Ideal S2048x1024 .f32 :=
  Cert.MixDhRefIdeal.Read.val_main_v2 (F := Ideal) x0 x1

/-- Which block of each array a grid point works on. -/
theorem idx : ∀ t : Fin cfg0.N, win0_0.index t = ![0, 0] ∧ win0_1.index t = ![0, 0]
    ∧ win0_2.index t = ![0, 0] :=
  (by decide +kernel : ∀ t : Fin grid0.N, _)

/-- The reference's result at an index, as a sum. -/
theorem want_apply (x0 : FVec Ideal S1024x1280 .f32) (x1 : FVec Ideal S2048x1280 .f32) (j : S2048x1024.Idx) :
    want x0 x1 j = ∑ k : Fin 1280, x1 (ix2 (j 0) k) * x0 (ix2 (j 1) k) := by
  pointwise [want, Cert.MixDhRefIdeal.Read.val_main_v2]

/-- What the body stores at an index of point `t`'s block is the reference's result at that block's place in the array. -/
theorem point (c : Dev nD) (t : Fin cfg0.N) (y : S2048x1024.Idx) :
    k0_pay1 (F := Ideal) (iblk m c 0 t) (iblk m c 1 t) y
      = want (m ((c : Thread nD τ).loc main_arg0)) (m ((c : Thread nD τ).loc main_arg1)) (((cfg0.win 2).blk t).view.emb y) := by
  rw [want_apply]
  pointwise [k0_pay1]
  blk_point [iblk, V, idx t]

/-- The result array after the run is the reference's. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

end Cert.MixDhIdeal.Product

namespace Cert.Proof.MixDhClaims

theorem algebraic : Cert.algebraic_MixDhIdeal_MixDhRefIdeal := by
  pair_intro
  · run_from Cert.MixDhIdeal.Value.run_blocks m g
  · run_from Cert.MixDhRefIdeal.Value.run m' g'
    rw [Cert.MixDhIdeal.Product.final m c]
    exact Cert.MixDhRefIdeal.Read.val_main_v2_eq (F := Ideal) _ _

end Cert.Proof.MixDhClaims

end
-- ==== Proof.MixOut.lean ====
/- The mixer's output projection: the kernel's result is the reference's product. -/
module

public import proofs.«01_k».proof.Defs
public import proofs.«01_k».proof.Proof.Gen.MixOutIdeal.Value
public import proofs.«01_k».proof.Proof.Gen.MixOutRefIdeal.Read
public import proofs.«01_k».proof.Proof.Gen.MixOutRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MixOutIdeal.Product

open Cert.MixOutIdeal Cert.MixOutIdeal.Gen

variable (m : (ℓ : Loc nD τ sig) → Buf (Elt Ideal) ℓ)

/-- The reference's result over the two argument arrays. -/
abbrev want (x0 : FVec Ideal S2048x1024 .f32) (x1 : FVec Ideal S1024x1024 .f32) : FVec Ideal S2048x1024 .f32 :=
  Cert.MixOutRefIdeal.Read.val_main_v0 (F := Ideal) x0 x1

/-- Which block of each array a grid point works on. -/
theorem idx : ∀ t : Fin cfg0.N, win0_0.index t = ![0, 0] ∧ win0_1.index t = ![0, 0]
    ∧ win0_2.index t = ![0, 0] :=
  (by decide +kernel : ∀ t : Fin grid0.N, _)

/-- The reference's result at an index, as a sum. -/
theorem want_apply (x0 : FVec Ideal S2048x1024 .f32) (x1 : FVec Ideal S1024x1024 .f32) (j : S2048x1024.Idx) :
    want x0 x1 j = ∑ k : Fin 1024, x0 (ix2 (j 0) k) * x1 (ix2 k (j 1)) := by
  pointwise [want, Cert.MixOutRefIdeal.Read.val_main_v0]

/-- What the body stores at an index of point `t`'s block is the reference's result at that block's place in the array. -/
theorem point (c : Dev nD) (t : Fin cfg0.N) (y : S2048x1024.Idx) :
    k0_pay1 (F := Ideal) (iblk m c 0 t) (iblk m c 1 t) y
      = want (m ((c : Thread nD τ).loc main_arg0)) (m ((c : Thread nD τ).loc main_arg1)) (((cfg0.win 2).blk t).view.emb y) := by
  rw [want_apply]
  pointwise [k0_pay1]
  blk_point [iblk, V, idx t]

/-- The result array after the run is the reference's. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

end Cert.MixOutIdeal.Product

namespace Cert.Proof.MixOutClaims

theorem algebraic : Cert.algebraic_MixOutIdeal_MixOutRefIdeal := by
  pair_intro
  · run_from Cert.MixOutIdeal.Value.run_blocks m g
  · run_from Cert.MixOutRefIdeal.Value.run m' g'
    rw [Cert.MixOutIdeal.Product.final m c]
    exact Cert.MixOutRefIdeal.Read.val_main_v0_eq (F := Ideal) _ _

end Cert.Proof.MixOutClaims

end
-- ==== Proof.ProjSwa.lean ====
/- The sliding-window attention's input projection: the kernel's result is the reference's product. -/
module

public import proofs.«01_k».proof.Defs
public import proofs.«01_k».proof.Proof.Gen.ProjSwaIdeal.Value
public import proofs.«01_k».proof.Proof.Gen.ProjSwaRefIdeal.Read
public import proofs.«01_k».proof.Proof.Gen.ProjSwaRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjSwaIdeal.Product

open Cert.ProjSwaIdeal Cert.ProjSwaIdeal.Gen

variable (m : (ℓ : Loc nD τ sig) → Buf (Elt Ideal) ℓ)

/-- The reference's result over the two argument arrays. -/
abbrev want (x0 : FVec Ideal S2048x1024 .f32) (x1 : FVec Ideal S1024x768 .f32) : FVec Ideal S2048x768 .bf16 :=
  Cert.ProjSwaRefIdeal.Read.val_main_v1 (F := Ideal) x0 x1

/-- Which block of each array a grid point works on. -/
theorem idx : ∀ t : Fin cfg0.N, win0_0.index t = ![0, 0] ∧ win0_1.index t = ![0, 0]
    ∧ win0_2.index t = ![0, 0] :=
  (by decide +kernel : ∀ t : Fin grid0.N, _)

/-- The reference's result at an index, as a sum. -/
theorem want_apply (x0 : FVec Ideal S2048x1024 .f32) (x1 : FVec Ideal S1024x768 .f32) (j : S2048x768.Idx) :
    want x0 x1 j = ∑ k : Fin 1024, x0 (ix2 (j 0) k) * x1 (ix2 k (j 1)) := by
  pointwise [want, Cert.ProjSwaRefIdeal.Read.val_main_v1, Cert.ProjSwaRefIdeal.Read.val_main_v0]

/-- What the body stores at an index of point `t`'s block is the reference's result at that block's place in the array. -/
theorem point (c : Dev nD) (t : Fin cfg0.N) (y : S2048x768.Idx) :
    k0_pay1 (F := Ideal) (iblk m c 0 t) (iblk m c 1 t) y
      = want (m ((c : Thread nD τ).loc main_arg0)) (m ((c : Thread nD τ).loc main_arg1)) (((cfg0.win 2).blk t).view.emb y) := by
  rw [want_apply]
  pointwise [k0_pay1]
  blk_point [iblk, V, idx t]

/-- The result array after the run is the reference's. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

end Cert.ProjSwaIdeal.Product

namespace Cert.Proof.ProjSwaClaims

theorem algebraic : Cert.algebraic_ProjSwaIdeal_ProjSwaRefIdeal := by
  pair_intro
  · run_from Cert.ProjSwaIdeal.Value.run_blocks m g
  · run_from Cert.ProjSwaRefIdeal.Value.run m' g'
    rw [Cert.ProjSwaIdeal.Product.final m c]
    exact Cert.ProjSwaRefIdeal.Read.val_main_v1_eq _ _

end Cert.Proof.ProjSwaClaims

end
-- ==== Proof.ProjMla.lean ====
/- The latent attention's input projection: the kernel's result is the reference's product. -/
module

public import proofs.«01_k».proof.Defs
public import proofs.«01_k».proof.Proof.Gen.ProjMlaIdeal.Value
public import proofs.«01_k».proof.Proof.Gen.ProjMlaRefIdeal.Read
public import proofs.«01_k».proof.Proof.Gen.ProjMlaRefIdeal.Run
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.ProjMlaIdeal.Product

open Cert.ProjMlaIdeal Cert.ProjMlaIdeal.Gen

variable (m : (ℓ : Loc nD τ sig) → Buf (Elt Ideal) ℓ)

/-- The reference's result over the two argument arrays. -/
abbrev want (x0 : FVec Ideal S2048x1024 .f32) (x1 : FVec Ideal S1024x512 .f32) : FVec Ideal S2048x512 .f32 :=
  Cert.ProjMlaRefIdeal.Read.val_main_v0 (F := Ideal) x0 x1

/-- Which block of each array a grid point works on. -/
theorem idx : ∀ t : Fin cfg0.N, win0_0.index t = ![0, 0] ∧ win0_1.index t = ![0, 0]
    ∧ win0_2.index t = ![0, 0] :=
  (by decide +kernel : ∀ t : Fin grid0.N, _)

/-- The reference's result at an index, as a sum. -/
theorem want_apply (x0 : FVec Ideal S2048x1024 .f32) (x1 : FVec Ideal S1024x512 .f32) (j : S2048x512.Idx) :
    want x0 x1 j = ∑ k : Fin 1024, x0 (ix2 (j 0) k) * x1 (ix2 k (j 1)) := by
  pointwise [want, Cert.ProjMlaRefIdeal.Read.val_main_v0]

/-- What the body stores at an index of point `t`'s block is the reference's result at that block's place in the array. -/
theorem point (c : Dev nD) (t : Fin cfg0.N) (y : S2048x512.Idx) :
    k0_pay1 (F := Ideal) (iblk m c 0 t) (iblk m c 1 t) y
      = want (m ((c : Thread nD τ).loc main_arg0)) (m ((c : Thread nD τ).loc main_arg1)) (((cfg0.win 2).blk t).view.emb y) := by
  rw [want_apply]
  pointwise [k0_pay1]
  blk_point [iblk, V, idx t]

/-- The result array after the run is the reference's. -/
theorem final (c : Dev nD) : (dats m 0 c).arrAt 2 (cfgs 0).N
    = want (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  frame_out
  exact point m c t y

end Cert.ProjMlaIdeal.Product

namespace Cert.Proof.ProjMlaClaims

theorem algebraic : Cert.algebraic_ProjMlaIdeal_ProjMlaRefIdeal := by
  pair_intro
  · run_from Cert.ProjMlaIdeal.Value.run_blocks m g
  · run_from Cert.ProjMlaRefIdeal.Value.run m' g'
    rw [Cert.ProjMlaIdeal.Product.final m c]
    exact Cert.ProjMlaRefIdeal.Read.val_main_v0_eq (F := Ideal) _ _

end Cert.Proof.ProjMlaClaims

end
-- ==== Proof.Softmax.lean ====
/- The softmax of finitely many real scores with a sink, in closed form.  Some scores are masked.  Whatever real number is
   subtracted from the scores before the exponential, the weighted sum of the values and the logarithm of the sum of the
   exponentials come out the same: the shift cancels. -/
module

public import Idealize.ShloMosaic.Lib.Pointwise

@[expose] public section

noncomputable section

open Idealize.ShloMosaic

namespace Cert.Softmax

/-- A finite sum of real numbers, taken in the extended reals, is the real sum. -/
theorem coe_sum {ι : Type} (t : Finset ι) (f : ι → ℝ) : (∑ k ∈ t, (f k : EReal)) = ((∑ k ∈ t, f k : ℝ) : EReal) := by
  classical
  induction t using Finset.induction_on with
  | empty => simp
  | insert a t ha ih => rw [Finset.sum_insert ha, Finset.sum_insert ha, ih, EReal.coe_add]

/-- The extended reals' maximum of finitely many values below `⊤` is below `⊤`. -/
theorem fold_max_ne_top {ι : Type} (t : Finset ι) (f : ι → EReal) (b : EReal) (hb : b ≠ ⊤) (h : ∀ k, f k ≠ ⊤) :
    t.fold max b f ≠ ⊤ := by
  classical
  induction t using Finset.induction_on with
  | empty => simpa using hb
  | insert a t ha ih =>
    rw [Finset.fold_insert ha]
    rcases max_choice (f a) (t.fold max b f) with e | e <;> rw [e]
    · exact h a
    · exact ih

/-- Every value is at most the maximum. -/
theorem le_fold_max {ι : Type} (t : Finset ι) (f : ι → EReal) (b : EReal) (k : ι) (hk : k ∈ t) : f k ≤ t.fold max b f :=
  (Finset.le_fold_max _).mpr (Or.inr ⟨k, hk, le_rfl⟩)

/-- A value that is neither `⊤` nor `⊥` is a real number. -/
theorem real_of (x : EReal) (h : x ≠ ⊤) (h' : x ≠ ⊥) : ∃ r : ℝ, x = (r : EReal) :=
  ⟨x.toReal, (EReal.coe_toReal h h').symm⟩

variable {n : ℕ} (ok : Fin n → Prop) [DecidablePred ok] (s v : Fin n → ℝ) (snk M : ℝ)

/-- The exponential of an unmasked score, and zero for a masked one. -/
def e (k : Fin n) : ℝ := if ok k then Real.exp (s k) else 0

/-- The sum of the exponentials, the sink's among them. -/
def total : ℝ := (∑ k : Fin n, e ok s k) + Real.exp snk

/-- The weighted mean of the values. -/
def mean : ℝ := (∑ k : Fin n, e ok s k * v k) / total ok s snk

theorem e_nonneg (k : Fin n) : 0 ≤ e ok s k := by
  unfold e; split
  · exact (Real.exp_pos _).le
  · exact le_rfl

theorem total_pos : 0 < total ok s snk :=
  add_pos_of_nonneg_of_pos (Finset.sum_nonneg fun k _ => e_nonneg ok s k) (Real.exp_pos _)

/-- A shifted exponential, the masked ones left out. -/
theorem exp_shift (S : EReal) (k : Fin n) (h : ok k → S = (s k : EReal)) :
    (if ok k then Ideal.exp (S - (M : EReal)) else 0) = ((e ok s k * Real.exp (-M) : ℝ) : EReal) := by
  unfold e
  by_cases hk : ok k
  · rw [if_pos hk, if_pos hk, h hk, ← EReal.coe_sub, Ideal.exp_coe, sub_eq_add_neg, Real.exp_add]
  · rw [if_neg hk, if_neg hk, zero_mul, EReal.coe_zero]

/-- A masked score of `⊥` has the exponential zero, so the mask may be left to the score. -/
theorem exp_shift' (S : EReal) (k : Fin n) (h : ok k → S = (s k : EReal)) (h' : ¬ ok k → S = ⊥) :
    Ideal.exp (S - (M : EReal)) = ((e ok s k * Real.exp (-M) : ℝ) : EReal) := by
  rw [← exp_shift ok s M S k h]
  by_cases hk : ok k
  · rw [if_pos hk]
  · rw [if_neg hk, h' hk]; exact Ideal.exp_bot

/-- The sink's shifted exponential. -/
theorem exp_sink : Ideal.exp ((snk : EReal) - (M : EReal)) = ((Real.exp snk * Real.exp (-M) : ℝ) : EReal) := by
  rw [← EReal.coe_sub, Ideal.exp_coe, sub_eq_add_neg, Real.exp_add]

/-- The shifted exponentials' sum. -/
theorem sum_shift : (∑ k : Fin n, ((e ok s k * Real.exp (-M) : ℝ) : EReal)) + ((Real.exp snk * Real.exp (-M) : ℝ) : EReal)
    = ((total ok s snk * Real.exp (-M) : ℝ) : EReal) := by
  rw [coe_sum, ← EReal.coe_add, ← Finset.sum_mul, ← add_mul, total]

theorem shifted_ne : total ok s snk * Real.exp (-M) ≠ 0 := (mul_pos (total_pos ok s snk) (Real.exp_pos _)).ne'

/-- The weighted sum divided by the total at the end. -/
theorem div_last : Ideal.div (∑ k : Fin n, ((e ok s k * Real.exp (-M) : ℝ) : EReal) * (v k : EReal))
    ((total ok s snk * Real.exp (-M) : ℝ) : EReal) = ((mean ok s v snk : ℝ) : EReal) := by
  rw [Ideal.div_coe (shifted_ne ok s snk M)]
  simp only [← EReal.coe_mul]
  rw [coe_sum, ← EReal.coe_mul]
  congr 1
  have hp := (total_pos ok s snk).ne'
  have hq := (Real.exp_pos (-M)).ne'
  unfold mean
  rw [Finset.sum_congr rfl fun k _ => (by ring : e ok s k * Real.exp (-M) * v k = e ok s k * v k * Real.exp (-M)),
    ← Finset.sum_mul]
  field_simp

/-- Each weight divided by the total first. -/
theorem div_first : (∑ k : Fin n, Ideal.div ((e ok s k * Real.exp (-M) : ℝ) : EReal)
    ((total ok s snk * Real.exp (-M) : ℝ) : EReal) * (v k : EReal)) = ((mean ok s v snk : ℝ) : EReal) := by
  simp only [Ideal.div_coe (shifted_ne ok s snk M), ← EReal.coe_mul]
  rw [coe_sum]
  congr 1
  have hp := (total_pos ok s snk).ne'
  have hq := (Real.exp_pos (-M)).ne'
  unfold mean
  rw [Finset.sum_div]
  refine Finset.sum_congr rfl fun k _ => ?_
  field_simp

/-- The logarithm of the total, the shift added back. -/
theorem log_total : (M : EReal) + Ideal.log ((total ok s snk * Real.exp (-M) : ℝ) : EReal)
    = ((Real.log (total ok s snk) : ℝ) : EReal) := by
  have hp := total_pos ok s snk
  rw [Ideal.log_coe, if_neg (not_le.mpr (mul_pos hp (Real.exp_pos _))), ← EReal.coe_add,
    Real.log_mul hp.ne' (Real.exp_pos _).ne', Real.log_exp]
  congr 1
  ring

/-! ## The two spellings of the softmax -/

variable (S V : Fin n → EReal) (Snk m : EReal)

/-- The exponentials of the scores' distances from a real number `m`, as a real multiple of the exponentials. -/
theorem exp_mask (hS : ∀ k, ok k → S k = (s k : EReal)) (hm : m = (M : EReal)) (k : Fin n) :
    (if ok k then Ideal.exp (S k - m) else 0) = ((e ok s k * Real.exp (-M) : ℝ) : EReal) := by
  rw [hm]; exact exp_shift ok s M (S k) k (hS k)

/-- A weight times a value: a masked value does not count. -/
theorem weight_mul (hV : ∀ k, ok k → V k = (v k : EReal)) (w : ℝ) (k : Fin n) :
    ((e ok s k * w : ℝ) : EReal) * V k = ((e ok s k * w : ℝ) : EReal) * (v k : EReal) := by
  by_cases hk : ok k
  · rw [hV k hk]
  · rw [show e ok s k = 0 from if_neg hk, zero_mul, EReal.coe_zero, zero_mul, zero_mul]

/-- The sum of the exponentials, the masked ones left out. -/
theorem total_mask (hS : ∀ k, ok k → S k = (s k : EReal)) (hm : m = (M : EReal)) (hn : Snk = (snk : EReal)) :
    (∑ k : Fin n, if ok k then Ideal.exp (S k - m) else 0) + Ideal.exp (Snk - m)
      = ((total ok s snk * Real.exp (-M) : ℝ) : EReal) := by
  rw [Finset.sum_congr rfl fun k _ => exp_mask ok s M S m hS hm k, hn, hm, exp_sink, sum_shift]

/-- The weighted values' sum divided by the total. -/
theorem mask_out (hS : ∀ k, ok k → S k = (s k : EReal)) (hV : ∀ k, ok k → V k = (v k : EReal)) (hm : ∃ M : ℝ, m = (M : EReal))
    (hn : Snk = (snk : EReal)) :
    Ideal.div (∑ k : Fin n, (if ok k then Ideal.exp (S k - m) else 0) * V k)
      ((∑ k : Fin n, if ok k then Ideal.exp (S k - m) else 0) + Ideal.exp (Snk - m)) = ((mean ok s v snk : ℝ) : EReal) := by
  obtain ⟨M, hM⟩ := hm
  rw [total_mask ok s snk M S Snk m hS hM hn, ← div_last ok s v snk M]
  refine congrArg (fun x => Ideal.div x _) (Finset.sum_congr rfl fun k _ => ?_)
  rw [exp_mask ok s M S m hS hM k, weight_mul ok s v V hV]

/-- The logarithm of the total, the shift added back. -/
theorem mask_log (hS : ∀ k, ok k → S k = (s k : EReal)) (hm : ∃ M : ℝ, m = (M : EReal)) (hn : Snk = (snk : EReal)) :
    m + Ideal.log ((∑ k : Fin n, if ok k then Ideal.exp (S k - m) else 0) + Ideal.exp (Snk - m))
      = ((Real.log (total ok s snk) : ℝ) : EReal) := by
  obtain ⟨M, hM⟩ := hm
  rw [total_mask ok s snk M S Snk m hS hM hn, hM, log_total]

variable (X : Fin (n + 1) → EReal)

/-- The scores in a row, the sink last: a masked score is `⊥`. -/
theorem row_sum (hX : ∀ k, X k.castSucc = if ok k then S k else ⊥) (hL : X (Fin.last n) = Snk) (hm : m = (M : EReal)) :
    ∑ k : Fin (n + 1), Ideal.exp (X k - m) = (∑ k : Fin n, if ok k then Ideal.exp (S k - m) else 0) + Ideal.exp (Snk - m) := by
  rw [Fin.sum_univ_castSucc, hL]
  refine congrArg (fun x => x + _) (Finset.sum_congr rfl fun k _ => ?_)
  rw [hX k]
  split
  · rfl
  · rw [hm]; exact Ideal.exp_bot

/-- Each weight of the row divided by the total, and the values' sum weighted so. -/
theorem row_out (hX : ∀ k, X k.castSucc = if ok k then S k else ⊥) (hL : X (Fin.last n) = Snk)
    (hS : ∀ k, ok k → S k = (s k : EReal)) (hV : ∀ k, ok k → V k = (v k : EReal)) (hm : ∃ M : ℝ, m = (M : EReal))
    (hn : Snk = (snk : EReal)) :
    ∑ k : Fin n, V k * Ideal.div (Ideal.exp (X k.castSucc - m)) (∑ k : Fin (n + 1), Ideal.exp (X k - m))
      = ((mean ok s v snk : ℝ) : EReal) := by
  obtain ⟨M, hM⟩ := hm
  rw [row_sum ok M S Snk m X hX hL hM, total_mask ok s snk M S Snk m hS hM hn, ← div_first ok s v snk M]
  refine Finset.sum_congr rfl fun k _ => ?_
  have h1 : Ideal.exp (X k.castSucc - m) = ((e ok s k * Real.exp (-M) : ℝ) : EReal) := by
    rw [hM]
    refine exp_shift' ok s M _ k (fun hk => ?_) fun hk => ?_
    · rw [hX k, if_pos hk, hS k hk]
    · rw [hX k, if_neg hk]
  rw [h1, Ideal.div_coe (shifted_ne ok s snk M), ← EReal.coe_mul, mul_comm, mul_assoc]
  exact weight_mul ok s v V hV _ k

/-- The logarithm of the row's total, the shift added back. -/
theorem row_log (hX : ∀ k, X k.castSucc = if ok k then S k else ⊥) (hL : X (Fin.last n) = Snk)
    (hS : ∀ k, ok k → S k = (s k : EReal)) (hm : ∃ M : ℝ, m = (M : EReal)) (hn : Snk = (snk : EReal)) :
    m + Ideal.log (∑ k : Fin (n + 1), Ideal.exp (X k - m)) = ((Real.log (total ok s snk) : ℝ) : EReal) := by
  rw [row_sum ok _ S Snk m X hX hL hm.choose_spec, mask_log ok s snk S Snk m hS hm hn]

/-- The masked scores' maximum is real: a masked score is a real number `w`. -/
theorem max_mask (w : EReal) (hw : w ≠ ⊤) (hS : ∀ k, ok k → S k = (s k : EReal)) (hn : Snk = (snk : EReal)) :
    ∃ M : ℝ, max (Finset.univ.fold max ⊥ fun k : Fin n => if ok k then S k else w) Snk = (M : EReal) := by
  refine real_of _ ?_ ?_
  · rcases max_choice (Finset.univ.fold max ⊥ fun k : Fin n => if ok k then S k else w) Snk with h | h <;> rw [h]
    · refine fold_max_ne_top _ _ _ (by simp) fun k => ?_
      by_cases hk : ok k
      · rw [if_pos hk, hS k hk]; exact EReal.coe_ne_top _
      · rw [if_neg hk]; exact hw
    · rw [hn]; exact EReal.coe_ne_top _
  · have h : Snk ≤ max (Finset.univ.fold max ⊥ fun k : Fin n => if ok k then S k else w) Snk := le_max_right _ _
    rw [hn] at h ⊢
    intro h'
    rw [h'] at h
    exact EReal.coe_ne_bot _ (le_bot_iff.mp h)

/-- The row's maximum is real. -/
theorem max_row (hX : ∀ k, X k.castSucc = if ok k then S k else ⊥) (hL : X (Fin.last n) = Snk)
    (hS : ∀ k, ok k → S k = (s k : EReal)) (hn : Snk = (snk : EReal)) :
    ∃ M : ℝ, (Finset.univ.fold max ⊥ X) = (M : EReal) := by
  refine real_of _ (fold_max_ne_top _ _ _ (by simp) fun k => ?_) ?_
  · refine Fin.lastCases ?_ (fun k => ?_) k
    · rw [hL, hn]; exact EReal.coe_ne_top _
    · rw [hX k]
      split
      · rename_i hk
        rw [hS k hk]; exact EReal.coe_ne_top _
      · simp
  · have h := le_fold_max Finset.univ X ⊥ (Fin.last n) (Finset.mem_univ _)
    rw [hL, hn] at h
    intro h'
    rw [h'] at h
    exact EReal.coe_ne_bot _ (le_bot_iff.mp h)

end Cert.Softmax

end
-- ==== Proof.SwaFwdBody.lean ====
/- One head group of the windowed attention kernel, as arithmetic over the group's scores, values and sinks: the masked
   scores, their maximum, the weights, their sum, the weighted values and the logarithm of the sum. The kernel's body does
   this four times (two blocks of queries, two key heads), and the four copies are shown to be the same functions. -/
module

public import proofs.«01_k».proof.Proof.Gen.SwaFwdIdeal.Skeleton
public import proofs.«01_k».proof.Proof.Softmax
public import Idealize.ShloMosaic.Lib.Pipeline.ValueKit
public import Idealize.ShloMosaic.Lib.Claim
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.SwaFwdIdeal.Product

open Cert.SwaFwdIdeal Cert.SwaFwdIdeal.Gen

theorem truncf_ideal {s : Shape} (x : FVec Ideal s .f32) (h) : truncf (F := Ideal) .bf16 x h = x := rfl

/-- Key places counted within the window. -/
abbrev I : IVec S128x256 32 := iota .tc S128x256 32 [1] iota_S128x256_d1_w32

/-- The mask's bit: query `r` of block `n` sees key `k` of the two blocks that end at its own. -/
def bit (n : BitVec 32) (r : Fin 128) (k : Fin 256) : BitVec 1 :=
  IntOp.andi
    (IntOp.andi (IntOp.cmpi .sge (IntOp.subi (IntOp.addi (BitVec.ofNat 32 r.val) 128#32) (BitVec.ofNat 32 k.val)) 0#32)
      (IntOp.cmpi .slt (IntOp.subi (IntOp.addi (BitVec.ofNat 32 r.val) 128#32) (BitVec.ofNat 32 k.val)) 128#32))
    (IntOp.ori (Scalar.cmpi .sgt n 0#32) (IntOp.cmpi .sge (BitVec.ofNat 32 k.val) 128#32))

/-- The mask. -/
def ok (n : BitVec 32) (r : Fin 128) (k : Fin 256) : Prop := bit n r k = 1#1

instance (n : BitVec 32) (r : Fin 128) (k : Fin 256) : Decidable (ok n r k) := inferInstanceAs (Decidable (_ = _))

/-- The scale of the scores. -/
abbrev scale : EReal := Ideal.ofBits FTy.f32 1040187392#32

/-- What a score that the mask hides becomes. -/
abbrev low : EReal := Ideal.ofBits FTy.f32 4048155338#32

theorem pay22_apply (q : FVec Ideal S512x64 .f32) (kk : FVec Ideal S256x64 .f32) (b : FVec Ideal S4x128x256 .f32)
    (g : Fin 4) (r : Fin 128) (k : Fin 256) :
    k0_pay22 (F := Ideal) q kk b (ix3 g r k)
      = (∑ x : Fin 64, q (ix2 ⟨g.val * 128 + r.val, by omega⟩ x) * kk (ix2 k x)) * scale + b (ix3 g r k) := by
  unfold k0_pay22
  simp only [truncf_ideal]
  pointwise

theorem pay24_apply (r : Fin 128) (k : Fin 256) : k0_pay24 (ix2 r k)
    = IntOp.cmpi .sge (IntOp.subi (IntOp.addi (BitVec.ofNat 32 r.val) 128#32) (BitVec.ofNat 32 k.val)) 0#32 := by
  pointwise [k0_pay24, k0_pay23]

theorem pay25_apply (r : Fin 128) (k : Fin 256) : k0_pay25 (ix2 r k)
    = IntOp.cmpi .slt (IntOp.subi (IntOp.addi (BitVec.ofNat 32 r.val) 128#32) (BitVec.ofNat 32 k.val)) 128#32 := by
  pointwise [k0_pay25, k0_pay23]

theorem I_apply (r : Fin 128) (k : Fin 256) : I (ix2 r k) = BitVec.ofNat 32 k.val := by
  pointwise [I]

theorem pay26_apply (n : BitVec 32) (z : Fin 1) (r : Fin 128) (k : Fin 256) :
    k0_pay26 n I k0_pay24 k0_pay25 (ix3 z r k) = bit n r k := by
  have e : ∀ x a b, k0_pay26 n x a b (ix3 z r k) = IntOp.andi (IntOp.andi (a (ix2 r k)) (b (ix2 r k)))
      (IntOp.ori (Scalar.cmpi .sgt n 0#32) (IntOp.cmpi .sge (x (ix2 r k)) 128#32)) := by
    intro x a b
    pointwise [k0_pay26]
  rw [e, pay24_apply, pay25_apply, I_apply]
  rfl

theorem pay27_apply (n : BitVec 32) (s : FVec Ideal S4x128x256 .f32) (g : Fin 4) (r : Fin 128) (k : Fin 256) :
    k0_pay27 (F := Ideal) n s I k0_pay24 k0_pay25 (ix3 g r k) = if ok n r k then s (ix3 g r k) else low := by
  have e : k0_pay27 (F := Ideal) n s I k0_pay24 k0_pay25 (ix3 g r k)
      = Scalar.select (k0_pay26 n I k0_pay24 k0_pay25 (ix3 0 r k)) (s (ix3 g r k)) low := by
    unfold k0_pay27
    generalize k0_pay26 n I k0_pay24 k0_pay25 = y
    pointwise
  rw [e, pay26_apply]
  rfl

theorem neg_inf : Ideal.ofBits FTy.f32 4286578688#32 = ⊥ := by
  simp [Ideal.ofBits, Ideal.ieee]

/-- The largest of a row's masked scores and its sink. -/
def top (n : BitVec 32) (s : FVec Ideal S4x128x256 .f32) (v : FVec Ideal S4x128x1 .f32) (g : Fin 4) (r : Fin 128) : EReal :=
  max (Finset.fold max ⊥ (fun x => if ok n r x then s (ix3 g r x) else low) Finset.univ) (v (ix3 g r 0))

theorem pay29_apply (n : BitVec 32) (s : FVec Ideal S4x128x256 .f32) (v : FVec Ideal S4x128x1 .f32) (g : Fin 4) (r : Fin 128) :
    k0_pay29 (F := Ideal) n s I k0_pay24 k0_pay25 v (ix3 g r 0) = top n s v g r := by
  have e : k0_pay29 (F := Ideal) n s I k0_pay24 k0_pay25 v (ix3 g r 0)
      = max (Finset.fold max (Ideal.ofBits FTy.f32 4286578688#32)
          (fun x => k0_pay27 (F := Ideal) n s I k0_pay24 k0_pay25 (ix3 g r x)) Finset.univ) (v (ix3 g r 0)) := by
    unfold k0_pay29
    generalize k0_pay27 (F := Ideal) n s I k0_pay24 k0_pay25 = y
    pointwise [k0_pay28]
  rw [e, neg_inf]
  simp only [pay27_apply]
  rfl

/-- A row's weight on a key. -/
def wt (n : BitVec 32) (s : FVec Ideal S4x128x256 .f32) (v : FVec Ideal S4x128x1 .f32) (g : Fin 4) (r : Fin 128) (k : Fin 256) : EReal :=
  if ok n r k then Ideal.exp (s (ix3 g r k) - top n s v g r) else 0

theorem pay30_apply (n : BitVec 32) (s : FVec Ideal S4x128x256 .f32) (v : FVec Ideal S4x128x1 .f32) (g : Fin 4) (r : Fin 128) (k : Fin 256) :
    k0_pay30 (F := Ideal) n s I k0_pay24 k0_pay25 v (ix3 g r k) = wt n s v g r k := by
  have e : k0_pay30 (F := Ideal) n s I k0_pay24 k0_pay25 v (ix3 g r k)
      = Scalar.select (k0_pay26 n I k0_pay24 k0_pay25 (ix3 0 r k))
          (Ideal.exp (k0_pay27 (F := Ideal) n s I k0_pay24 k0_pay25 (ix3 g r k)
            - k0_pay29 (F := Ideal) n s I k0_pay24 k0_pay25 v (ix3 g r 0))) 0 := by
    unfold k0_pay30
    generalize k0_pay27 (F := Ideal) n s I k0_pay24 k0_pay25 = y
    generalize k0_pay29 (F := Ideal) n s I k0_pay24 k0_pay25 v = y1
    generalize k0_pay26 n I k0_pay24 k0_pay25 = y2
    pointwise
  rw [e, pay26_apply, pay27_apply, pay29_apply]
  show (if ok n r k then _ else _) = _
  unfold wt
  by_cases h : ok n r k
  · rw [if_pos h, if_pos h, if_pos h]
  · rw [if_neg h, if_neg h]

/-- A row's sum of weights, the sink's among them. -/
def sum (n : BitVec 32) (s : FVec Ideal S4x128x256 .f32) (v : FVec Ideal S4x128x1 .f32) (g : Fin 4) (r : Fin 128) : EReal :=
  (∑ k : Fin 256, wt n s v g r k) + Ideal.exp (v (ix3 g r 0) - top n s v g r)

theorem pay31_apply (n : BitVec 32) (s : FVec Ideal S4x128x256 .f32) (v : FVec Ideal S4x128x1 .f32) (g : Fin 4) (r : Fin 128) :
    k0_pay31 (F := Ideal) n s I k0_pay24 k0_pay25 v (ix3 g r 0) = sum n s v g r := by
  have e : k0_pay31 (F := Ideal) n s I k0_pay24 k0_pay25 v (ix3 g r 0)
      = (∑ k : Fin 256, k0_pay30 (F := Ideal) n s I k0_pay24 k0_pay25 v (ix3 g r k))
        + Ideal.exp (v (ix3 g r 0) - k0_pay29 (F := Ideal) n s I k0_pay24 k0_pay25 v (ix3 g r 0)) := by
    unfold k0_pay31
    generalize k0_pay29 (F := Ideal) n s I k0_pay24 k0_pay25 v = y1
    generalize k0_pay30 (F := Ideal) n s I k0_pay24 k0_pay25 v = y
    pointwise [k0_pay28]
  rw [e, pay29_apply]
  simp only [pay30_apply]
  rfl

theorem pay32_apply (n : BitVec 32) (x : FVec Ideal S256x64 .f32) (s : FVec Ideal S4x128x256 .f32) (v : FVec Ideal S4x128x1 .f32)
    (g : Fin 4) (r : Fin 128) (d : Fin 64) :
    k0_pay32 (F := Ideal) x n s I k0_pay24 k0_pay25 v (ix3 g r d)
      = Ideal.div (∑ k : Fin 256, wt n s v g r k * x (ix2 k d)) (sum n s v g r) := by
  have e : k0_pay32 (F := Ideal) x n s I k0_pay24 k0_pay25 v (ix3 g r d)
      = Ideal.div (∑ k : Fin 256, k0_pay30 (F := Ideal) n s I k0_pay24 k0_pay25 v (ix3 g r k) * x (ix2 k d))
          (k0_pay31 (F := Ideal) n s I k0_pay24 k0_pay25 v (ix3 g r 0)) := by
    unfold k0_pay32
    generalize k0_pay31 (F := Ideal) n s I k0_pay24 k0_pay25 v = y1
    generalize k0_pay30 (F := Ideal) n s I k0_pay24 k0_pay25 v = y
    simp only [truncf_ideal]
    pointwise
  rw [e, pay31_apply]
  simp only [pay30_apply]

theorem pay37_apply (n : BitVec 32) (s : FVec Ideal S4x128x256 .f32) (v : FVec Ideal S4x128x1 .f32) (g : Fin 4) (r : Fin 128) :
    k0_pay37 (F := Ideal) n s I k0_pay24 k0_pay25 v (ix3 g r 0) = top n s v g r + Ideal.log (sum n s v g r) := by
  have e : k0_pay37 (F := Ideal) n s I k0_pay24 k0_pay25 v (ix3 g r 0)
      = k0_pay29 (F := Ideal) n s I k0_pay24 k0_pay25 v (ix3 g r 0)
        + Ideal.log (k0_pay31 (F := Ideal) n s I k0_pay24 k0_pay25 v (ix3 g r 0)) := by
    unfold k0_pay37
    generalize k0_pay31 (F := Ideal) n s I k0_pay24 k0_pay25 v = y1
    generalize k0_pay29 (F := Ideal) n s I k0_pay24 k0_pay25 v = y
    pointwise
  rw [e, pay29_apply, pay31_apply]

/-- Eight column groups side by side, at an index of one of them. -/
theorem cat8 (f : Fin 8 → FVec Ideal S128x64 .f32) (e : Fin 8) (r : Fin 128) (d : Fin 64) :
    concatenate S128x512 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩]
      concatenates_S128x64_S128x64_S128x64_S128x64_S128x64_S128x64_S128x64_S128x64_S128x512_d1
      (ix2 r ⟨e.val * 64 + d.val, by omega⟩) = f e (ix2 r d) := by
  fin_cases e <;> pointwise
  all_goals
    (repeat' split) <;> first
      | omega
      | exact congrArg (fun z => f _ (ix2 r z)) (Fin.ext (by simp only []; omega))

end Cert.SwaFwdIdeal.Product
-- ==== Proof.SwaFwdRef.lean ====
/- The windowed attention of the reference, stage by stage: the queries, the keys and values of two neighbouring blocks,
   their products and the mask. -/
module

public import proofs.«01_k».proof.Proof.Gen.SwaFwdRefIdeal.Read
public import proofs.«01_k».proof.Proof.SwaFwdBody

@[expose] public section

set_option maxRecDepth 16384

noncomputable section

open Idealize.ShloMosaic Idealize.ShloMosaic.TcCoe Idealize.SL.Sem
open Idealize.ShloMosaic.Pipeline (Dat)

namespace Cert.SwaFwdRefIdeal.Product

open Cert.SwaFwdRefIdeal Cert.SwaFwdRefIdeal.Gen Cert.SwaFwdRefIdeal.Read
open Cert.SwaFwdIdeal.Product (bit ok scale truncf_ideal neg_inf)

/-- The place of key `k` of the window that ends with block `n`. -/
def key (n : Fin 16) (k : Fin 256) : Fin 2048 := ⟨n.val * 128 + k.val - 128, by omega⟩

variable (x0 : FVec Ideal S2048x768 .f32) (x1 : FVec Ideal S8x128x256 .f32) (x2 : FVec Ideal S8 .f32)

theorem q_apply (n : Fin 16) (r : Fin 128) (h : Fin 2) (g : Fin 4) (d : Fin 64) :
    val_main_v1 (F := Ideal) x0 (ix5 n r h g d) = x0 (ix2 ⟨n.val * 128 + r.val, by omega⟩ ⟨(h.val * 4 + g.val) * 64 + d.val, by omega⟩) := by
  pointwise [val_main_v1, val_main_v0]
  exact congrArg (fun z => x0 (ix2 _ z)) (Fin.ext (by simp only []; omega))

theorem k_apply (n : Fin 16) (r : Fin 128) (h : Fin 2) (d : Fin 64) :
    val_main_v3 (F := Ideal) x0 (ix4 n r h d) = x0 (ix2 ⟨n.val * 128 + r.val, by omega⟩ ⟨512 + (h.val * 64 + d.val), by omega⟩) := by
  pointwise [val_main_v3, val_main_v2]

theorem v_apply (n : Fin 16) (r : Fin 128) (h : Fin 2) (d : Fin 64) :
    val_main_v5 (F := Ideal) x0 (ix4 n r h d) = x0 (ix2 ⟨n.val * 128 + r.val, by omega⟩ ⟨640 + (h.val * 64 + d.val), by omega⟩) := by
  pointwise [val_main_v5, val_main_v4]

theorem keys_apply (n : Fin 16) (k : Fin 256) (h : Fin 2) (d : Fin 64) (hk : 0 < n.val ∨ 128 ≤ k.val) :
    val_main_v10 (F := Ideal) x0 (ix4 n k h d) = x0 (ix2 (key n k) ⟨512 + (h.val * 64 + d.val), by omega⟩) := by
  have e : val_main_v10 (F := Ideal) x0 (ix4 n k h d)
      = if hk : k.val < 128 then (if hn : n.val < 1 then 0 else val_main_v3 (F := Ideal) x0 (ix4 ⟨n.val - 1, by omega⟩ ⟨k.val, hk⟩ h d))
        else val_main_v3 (F := Ideal) x0 (ix4 n ⟨k.val - 128, by omega⟩ h d) := by
    unfold val_main_v10 val_main_v9 val_main_v8 val_main_v7 val_main_cst
    generalize val_main_v3 (F := Ideal) x0 = y
    pointwise
  rw [e]
  split
  · rw [dif_neg (by omega), k_apply]
    exact congrArg (fun z => x0 (ix2 z _)) (Fin.ext (by simp only [key]; omega))
  · rw [k_apply]
    exact congrArg (fun z => x0 (ix2 z _)) (Fin.ext (by simp only [key]; omega))

theorem vals_apply (n : Fin 16) (k : Fin 256) (h : Fin 2) (d : Fin 64) (hk : 0 < n.val ∨ 128 ≤ k.val) :
    val_main_v15 (F := Ideal) x0 (ix4 n k h d) = x0 (ix2 (key n k) ⟨640 + (h.val * 64 + d.val), by omega⟩) := by
  have e : val_main_v15 (F := Ideal) x0 (ix4 n k h d)
      = if hk : k.val < 128 then (if hn : n.val < 1 then 0 else val_main_v5 (F := Ideal) x0 (ix4 ⟨n.val - 1, by omega⟩ ⟨k.val, hk⟩ h d))
        else val_main_v5 (F := Ideal) x0 (ix4 n ⟨k.val - 128, by omega⟩ h d) := by
    unfold val_main_v15 val_main_v14 val_main_v13 val_main_v12 val_main_cst_0
    generalize val_main_v5 (F := Ideal) x0 = y
    pointwise
  rw [e]
  split
  · rw [dif_neg (by omega), v_apply]
    exact congrArg (fun z => x0 (ix2 z _)) (Fin.ext (by simp only [key]; omega))
  · rw [v_apply]
    exact congrArg (fun z => x0 (ix2 z _)) (Fin.ext (by simp only [key]; omega))

theorem dots_apply (n : Fin 16) (h : Fin 2) (g : Fin 4) (r : Fin 128) (k : Fin 256) :
    val_main_v19 (F := Ideal) x0 (ix5 n h g r k)
      = (∑ d : Fin 64, val_main_v10 (F := Ideal) x0 (ix4 n k h d) * val_main_v1 (F := Ideal) x0 (ix5 n r h g d)) * scale := by
  unfold val_main_v19 val_main_v18 val_main_cst_1 val_main_v17 val_main_v16
  generalize val_main_v10 (F := Ideal) x0 = y
  generalize val_main_v1 (F := Ideal) x0 = z
  pointwise

theorem bit_apply (n : Fin 16) (r : Fin 128) (k : Fin 256) :
    val_main_v49 (F := Ideal) (ix3 n r k) = bit (BitVec.ofNat 32 n.val) r k := by
  pointwise [val_main_v49, val_main_v48, val_main_v47, val_main_v46, val_main_v45, val_main_v44, val_main_v43, val_main_v42,
    val_main_v41, val_main_v40, val_main_v39, val_main_v38, val_main_v37, val_main_v36, val_main_v35, val_main_v34, val_main_v33,
    val_main_v32, val_main_v31, val_main_v30, val_main_v29, val_main_v28, val_main_v27, val_main_v26, val_main_v25, val_main_v24,
    val_main_v23, val_main_v22, val_main_v21, val_main_v20, val_main_c, val_main_c_2, val_main_c_3, val_main_c_4, val_main_c_5]
  rfl

end Cert.SwaFwdRefIdeal.Product
-- ==== Proof.SwaFwdStages.lean ====
/- The windowed attention of the reference, its later stages: the masked scores with the sink in the last place, their
   largest, the exponentials, and the two results in their terms. -/
module

public import proofs.«01_k».proof.Proof.Gen.SwaFwdRefIdeal.Read
public import proofs.«01_k».proof.Proof.SwaFwdRef

@[expose] public section

set_option maxRecDepth 16384

noncomputable section

open Idealize.ShloMosaic Idealize.ShloMosaic.TcCoe Idealize.SL.Sem
open Idealize.ShloMosaic.Pipeline (Dat)

namespace Cert.SwaFwdRefIdeal.Product

open Cert.SwaFwdRefIdeal Cert.SwaFwdRefIdeal.Gen Cert.SwaFwdRefIdeal.Read
open Cert.SwaFwdIdeal.Product (bit ok scale truncf_ideal neg_inf)

variable (x0 : FVec Ideal S2048x768 .f32) (x1 : FVec Ideal S8x128x256 .f32) (x2 : FVec Ideal S8 .f32)

/-- The masked scores. -/
theorem scores_apply (n : Fin 16) (h : Fin 2) (g : Fin 4) (r : Fin 128) (k : Fin 256) :
    val_main_v55 (F := Ideal) x0 x1 (ix5 n h g r k)
      = if ok (BitVec.ofNat 32 n.val) r k then
          val_main_v19 (F := Ideal) x0 (ix5 n h g r k) + x1 (ix3 ⟨h.val * 4 + g.val, by omega⟩ r k)
        else ⊥ := by
  have e : val_main_v55 (F := Ideal) x0 x1 (ix5 n h g r k)
      = Scalar.select (val_main_v49 (F := Ideal) (ix3 n r k))
          (val_main_v19 (F := Ideal) x0 (ix5 n h g r k) + x1 (ix3 ⟨h.val * 4 + g.val, by omega⟩ r k)) (Ideal.ofBits FTy.f32 4286578688#32) := by
    unfold val_main_v55 val_main_v54 val_main_v53 val_main_v52 val_main_v51 val_main_call0_v2 val_main_call0_v1 val_main_v50 val_main_call0_v0
      val_main_cst_6
    generalize val_main_v49 (F := Ideal) = y
    generalize val_main_v19 (F := Ideal) x0 = z
    pointwise
    rfl
  rw [e, bit_apply, Cert.SwaFwdIdeal.Product.neg_inf]
  rfl

/-- The row of scores with the sink last. -/
theorem row_key (n : Fin 16) (h : Fin 2) (g : Fin 4) (r : Fin 128) (k : Fin 256) :
    val_main_v58 (F := Ideal) x0 x1 x2 (ix5 n h g r (k.castSucc : Fin 257)) = val_main_v55 (F := Ideal) x0 x1 (ix5 n h g r k) := by
  have e : ∀ z : Fin 257, (hz : z.val < 256) → val_main_v58 (F := Ideal) x0 x1 x2 (ix5 n h g r z)
      = val_main_v55 (F := Ideal) x0 x1 (ix5 n h g r ⟨z.val, hz⟩) := by
    intro z hz
    unfold val_main_v58
    generalize val_main_v55 (F := Ideal) x0 x1 = y
    generalize val_main_v57 (F := Ideal) x2 = w
    pointwise
    exact dif_pos hz
  exact e k.castSucc k.isLt

theorem row_sink (n : Fin 16) (h : Fin 2) (g : Fin 4) (r : Fin 128) :
    val_main_v58 (F := Ideal) x0 x1 x2 (ix5 n h g r (Fin.last 256)) = x2 (ix1 ⟨h.val * 4 + g.val, by omega⟩) := by
  have e : ∀ z : Fin 257, (hz : ¬ z.val < 256) → val_main_v58 (F := Ideal) x0 x1 x2 (ix5 n h g r z)
      = val_main_v57 (F := Ideal) x2 (ix5 n h g r ⟨z.val - 256, by omega⟩) := by
    intro z hz
    unfold val_main_v58
    generalize val_main_v55 (F := Ideal) x0 x1 = y
    generalize val_main_v57 (F := Ideal) x2 = w
    pointwise
    exact dif_neg hz
  rw [e _ (by decide)]
  pointwise [val_main_v57, val_main_v56]

/-- A row's largest score. -/
def top (n : Fin 16) (h : Fin 2) (g : Fin 4) (r : Fin 128) : EReal :=
  Finset.fold max ⊥ (fun z : Fin 257 => val_main_v58 (F := Ideal) x0 x1 x2 (ix5 n h g r z)) Finset.univ

theorem fold_apply (y : FVec Ideal S16x2x4x128x257 .f32) (c : FVec Ideal S_ .f32) (hc : ∀ i, c i = ⊥) (n : Fin 16) (h : Fin 2) (g : Fin 4) (r : Fin 128) :
    Host.reduce FloatOps.maximumf y c reducesTo_S16x2x4x128x257_S16x2x4x128_d4 h_S_ (ix4 n h g r)
      = Finset.fold max ⊥ (fun z : Fin 257 => y (ix5 n h g r z)) Finset.univ := by
  pointwise
  rw [hc]

theorem top_apply (n : Fin 16) (h : Fin 2) (g : Fin 4) (r : Fin 128) :
    val_main_v74 (F := Ideal) x0 x1 x2 (ix4 n h g r) = top x0 x1 x2 n h g r := by
  unfold val_main_v74
  exact fold_apply _ _ (fun _ => Cert.SwaFwdIdeal.Product.neg_inf) n h g r

theorem top'_apply (n : Fin 16) (h : Fin 2) (g : Fin 4) (r : Fin 128) :
    val_main_v61 (F := Ideal) x0 x1 x2 (ix4 n h g r) = top x0 x1 x2 n h g r := by
  rw [val_main_v61_apply, val_main_v60_apply, val_main_cst_8_apply]
  unfold val_main_v59
  refine (congrArg (FloatOps.maximumf (F := Ideal) (φ := .f32) _) (fold_apply _ _ (fun _ => Cert.SwaFwdIdeal.Product.neg_inf) n h g r)).trans ?_
  show max (Ideal.ofBits FTy.f32 4286578688#32) _ = _
  rw [Cert.SwaFwdIdeal.Product.neg_inf]
  exact max_eq_right bot_le

theorem exp_apply (n : Fin 16) (h : Fin 2) (g : Fin 4) (r : Fin 128) (z : Fin 257) :
    val_main_v65 (F := Ideal) x0 x1 x2 (ix5 n h g r z)
      = Ideal.exp (val_main_v58 (F := Ideal) x0 x1 x2 (ix5 n h g r z) - top x0 x1 x2 n h g r) := by
  rw [← top'_apply]
  unfold val_main_v65 val_main_v64 val_main_v63 val_main_v62
  generalize val_main_v58 (F := Ideal) x0 x1 x2 = y
  generalize val_main_v61 (F := Ideal) x0 x1 x2 = w
  pointwise

theorem exp'_apply (n : Fin 16) (h : Fin 2) (g : Fin 4) (r : Fin 128) (z : Fin 257) :
    val_main_v78 (F := Ideal) x0 x1 x2 (ix5 n h g r z)
      = Ideal.exp (val_main_v58 (F := Ideal) x0 x1 x2 (ix5 n h g r z) - top x0 x1 x2 n h g r) := by
  rw [← top_apply]
  unfold val_main_v78 val_main_v77 val_main_v76 val_main_v75
  generalize val_main_v58 (F := Ideal) x0 x1 x2 = y
  generalize val_main_v74 (F := Ideal) x0 x1 x2 = w
  pointwise

theorem p_apply (n : Fin 16) (h : Fin 2) (g : Fin 4) (r : Fin 128) (k : Fin 256) :
    val_main_v70 (F := Ideal) x0 x1 x2 (ix5 n h g r k)
      = Ideal.div (val_main_v65 (F := Ideal) x0 x1 x2 (ix5 n h g r (k.castSucc : Fin 257)))
          (∑ z : Fin 257, val_main_v65 (F := Ideal) x0 x1 x2 (ix5 n h g r z)) := by
  unfold val_main_v70 val_main_v69 val_main_v68 val_main_v67 val_main_v66 val_main_cst_9
  generalize val_main_v65 (F := Ideal) x0 x1 x2 = y
  pointwise
  rfl

theorem o_apply (n : Fin 16) (h : Fin 2) (g : Fin 4) (r : Fin 128) (d : Fin 64) :
    val_main_v83 (F := Ideal) x0 x1 x2 (ix2 ⟨n.val * 128 + r.val, by omega⟩ ⟨(h.val * 4 + g.val) * 64 + d.val, by omega⟩)
      = ∑ k : Fin 256, val_main_v15 (F := Ideal) x0 (ix4 n k h d) * val_main_v70 (F := Ideal) x0 x1 x2 (ix5 n h g r k) := by
  have e1 : val_main_v83 (F := Ideal) x0 x1 x2 (ix2 ⟨n.val * 128 + r.val, by omega⟩ ⟨(h.val * 4 + g.val) * 64 + d.val, by omega⟩)
      = val_main_v72 (F := Ideal) x0 x1 x2 (ix5 n r h g d) := by
    unfold val_main_v83 val_main_v73
    rw [truncf_ideal]
    generalize val_main_v72 (F := Ideal) x0 x1 x2 = y
    pointwise
  rw [e1]
  unfold val_main_v72 val_main_v71
  generalize val_main_v15 (F := Ideal) x0 = y
  generalize val_main_v70 (F := Ideal) x0 x1 x2 = w
  pointwise

theorem total_apply (n : Fin 16) (h : Fin 2) (g : Fin 4) (r : Fin 128) :
    val_main_v79 (F := Ideal) x0 x1 x2 (ix4 n h g r) = ∑ z : Fin 257, val_main_v78 (F := Ideal) x0 x1 x2 (ix5 n h g r z) := by
  unfold val_main_v79 val_main_cst_11
  generalize val_main_v78 (F := Ideal) x0 x1 x2 = y
  pointwise

theorem hostLog_ideal (x : EReal) : FloatOps.hostUnary (F := Ideal) (φ := .f32) .log x = Ideal.log x := rfl

theorem addf_ideal (x y : EReal) : FloatOps.addf (F := Ideal) (φ := .f32) x y = x + y := rfl

theorem column_apply (y : FVec Ideal S16x2x4x128 .f32) (n : Fin 16) (h : Fin 2) (g : Fin 4) (r : Fin 128) :
    broadcastInDim S16x2x4x128x1 ![0, 1, 2, 3] bcast_S16x2x4x128_S16x2x4x128x1_0_1_2_3 y (ix5 n h g r 0) = y (ix4 n h g r) := by
  pointwise

theorem log_apply (n : Fin 16) (h : Fin 2) (g : Fin 4) (r : Fin 128) :
    val_main_v82 (F := Ideal) x0 x1 x2 (ix5 n h g r 0)
      = val_main_v74 (F := Ideal) x0 x1 x2 (ix4 n h g r) + Ideal.log (val_main_v79 (F := Ideal) x0 x1 x2 (ix4 n h g r)) := by
  rw [val_main_v82_apply, val_main_v81_apply, val_main_v75, val_main_v80, column_apply, column_apply, hostLog_ideal, addf_ideal]

theorem heads_apply (y : FVec Ideal S16x2x4x128x1 .f32) (n : Fin 16) (h : Fin 2) (g : Fin 4) (r : Fin 128) :
    transpose S2x4x16x128x1 [1, 2, 0, 3, 4] y transposes_S16x2x4x128x1_S2x4x16x128x1_1_2_0_3_4 (ix5 h g n r 0) = y (ix5 n h g r 0) := by
  pointwise

theorem rows_apply (y : FVec Ideal S2x4x16x128x1 .f32) (n : Fin 16) (h : Fin 2) (g : Fin 4) (r : Fin 128) (p : Fin 8) (q : Fin 2048)
    (hp : p.val = h.val * 4 + g.val) (hq : q.val = n.val * 128 + r.val) :
    shapeCast S8x2048x1 y shapeCasts_S2x4x16x128x1_S8x2048x1 (ix3 p q 0) = y (ix5 h g n r 0) := by
  pointwise
  rw [show (⟨p.val / 4, by omega⟩ : Fin 2) = h from Fin.ext (by simp only []; omega),
    show (⟨p.val % 4, by omega⟩ : Fin 4) = g from Fin.ext (by simp only []; omega),
    show (⟨q.val / 128, by omega⟩ : Fin 16) = n from Fin.ext (by simp only []; omega),
    show (⟨q.val % 128, by omega⟩ : Fin 128) = r from Fin.ext (by simp only []; omega)]

theorem l_apply (n : Fin 16) (h : Fin 2) (g : Fin 4) (r : Fin 128) :
    val_main_v85 (F := Ideal) x0 x1 x2 (ix3 ⟨h.val * 4 + g.val, by omega⟩ ⟨n.val * 128 + r.val, by omega⟩ 0)
      = top x0 x1 x2 n h g r + Ideal.log (∑ z : Fin 257, val_main_v78 (F := Ideal) x0 x1 x2 (ix5 n h g r z)) := by
  rw [← top_apply, ← total_apply, ← log_apply, val_main_v85, rows_apply _ n h g r _ _ rfl rfl, val_main_v84, heads_apply]

end Cert.SwaFwdRefIdeal.Product
-- ==== Proof.SwaFwdCopies.lean ====
/- The four copies of one head group in the windowed attention kernel's body, each shown to be the group's functions, and the
   slices of the projection that a copy works on. -/
module

public import proofs.«01_k».proof.Proof.SwaFwdBody

@[expose] public section

set_option maxRecDepth 16384

noncomputable section

open Idealize.ShloMosaic Idealize.ShloMosaic.TcCoe Idealize.SL.Sem
open Idealize.ShloMosaic.Pipeline (Dat)

namespace Cert.SwaFwdIdeal.Product

open Cert.SwaFwdIdeal Cert.SwaFwdIdeal.Gen

/-- A group's weighted values. -/
abbrev grp (q : FVec Ideal S512x64 .f32) (kk x : FVec Ideal S256x64 .f32) (n : BitVec 32) (b : FVec Ideal S4x128x256 .f32)
    (v : FVec Ideal S4x128x1 .f32) : FVec Ideal S4x128x64 .f32 :=
  k0_pay32 (F := Ideal) x n (k0_pay22 (F := Ideal) q kk b) I k0_pay24 k0_pay25 v

/-- A group's logarithm of the sum of weights. -/
abbrev lg (q : FVec Ideal S512x64 .f32) (kk : FVec Ideal S256x64 .f32) (n : BitVec 32) (b : FVec Ideal S4x128x256 .f32)
    (v : FVec Ideal S4x128x1 .f32) : FVec Ideal S4x128x1 .f32 :=
  k0_pay37 (F := Ideal) n (k0_pay22 (F := Ideal) q kk b) I k0_pay24 k0_pay25 v

/-- Two groups' values side by side, head by head. -/
def row (o0 o1 : FVec Ideal S4x128x64 .f32) : FVec Ideal S128x512 .f32 :=
  concatenate S128x512 1
    [⟨S128x64, shapeCast S128x64 (extractStridedSlice S1x128x64 ![0, 0, 0] o0 slices_S4x128x64_o0_0_0_S1x128x64) shapeCasts_S1x128x64_S128x64⟩,
     ⟨S128x64, shapeCast S128x64 (extractStridedSlice S1x128x64 ![1, 0, 0] o0 slices_S4x128x64_o1_0_0_S1x128x64) shapeCasts_S1x128x64_S128x64⟩,
     ⟨S128x64, shapeCast S128x64 (extractStridedSlice S1x128x64 ![2, 0, 0] o0 slices_S4x128x64_o2_0_0_S1x128x64) shapeCasts_S1x128x64_S128x64⟩,
     ⟨S128x64, shapeCast S128x64 (extractStridedSlice S1x128x64 ![3, 0, 0] o0 slices_S4x128x64_o3_0_0_S1x128x64) shapeCasts_S1x128x64_S128x64⟩,
     ⟨S128x64, shapeCast S128x64 (extractStridedSlice S1x128x64 ![0, 0, 0] o1 slices_S4x128x64_o0_0_0_S1x128x64) shapeCasts_S1x128x64_S128x64⟩,
     ⟨S128x64, shapeCast S128x64 (extractStridedSlice S1x128x64 ![1, 0, 0] o1 slices_S4x128x64_o1_0_0_S1x128x64) shapeCasts_S1x128x64_S128x64⟩,
     ⟨S128x64, shapeCast S128x64 (extractStridedSlice S1x128x64 ![2, 0, 0] o1 slices_S4x128x64_o2_0_0_S1x128x64) shapeCasts_S1x128x64_S128x64⟩,
     ⟨S128x64, shapeCast S128x64 (extractStridedSlice S1x128x64 ![3, 0, 0] o1 slices_S4x128x64_o3_0_0_S1x128x64) shapeCasts_S1x128x64_S128x64⟩]
    concatenates_S128x64_S128x64_S128x64_S128x64_S128x64_S128x64_S128x64_S128x64_S128x512_d1

theorem sl0 (o : FVec Ideal S4x128x64 .f32) (r : Fin 128) (d : Fin 64) :
    shapeCast S128x64 (extractStridedSlice S1x128x64 ![0, 0, 0] o slices_S4x128x64_o0_0_0_S1x128x64) shapeCasts_S1x128x64_S128x64 (ix2 r d)
      = o (ix3 0 r d) := by
  pointwise

theorem sl1 (o : FVec Ideal S4x128x64 .f32) (r : Fin 128) (d : Fin 64) :
    shapeCast S128x64 (extractStridedSlice S1x128x64 ![1, 0, 0] o slices_S4x128x64_o1_0_0_S1x128x64) shapeCasts_S1x128x64_S128x64 (ix2 r d)
      = o (ix3 1 r d) := by
  pointwise

theorem sl2 (o : FVec Ideal S4x128x64 .f32) (r : Fin 128) (d : Fin 64) :
    shapeCast S128x64 (extractStridedSlice S1x128x64 ![2, 0, 0] o slices_S4x128x64_o2_0_0_S1x128x64) shapeCasts_S1x128x64_S128x64 (ix2 r d)
      = o (ix3 2 r d) := by
  pointwise

theorem sl3 (o : FVec Ideal S4x128x64 .f32) (r : Fin 128) (d : Fin 64) :
    shapeCast S128x64 (extractStridedSlice S1x128x64 ![3, 0, 0] o slices_S4x128x64_o3_0_0_S1x128x64) shapeCasts_S1x128x64_S128x64 (ix2 r d)
      = o (ix3 3 r d) := by
  pointwise

theorem row_apply (o0 o1 : FVec Ideal S4x128x64 .f32) (h : Fin 2) (g : Fin 4) (r : Fin 128) (d : Fin 64) :
    row o0 o1 (ix2 r ⟨(h.val * 4 + g.val) * 64 + d.val, by omega⟩) = (if h = 0 then o0 else o1) (ix3 g r d) := by
  have e := cat8 ![shapeCast S128x64 (extractStridedSlice S1x128x64 ![0, 0, 0] o0 slices_S4x128x64_o0_0_0_S1x128x64) shapeCasts_S1x128x64_S128x64,
     shapeCast S128x64 (extractStridedSlice S1x128x64 ![1, 0, 0] o0 slices_S4x128x64_o1_0_0_S1x128x64) shapeCasts_S1x128x64_S128x64,
     shapeCast S128x64 (extractStridedSlice S1x128x64 ![2, 0, 0] o0 slices_S4x128x64_o2_0_0_S1x128x64) shapeCasts_S1x128x64_S128x64,
     shapeCast S128x64 (extractStridedSlice S1x128x64 ![3, 0, 0] o0 slices_S4x128x64_o3_0_0_S1x128x64) shapeCasts_S1x128x64_S128x64,
     shapeCast S128x64 (extractStridedSlice S1x128x64 ![0, 0, 0] o1 slices_S4x128x64_o0_0_0_S1x128x64) shapeCasts_S1x128x64_S128x64,
     shapeCast S128x64 (extractStridedSlice S1x128x64 ![1, 0, 0] o1 slices_S4x128x64_o1_0_0_S1x128x64) shapeCasts_S1x128x64_S128x64,
     shapeCast S128x64 (extractStridedSlice S1x128x64 ![2, 0, 0] o1 slices_S4x128x64_o2_0_0_S1x128x64) shapeCasts_S1x128x64_S128x64,
     shapeCast S128x64 (extractStridedSlice S1x128x64 ![3, 0, 0] o1 slices_S4x128x64_o3_0_0_S1x128x64) shapeCasts_S1x128x64_S128x64]
    (⟨h.val * 4 + g.val, by omega⟩ : Fin 8) r d
  refine Eq.trans e ?_
  fin_cases h <;> fin_cases g
  all_goals first
    | exact sl0 o0 r d
    | exact sl1 o0 r d
    | exact sl2 o0 r d
    | exact sl3 o0 r d
    | exact sl0 o1 r d
    | exact sl1 o1 r d
    | exact sl2 o1 r d
    | exact sl3 o1 r d

theorem rows0 (q0 q1 : FVec Ideal S512x64 .f32) (k0 k1 x0 x1 : FVec Ideal S256x64 .f32) (n : BitVec 32)
    (b0 b1 : FVec Ideal S4x128x256 .f32) (v0 v1 : FVec Ideal S4x128x1 .f32) :
    k0_pay46 (F := Ideal) x1 (k0_pay33 (F := Ideal) x0 n (k0_pay22 (F := Ideal) q0 k0 b0) I k0_pay24 k0_pay25 v0)
      (k0_pay34 (F := Ideal) x0 n (k0_pay22 (F := Ideal) q0 k0 b0) I k0_pay24 k0_pay25 v0)
      (k0_pay35 (F := Ideal) x0 n (k0_pay22 (F := Ideal) q0 k0 b0) I k0_pay24 k0_pay25 v0)
      (k0_pay36 (F := Ideal) x0 n (k0_pay22 (F := Ideal) q0 k0 b0) I k0_pay24 k0_pay25 v0)
      (k0_pay40 (F := Ideal) v1) (k0_pay41 (F := Ideal) q1 k1 n b1 v1) (k0_pay42 (F := Ideal) q1 k1 n b1 v1)
      (k0_pay43 (F := Ideal) q1 k1 n b1 v1)
      = row (grp q0 k0 x0 n b0 v0) (grp q1 k1 x1 n b1 v1) := rfl

theorem lg01 (q : FVec Ideal S512x64 .f32) (k : FVec Ideal S256x64 .f32) (n : BitVec 32)
    (b : FVec Ideal S4x128x256 .f32) (v : FVec Ideal S4x128x1 .f32) :
    k0_pay45 (F := Ideal) (k0_pay40 (F := Ideal) v) (k0_pay41 (F := Ideal) q k n b v) (k0_pay43 (F := Ideal) q k n b v)
      = lg q k n b v := rfl

theorem lg10 (q : FVec Ideal S512x64 .f32) (k : FVec Ideal S256x64 .f32) (n : BitVec 32)
    (b : FVec Ideal S4x128x256 .f32) (v : FVec Ideal S4x128x1 .f32) :
    k0_pay60 (F := Ideal) n (k0_pay47 (F := Ideal) q k b) I k0_pay48 0#32 v = lg q k n b v := rfl

theorem lg11 (q : FVec Ideal S512x64 .f32) (k : FVec Ideal S256x64 .f32) (n : BitVec 32)
    (b : FVec Ideal S4x128x256 .f32) (v : FVec Ideal S4x128x1 .f32) :
    k0_pay2 (F := Ideal) (k0_pay64 (F := Ideal) q k n b v) (k0_pay66 (F := Ideal) q k n b v) (k0_pay67 (F := Ideal) q k n b v)
      = lg q k n b v := rfl

theorem rows1 (q0 q1 : FVec Ideal S512x64 .f32) (k0 k1 x0 x1 : FVec Ideal S256x64 .f32) (n : BitVec 32)
    (b0 b1 : FVec Ideal S4x128x256 .f32) (v0 v1 : FVec Ideal S4x128x1 .f32) :
    k0_pay3 (F := Ideal) x1 (k0_pay56 (F := Ideal) x0 n (k0_pay47 (F := Ideal) q0 k0 b0) I k0_pay48 0#32 v0)
      (k0_pay57 (F := Ideal) x0 n (k0_pay47 (F := Ideal) q0 k0 b0) I k0_pay48 0#32 v0)
      (k0_pay58 (F := Ideal) x0 n (k0_pay47 (F := Ideal) q0 k0 b0) I k0_pay48 0#32 v0)
      (k0_pay59 (F := Ideal) x0 n (k0_pay47 (F := Ideal) q0 k0 b0) I k0_pay48 0#32 v0)
      (k0_pay65 (F := Ideal) q1 k1 n b1 v1) (k0_pay66 (F := Ideal) q1 k1 n b1 v1) (k0_pay67 (F := Ideal) q1 k1 n b1 v1)
      = row (grp q0 k0 x0 n b0 v0) (grp q1 k1 x1 n b1 v1) := rfl

/-- The queries of key head 0, the four heads stacked. -/
theorem q0_apply (x : FVec Ideal S128x512 .bf16) (g : Fin 4) (r : Fin 128) (d : Fin 64) :
    k0_pay7 (F := Ideal) x (ix2 ⟨g.val * 128 + r.val, by omega⟩ d) = x (ix2 r ⟨g.val * 64 + d.val, by omega⟩) := by
  fin_cases g <;> pointwise [k0_pay7, k0_pay5]
  all_goals
    (repeat' split) <;> first
      | omega
      | rfl
      | exact congrArg (fun z => x (ix2 z _)) (Fin.ext (Nat.mod_eq_of_lt r.isLt))

/-- The queries of key head 1. -/
theorem q1_apply (x : FVec Ideal S128x512 .bf16) (g : Fin 4) (r : Fin 128) (d : Fin 64) :
    k0_pay10 (F := Ideal) x (ix2 ⟨g.val * 128 + r.val, by omega⟩ d) = x (ix2 r ⟨256 + g.val * 64 + d.val, by omega⟩) := by
  fin_cases g <;> pointwise [k0_pay10, k0_pay5]
  all_goals
    (repeat' split) <;> first
      | omega
      | rfl
      | exact congrArg (fun z => x (ix2 z _)) (Fin.ext (Nat.mod_eq_of_lt r.isLt))

theorem q0' (x : FVec Ideal S128x512 .bf16) : k0_pay16 (F := Ideal) (k0_pay13 (F := Ideal) x) (k0_pay15 (F := Ideal) x)
    = k0_pay7 (F := Ideal) x := rfl

theorem q1' (x : FVec Ideal S128x512 .bf16) : k0_pay19 (F := Ideal) (k0_pay13 (F := Ideal) x) = k0_pay10 (F := Ideal) x := rfl

/-- The three blocks of keys and values. -/
theorem cat_apply (a : FVec Ideal S128x256 .bf16) (b : FVec Ideal S256x256 .bf16) (R : Fin 384) (x : Fin 256) :
    k0_pay4 (F := Ideal) a b (ix2 R x)
      = if h : R.val < 128 then a (ix2 ⟨R.val, h⟩ x) else b (ix2 ⟨R.val - 128, by omega⟩ x) := by
  pointwise [k0_pay4]

theorem k00 (a : FVec Ideal S128x256 .bf16) (b : FVec Ideal S256x256 .bf16) (k : Fin 256) (d : Fin 64) :
    k0_pay8 (F := Ideal) a b (ix2 k d) = k0_pay4 (F := Ideal) a b (ix2 ⟨k.val, by omega⟩ ⟨d.val, by omega⟩) := by
  unfold k0_pay8 k0_pay6
  generalize k0_pay4 (F := Ideal) a b = y
  pointwise

theorem v00 (a : FVec Ideal S128x256 .bf16) (b : FVec Ideal S256x256 .bf16) (k : Fin 256) (d : Fin 64) :
    k0_pay9 (F := Ideal) a b (ix2 k d) = k0_pay4 (F := Ideal) a b (ix2 ⟨k.val, by omega⟩ ⟨128 + d.val, by omega⟩) := by
  unfold k0_pay9 k0_pay6
  generalize k0_pay4 (F := Ideal) a b = y
  pointwise

theorem k01 (a : FVec Ideal S128x256 .bf16) (b : FVec Ideal S256x256 .bf16) (k : Fin 256) (d : Fin 64) :
    k0_pay11 (F := Ideal) a b (ix2 k d) = k0_pay4 (F := Ideal) a b (ix2 ⟨k.val, by omega⟩ ⟨64 + d.val, by omega⟩) := by
  unfold k0_pay11 k0_pay6
  generalize k0_pay4 (F := Ideal) a b = y
  pointwise

theorem v01 (a : FVec Ideal S128x256 .bf16) (b : FVec Ideal S256x256 .bf16) (k : Fin 256) (d : Fin 64) :
    k0_pay12 (F := Ideal) a b (ix2 k d) = k0_pay4 (F := Ideal) a b (ix2 ⟨k.val, by omega⟩ ⟨192 + d.val, by omega⟩) := by
  unfold k0_pay12 k0_pay6
  generalize k0_pay4 (F := Ideal) a b = y
  pointwise

theorem k10 (a : FVec Ideal S128x256 .bf16) (b : FVec Ideal S256x256 .bf16) (k : Fin 256) (d : Fin 64) :
    k0_pay17 (F := Ideal) (k0_pay14 (F := Ideal) a b) (ix2 k d)
      = k0_pay4 (F := Ideal) a b (ix2 ⟨128 + k.val, by omega⟩ ⟨d.val, by omega⟩) := by
  unfold k0_pay17 k0_pay14
  generalize k0_pay4 (F := Ideal) a b = y
  pointwise

theorem v10 (a : FVec Ideal S128x256 .bf16) (b : FVec Ideal S256x256 .bf16) (k : Fin 256) (d : Fin 64) :
    k0_pay18 (F := Ideal) (k0_pay14 (F := Ideal) a b) (ix2 k d)
      = k0_pay4 (F := Ideal) a b (ix2 ⟨128 + k.val, by omega⟩ ⟨128 + d.val, by omega⟩) := by
  unfold k0_pay18 k0_pay14
  generalize k0_pay4 (F := Ideal) a b = y
  pointwise

theorem k11 (a : FVec Ideal S128x256 .bf16) (b : FVec Ideal S256x256 .bf16) (k : Fin 256) (d : Fin 64) :
    k0_pay20 (F := Ideal) (k0_pay14 (F := Ideal) a b) (ix2 k d)
      = k0_pay4 (F := Ideal) a b (ix2 ⟨128 + k.val, by omega⟩ ⟨64 + d.val, by omega⟩) := by
  unfold k0_pay20 k0_pay14
  generalize k0_pay4 (F := Ideal) a b = y
  pointwise

theorem v11 (a : FVec Ideal S128x256 .bf16) (b : FVec Ideal S256x256 .bf16) (k : Fin 256) (d : Fin 64) :
    k0_pay21 (F := Ideal) (k0_pay14 (F := Ideal) a b) (ix2 k d)
      = k0_pay4 (F := Ideal) a b (ix2 ⟨128 + k.val, by omega⟩ ⟨192 + d.val, by omega⟩) := by
  unfold k0_pay21 k0_pay14
  generalize k0_pay4 (F := Ideal) a b = y
  pointwise

end Cert.SwaFwdIdeal.Product
-- ==== Proof.SwaFwdMath.lean ====
/- One head of one block of queries: the kernel's group and the reference's stages are both the closed form over real
   numbers - the weighted mean of the values, and the logarithm of the sum of the exponentials. -/
module

public import proofs.«01_k».proof.Proof.SwaFwdStages
public import proofs.«01_k».proof.Proof.SwaFwdCopies

@[expose] public section

set_option maxRecDepth 16384

noncomputable section

open Idealize.ShloMosaic Idealize.ShloMosaic.TcCoe Idealize.SL.Sem
open Idealize.ShloMosaic.Pipeline (Dat)

namespace Cert.SwaFwdRefIdeal.Product

open Cert.SwaFwdRefIdeal Cert.SwaFwdRefIdeal.Gen Cert.SwaFwdRefIdeal.Read
open Cert.SwaFwdIdeal.Product (bit ok scale low truncf_ideal grp lg pay22_apply pay32_apply pay37_apply wt)
open Cert.Softmax

theorem scale_eq : scale = ((1 / 8 : ℝ) : EReal) := by
  simp [Ideal.ofBits, Ideal.ieee, -EReal.coe_mul]; norm_num

theorem low_ne : low ≠ ⊤ := by
  simp [Ideal.ofBits, Ideal.ieee, -EReal.coe_mul]

/-- The mask hides the keys before the first block. -/
theorem ok_key (n : Fin 16) (r : Fin 128) (k : Fin 256) (h : ok (BitVec.ofNat 32 n.val) r k) : 0 < n.val ∨ 128 ≤ k.val := by
  by_contra hc
  have hn : n.val = 0 := by omega
  have hk : k.val < 128 := by omega
  have h1 : ∀ k : Fin 128, IntOp.ori (Scalar.cmpi .sgt (BitVec.ofNat 32 0) 0#32) (IntOp.cmpi .sge (BitVec.ofNat 32 k.val) 128#32) = 0#1 := by
    decide +kernel
  have h2 : ∀ x : BitVec 1, IntOp.andi x 0#1 = 0#1 := by decide
  have h3 : bit (BitVec.ofNat 32 0) r k = 1#1 := by rw [← hn]; exact h
  unfold bit at h3
  rw [h1 ⟨k.val, hk⟩, h2] at h3
  exact absurd h3 (by decide)

variable (x0 : FVec Ideal S2048x768 .f32) (x1 : FVec Ideal S8x128x256 .f32) (x2 : FVec Ideal S8 .f32)
variable (P : S2048x768.Idx → ℝ) (B : S8x128x256.Idx → ℝ) (N : S8.Idx → ℝ)

/-- A score, as a real number. -/
def score (n : Fin 16) (h : Fin 2) (g : Fin 4) (r : Fin 128) (k : Fin 256) : ℝ :=
  (∑ d : Fin 64, P (ix2 ⟨n.val * 128 + r.val, by omega⟩ ⟨(h.val * 4 + g.val) * 64 + d.val, by omega⟩)
    * P (ix2 (key n k) ⟨512 + (h.val * 64 + d.val), by omega⟩)) * (1 / 8) + B (ix3 ⟨h.val * 4 + g.val, by omega⟩ r k)

/-- A value, as a real number. -/
def value (n : Fin 16) (h : Fin 2) (d : Fin 64) (k : Fin 256) : ℝ := P (ix2 (key n k) ⟨640 + (h.val * 64 + d.val), by omega⟩)

/-- A head's sink, as a real number. -/
def sinkR (h : Fin 2) (g : Fin 4) : ℝ := N (ix1 ⟨h.val * 4 + g.val, by omega⟩)

variable (hP : ∀ i, x0 i = (P i : EReal)) (hB : ∀ i, x1 i = (B i : EReal)) (hN : ∀ i, x2 i = (N i : EReal))

include hP hB in
theorem score_real (n : Fin 16) (h : Fin 2) (g : Fin 4) (r : Fin 128) (k : Fin 256) (hk : ok (BitVec.ofNat 32 n.val) r k) :
    val_main_v19 (F := Ideal) x0 (ix5 n h g r k) + x1 (ix3 ⟨h.val * 4 + g.val, by omega⟩ r k) = (score P B n h g r k : EReal) := by
  rw [dots_apply]
  simp only [keys_apply x0 n k h _ (ok_key n r k hk), q_apply, hP, hB, scale_eq, ← EReal.coe_mul]
  rw [coe_sum, ← EReal.coe_mul, ← EReal.coe_add]
  unfold score
  congr 3
  exact Finset.sum_congr rfl fun d _ => mul_comm _ _

include hP in
theorem value_real (n : Fin 16) (h : Fin 2) (d : Fin 64) (r : Fin 128) (k : Fin 256) (hk : ok (BitVec.ofNat 32 n.val) r k) :
    val_main_v15 (F := Ideal) x0 (ix4 n k h d) = (value P n h d k : EReal) := by
  rw [vals_apply x0 n k h d (ok_key n r k hk), hP]
  rfl

include hP hB hN in
theorem top_real (n : Fin 16) (h : Fin 2) (g : Fin 4) (r : Fin 128) : ∃ M : ℝ, top x0 x1 x2 n h g r = (M : EReal) :=
  max_row (ok (BitVec.ofNat 32 n.val) r) (score P B n h g r) (sinkR N h g)
    (fun k => val_main_v19 (F := Ideal) x0 (ix5 n h g r k) + x1 (ix3 ⟨h.val * 4 + g.val, by omega⟩ r k))
    (x2 (ix1 ⟨h.val * 4 + g.val, by omega⟩)) (fun z : Fin 257 => val_main_v58 (F := Ideal) x0 x1 x2 (ix5 n h g r z))
    (fun k => (row_key x0 x1 x2 n h g r k).trans (scores_apply x0 x1 n h g r k)) (row_sink x0 x1 x2 n h g r)
    (fun k hk => score_real x0 x1 P B hP hB n h g r k hk) (hN _)

include hP hB hN in
/-- The reference's output is the weighted mean. -/
theorem out_real (n : Fin 16) (h : Fin 2) (g : Fin 4) (r : Fin 128) (d : Fin 64) :
    val_main_v83 (F := Ideal) x0 x1 x2 (ix2 ⟨n.val * 128 + r.val, by omega⟩ ⟨(h.val * 4 + g.val) * 64 + d.val, by omega⟩)
      = ((mean (ok (BitVec.ofNat 32 n.val) r) (score P B n h g r) (value P n h d) (sinkR N h g) : ℝ) : EReal) := by
  rw [o_apply]
  simp only [p_apply, exp_apply]
  exact row_out (ok (BitVec.ofNat 32 n.val) r) (score P B n h g r) (value P n h d) (sinkR N h g)
    (fun k => val_main_v19 (F := Ideal) x0 (ix5 n h g r k) + x1 (ix3 ⟨h.val * 4 + g.val, by omega⟩ r k))
    (fun k => val_main_v15 (F := Ideal) x0 (ix4 n k h d)) (x2 (ix1 ⟨h.val * 4 + g.val, by omega⟩)) (top x0 x1 x2 n h g r)
    (fun z : Fin 257 => val_main_v58 (F := Ideal) x0 x1 x2 (ix5 n h g r z))
    (fun k => (row_key x0 x1 x2 n h g r k).trans (scores_apply x0 x1 n h g r k)) (row_sink x0 x1 x2 n h g r)
    (fun k hk => score_real x0 x1 P B hP hB n h g r k hk) (fun k hk => value_real x0 P hP n h d r k hk)
    (top_real x0 x1 x2 P B N hP hB hN n h g r) (hN _)

include hP hB hN in
/-- The reference's second result is the logarithm of the sum. -/
theorem log_real (n : Fin 16) (h : Fin 2) (g : Fin 4) (r : Fin 128) :
    val_main_v85 (F := Ideal) x0 x1 x2 (ix3 ⟨h.val * 4 + g.val, by omega⟩ ⟨n.val * 128 + r.val, by omega⟩ 0)
      = ((Real.log (total (ok (BitVec.ofNat 32 n.val) r) (score P B n h g r) (sinkR N h g)) : ℝ) : EReal) := by
  rw [l_apply]
  simp only [exp'_apply]
  exact row_log (ok (BitVec.ofNat 32 n.val) r) (score P B n h g r) (sinkR N h g)
    (fun k => val_main_v19 (F := Ideal) x0 (ix5 n h g r k) + x1 (ix3 ⟨h.val * 4 + g.val, by omega⟩ r k))
    (x2 (ix1 ⟨h.val * 4 + g.val, by omega⟩)) (top x0 x1 x2 n h g r)
    (fun z : Fin 257 => val_main_v58 (F := Ideal) x0 x1 x2 (ix5 n h g r z))
    (fun k => (row_key x0 x1 x2 n h g r k).trans (scores_apply x0 x1 n h g r k)) (row_sink x0 x1 x2 n h g r)
    (fun k hk => score_real x0 x1 P B hP hB n h g r k hk) (top_real x0 x1 x2 P B N hP hB hN n h g r) (hN _)

/-! ## A group of the kernel that reads block `n`'s queries, keys and values -/

/-- The stacked queries of key head `h` in block `n`. -/
abbrev IsQueries (x0 : FVec Ideal S2048x768 .f32) (n : Fin 16) (h : Fin 2) (q : FVec Ideal Cert.SwaFwdIdeal.S512x64 .f32) : Prop :=
  ∀ (g : Fin 4) (r : Fin 128) (d : Fin 64), q (ix2 ⟨g.val * 128 + r.val, by omega⟩ d)
    = x0 (ix2 ⟨n.val * 128 + r.val, by omega⟩ ⟨(h.val * 4 + g.val) * 64 + d.val, by omega⟩)

/-- The rows that block `n` sees, key head `h`'s keys; those before the first row are not determined. -/
abbrev IsKeys (x0 : FVec Ideal S2048x768 .f32) (n : Fin 16) (h : Fin 2) (x : FVec Ideal Cert.SwaFwdIdeal.S256x64 .f32) : Prop :=
  ∀ (k : Fin 256) (d : Fin 64), (0 < n.val ∨ 128 ≤ k.val) → x (ix2 k d) = x0 (ix2 (key n k) ⟨512 + (h.val * 64 + d.val), by omega⟩)

/-- The rows that block `n` sees, key head `h`'s values; those before the first row are not determined. -/
abbrev IsVals (x0 : FVec Ideal S2048x768 .f32) (n : Fin 16) (h : Fin 2) (x : FVec Ideal Cert.SwaFwdIdeal.S256x64 .f32) : Prop :=
  ∀ (k : Fin 256) (d : Fin 64), (0 < n.val ∨ 128 ≤ k.val) → x (ix2 k d) = x0 (ix2 (key n k) ⟨640 + (h.val * 64 + d.val), by omega⟩)

/-- The bias of key head `h`'s query heads. -/
abbrev IsBias (x1 : FVec Ideal S8x128x256 .f32) (h : Fin 2) (b : FVec Ideal Cert.SwaFwdIdeal.S4x128x256 .f32) : Prop :=
  ∀ (g : Fin 4) (r : Fin 128) (k : Fin 256), b (ix3 g r k) = x1 (ix3 ⟨h.val * 4 + g.val, by omega⟩ r k)

/-- The sinks of key head `h`'s query heads. -/
abbrev IsSinks (x2 : FVec Ideal S8 .f32) (h : Fin 2) (v : FVec Ideal Cert.SwaFwdIdeal.S4x128x1 .f32) : Prop :=
  ∀ (g : Fin 4) (r : Fin 128), v (ix3 g r 0) = x2 (ix1 ⟨h.val * 4 + g.val, by omega⟩)

variable (n : Fin 16) (h : Fin 2) (w : BitVec 32) (hw : w = BitVec.ofNat 32 n.val)
  (q : FVec Ideal Cert.SwaFwdIdeal.S512x64 .f32) (kk x : FVec Ideal Cert.SwaFwdIdeal.S256x64 .f32)
  (b : FVec Ideal Cert.SwaFwdIdeal.S4x128x256 .f32) (v : FVec Ideal Cert.SwaFwdIdeal.S4x128x1 .f32)
  (hq : IsQueries x0 n h q) (hk : IsKeys x0 n h kk) (hx : IsVals x0 n h x) (hb : IsBias x1 h b) (hv : IsSinks x2 h v)

include hP hB hq hk hb in
theorem group_score (g : Fin 4) (r : Fin 128) (k : Fin 256) (ho : ok (BitVec.ofNat 32 n.val) r k) :
    Cert.SwaFwdIdeal.Gen.k0_pay22 (F := Ideal) q kk b (ix3 g r k) = (score P B n h g r k : EReal) := by
  rw [pay22_apply]
  simp only [hq, hk k _ (ok_key n r k ho), hb, hP, hB, scale_eq, ← EReal.coe_mul]
  rw [coe_sum, ← EReal.coe_mul, ← EReal.coe_add]
  rfl

include hP hB hN hw hq hk hb hv in
theorem group_top (g : Fin 4) (r : Fin 128) :
    ∃ M : ℝ, Cert.SwaFwdIdeal.Product.top w (Cert.SwaFwdIdeal.Gen.k0_pay22 (F := Ideal) q kk b) v g r = (M : EReal) := by
  subst hw
  exact max_mask (ok (BitVec.ofNat 32 n.val) r) (score P B n h g r) (sinkR N h g)
    (fun k => Cert.SwaFwdIdeal.Gen.k0_pay22 (F := Ideal) q kk b (ix3 g r k)) (v (ix3 g r 0)) low low_ne
    (fun k ho => group_score x0 x1 P B hP hB n h q kk b hq hk hb g r k ho) ((hv g r).trans (hN _))

include hP hB hN hw hq hk hx hb hv in
/-- Its output is the reference's. -/
theorem group_out (g : Fin 4) (r : Fin 128) (d : Fin 64) :
    grp q kk x w b v (ix3 g r d) = val_main_v83 (F := Ideal) x0 x1 x2
      (ix2 ⟨n.val * 128 + r.val, by omega⟩ ⟨(h.val * 4 + g.val) * 64 + d.val, by omega⟩) := by
  rw [out_real x0 x1 x2 P B N hP hB hN]
  refine (pay32_apply _ _ _ _ _ _ _).trans ?_
  have ht := group_top x0 x1 x2 P B N hP hB hN n h w hw q kk b v hq hk hb hv g r
  subst hw
  exact mask_out (ok (BitVec.ofNat 32 n.val) r) (score P B n h g r) (value P n h d) (sinkR N h g)
    (fun k => Cert.SwaFwdIdeal.Gen.k0_pay22 (F := Ideal) q kk b (ix3 g r k)) (fun k => x (ix2 k d)) (v (ix3 g r 0)) _
    (fun k ho => group_score x0 x1 P B hP hB n h q kk b hq hk hb g r k ho)
    (fun k ho => (hx k d (ok_key n r k ho)).trans (hP _)) ht ((hv g r).trans (hN _))

include hP hB hN hw hq hk hb hv in
/-- Its second result is the reference's. -/
theorem group_log (g : Fin 4) (r : Fin 128) :
    lg q kk w b v (ix3 g r 0) = val_main_v85 (F := Ideal) x0 x1 x2
      (ix3 ⟨h.val * 4 + g.val, by omega⟩ ⟨n.val * 128 + r.val, by omega⟩ 0) := by
  rw [log_real x0 x1 x2 P B N hP hB hN]
  refine (pay37_apply _ _ _ _ _).trans ?_
  have ht := group_top x0 x1 x2 P B N hP hB hN n h w hw q kk b v hq hk hb hv g r
  subst hw
  exact mask_log (ok (BitVec.ofNat 32 n.val) r) (score P B n h g r) (sinkR N h g)
    (fun k => Cert.SwaFwdIdeal.Gen.k0_pay22 (F := Ideal) q kk b (ix3 g r k)) (v (ix3 g r 0)) _
    (fun k ho => group_score x0 x1 P B hP hB n h q kk b hq hk hb g r k ho) ht ((hv g r).trans (hN _))

end Cert.SwaFwdRefIdeal.Product
-- ==== Proof.SwaFwdTile.lean ====
/- One grid point of the windowed attention: its two query blocks against the three key blocks it reads. -/
module

public import proofs.«01_k».proof.Defs
public import proofs.«01_k».proof.Proof.SwaFwdMath
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SwaFwdIdeal.Product

open Cert.SwaFwdIdeal Cert.SwaFwdIdeal.Gen
open Cert.SwaFwdRefIdeal.Product (key group_out group_log)
open Cert.SwaFwdRefIdeal.Read (val_main_v83 val_main_v85)

/-- A strip of the queries' rows. -/
theorem strip_apply (x : Vec Ideal S256x512 .bf16) (o : ℕ) (h) (r : Fin 128) (R : Fin 256) (hR : R.val = o + r.val) (k : Fin 512) :
    (View.ld (Val := Elt Ideal) (e' := .bf16) x (Rect.unit (s := S256x512) ![o, 0] S128x512.size h) (ix2 r k : S128x512.Idx)) = x (ix2 R k) := by
  have e : (Rect.unit (s := S256x512) ![o, 0] S128x512.size h).emb (ix2 r k : S128x512.Idx) = (ix2 R k : S256x512.Idx) := by
    blk_ext
  unfold View.ld
  exact congrArg x e

/-- Four heads of the bias. -/
theorem bias_apply (x : Vec Ideal S8x128x256 .f32) (o : ℕ) (h) (g : Fin 4) (e : Fin 8) (he : e.val = o + g.val) (r : Fin 128) (k : Fin 256) :
    (View.ld (Val := Elt Ideal) (e' := .f32) x (Rect.unit (s := S8x128x256) ![o, 0, 0] S4x128x256.size h) (ix3 g r k : S4x128x256.Idx)) = x (ix3 e r k) := by
  have e : (Rect.unit (s := S8x128x256) ![o, 0, 0] S4x128x256.size h).emb (ix3 g r k : S4x128x256.Idx) = (ix3 e r k : S8x128x256.Idx) := by
    blk_ext
  unfold View.ld
  exact congrArg x e

/-- Four heads of the sinks. -/
theorem sink_apply (x : Vec Ideal S8x128x1 .f32) (o : ℕ) (h) (g : Fin 4) (e : Fin 8) (he : e.val = o + g.val) (r : Fin 128) (k : Fin 1) :
    (View.ld (Val := Elt Ideal) (e' := .f32) x (Rect.unit (s := S8x128x1) ![o, 0, 0] S4x128x1.size h) (ix3 g r k : S4x128x1.Idx)) = x (ix3 e r k) := by
  have e : (Rect.unit (s := S8x128x1) ![o, 0, 0] S4x128x1.size h).emb (ix3 g r k : S4x128x1.Idx) = (ix3 e r k : S8x128x1.Idx) := by
    blk_ext
  unfold View.ld
  exact congrArg x e

/-- The 256 rows of queries at point `t`. -/
abbrev IsX (x0 : FVec Ideal S2048x768 .f32) (t : Fin 8) (X : Vec Ideal S256x512 .bf16) : Prop :=
  ∀ (R : Fin 256) (x : Fin 512), X (ix2 R x) = x0 (ix2 ⟨t.val * 256 + R.val, by omega⟩ ⟨x.val, by omega⟩)

/-- The 128 rows of keys and values before them, but at the first point. -/
abbrev IsA (x0 : FVec Ideal S2048x768 .f32) (t : Fin 8) (a : Vec Ideal S128x256 .bf16) : Prop :=
  0 < t.val → ∀ (R : Fin 128) (x : Fin 256), a (ix2 R x) = x0 (ix2 ⟨(2 * t.val - 1) * 128 + R.val, by omega⟩ ⟨512 + x.val, by omega⟩)

/-- The same 256 rows of keys and values. -/
abbrev IsB (x0 : FVec Ideal S2048x768 .f32) (t : Fin 8) (b : Vec Ideal S256x256 .bf16) : Prop :=
  ∀ (R : Fin 256) (x : Fin 256), b (ix2 R x) = x0 (ix2 ⟨t.val * 256 + R.val, by omega⟩ ⟨512 + x.val, by omega⟩)

/-- The bias. -/
abbrev IsY (x1 : FVec Ideal S8x128x256 .f32) (Y : Vec Ideal S8x128x256 .f32) : Prop :=
  ∀ (e : Fin 8) (r : Fin 128) (k : Fin 256), Y (ix3 e r k) = x1 (ix3 e r k)

/-- The sinks, one for each head. -/
abbrev IsZ (x2 : FVec Ideal S8 .f32) (Z : Vec Ideal S8x128x1 .f32) : Prop :=
  ∀ (e : Fin 8) (r : Fin 128), Z (ix3 e r 0) = x2 (ix1 e)

variable (x0 : FVec Ideal S2048x768 .f32) (x1 : FVec Ideal S8x128x256 .f32) (x2 : FVec Ideal S8 .f32)
  (P : S2048x768.Idx → ℝ) (B : S8x128x256.Idx → ℝ) (N : S8.Idx → ℝ)
  (hP : ∀ i, x0 i = (P i : EReal)) (hB : ∀ i, x1 i = (B i : EReal)) (hN : ∀ i, x2 i = (N i : EReal))
  (t : Fin 8) (n : Fin 16) (w : BitVec 32) (hw : w = BitVec.ofNat 32 n.val)
  (X : Vec Ideal S256x512 .bf16) (a : Vec Ideal S128x256 .bf16) (b : Vec Ideal S256x256 .bf16)
  (Y : Vec Ideal S8x128x256 .f32) (Z : Vec Ideal S8x128x1 .f32)
  (hX : IsX x0 t X) (ha : IsA x0 t a) (hb : IsB x0 t b) (hY : IsY x1 Y) (hZ : IsZ x2 Z)

include ha hb in
/-- The keys and values of query block `n = 2 t + u` are the rows from `128 u` on of the three blocks. -/
theorem blocks_apply (u : ℕ) (hu : u < 2) (hn : n.val = 2 * t.val + u) (k : Fin 256) (hk : 0 < n.val ∨ 128 ≤ k.val) (R : Fin 384)
    (hR : R.val = 128 * u + k.val) (x : Fin 256) :
    k0_pay4 (F := Ideal) a b (ix2 R x) = x0 (ix2 (key n k) ⟨512 + x.val, by omega⟩) := by
  rw [cat_apply]
  split
  · rename_i hlt
    rw [ha (by omega)]
    exact congrArg (fun z => x0 (ix2 z _)) (Fin.ext (by simp only [key]; omega))
  · rw [hb]
    exact congrArg (fun z => x0 (ix2 z _)) (Fin.ext (by simp only [key]; omega))

include hX in
/-- A query of key head 0 in the strip of block `n`. -/
theorem query0 (u : ℕ) (hu : u < 2) (hn : n.val = 2 * t.val + u) (o : ℕ) (ho : o = 128 * u) (h) (g : Fin 4) (r : Fin 128) (d : Fin 64) :
    k0_pay7 (F := Ideal) (View.ld X (Rect.unit (s := S256x512) ![o, 0] S128x512.size h)) (ix2 ⟨g.val * 128 + r.val, by omega⟩ d)
      = x0 (ix2 ⟨n.val * 128 + r.val, by omega⟩ ⟨((0 : Fin 2).val * 4 + g.val) * 64 + d.val, by have : (0 : Fin 2).val = 0 := rfl; omega⟩) := by
  rw [q0_apply]
  refine (strip_apply X o h r ⟨o + r.val, by omega⟩ rfl _).trans ?_
  rw [hX]
  exact congrArg₂ (fun z z' => x0 (ix2 z z')) (Fin.ext (by simp only []; omega))
    (Fin.ext (by dsimp only; omega))

include hX in
/-- A query of key head 1 in the strip of block `n`. -/
theorem query1 (u : ℕ) (hu : u < 2) (hn : n.val = 2 * t.val + u) (o : ℕ) (ho : o = 128 * u) (h) (g : Fin 4) (r : Fin 128) (d : Fin 64) :
    k0_pay10 (F := Ideal) (View.ld X (Rect.unit (s := S256x512) ![o, 0] S128x512.size h)) (ix2 ⟨g.val * 128 + r.val, by omega⟩ d)
      = x0 (ix2 ⟨n.val * 128 + r.val, by omega⟩ ⟨((1 : Fin 2).val * 4 + g.val) * 64 + d.val, by have : (1 : Fin 2).val = 1 := rfl; omega⟩) := by
  rw [q1_apply]
  refine (strip_apply X o h r ⟨o + r.val, by omega⟩ rfl _).trans ?_
  rw [hX]
  exact congrArg₂ (fun z z' => x0 (ix2 z z')) (Fin.ext (by simp only []; omega))
    (Fin.ext (by dsimp only; omega))

include hY in
/-- The bias of a key head's four query heads. -/
theorem bias_head (hd : Fin 2) (o : ℕ) (ho : o = 4 * hd.val) (h) (g : Fin 4) (r : Fin 128) (k : Fin 256) :
    (View.ld (Val := Elt Ideal) (e' := .f32) Y (Rect.unit (s := S8x128x256) ![o, 0, 0] S4x128x256.size h)) (ix3 g r k)
      = x1 (ix3 ⟨hd.val * 4 + g.val, by omega⟩ r k) :=
  (bias_apply Y o h g ⟨hd.val * 4 + g.val, by omega⟩ (by simp only []; omega) r k).trans (hY _ r k)

include hZ in
/-- The sinks of a key head's four query heads. -/
theorem sink_head (hd : Fin 2) (o : ℕ) (ho : o = 4 * hd.val) (h) (g : Fin 4) (r : Fin 128) :
    (View.ld (Val := Elt Ideal) (e' := .f32) Z (Rect.unit (s := S8x128x1) ![o, 0, 0] S4x128x1.size h)) (ix3 g r 0)
      = x2 (ix1 ⟨hd.val * 4 + g.val, by omega⟩) :=
  (sink_apply Z o h g ⟨hd.val * 4 + g.val, by omega⟩ (by simp only []; omega) r 0).trans (hZ _ r)

/-- Two columns with the same number are one column. -/
theorem col (x : S2048x768.Idx → EReal) (R : Fin 2048) (p q : ℕ) (hp : p < 768) (hq : q < 768) (e : p = q) :
    x (ix2 R ⟨p, hp⟩) = x (ix2 R ⟨q, hq⟩) := by
  subst e; rfl

/-! ## The four groups: query block `u` of the two, key head `h` of the two -/

include hP hB hN hw hX ha hb hY hZ in
/-- Values of query block 0, key head 0. -/
theorem out00 (hn : n.val = 2 * t.val + 0) (h0 h1 h2) (g : Fin 4) (r : Fin 128) (d : Fin 64) :
    grp (k0_pay7 (F := Ideal) (View.ld X (Rect.unit (s := S256x512) ![0, 0] S128x512.size h0))) (k0_pay8 (F := Ideal) a b) (k0_pay9 (F := Ideal) a b) w
      (View.ld Y (Rect.unit (s := S8x128x256) ![0, 0, 0] S4x128x256.size h1))
      (View.ld Z (Rect.unit (s := S8x128x1) ![0, 0, 0] S4x128x1.size h2)) (ix3 g r d)
      = val_main_v83 (F := Ideal) x0 x1 x2 (ix2 ⟨n.val * 128 + r.val, by omega⟩ ⟨((0 : Fin 2).val * 4 + g.val) * 64 + d.val, by
        have : (0 : Fin 2).val = 0 := rfl; omega⟩) :=
  group_out
    x0 x1 x2 P B N hP hB hN n 0 w hw _ _ _ _ _
    (query0 x0 t n X hX 0 (by decide) hn 0 rfl h0)
    (fun k d hk => (k00 a b k d).trans ((blocks_apply x0 t n a b ha hb 0 (by decide) hn k hk _ (by dsimp only; omega) _).trans
      (col x0 _ _ _ _ _ (by first | rfl | (dsimp only; omega)))))
    (fun k d hk => (v00 a b k d).trans ((blocks_apply x0 t n a b ha hb 0 (by decide) hn k hk _ (by dsimp only; omega) _).trans
      (col x0 _ _ _ _ _ (by first | rfl | (dsimp only; omega)))))
    (bias_head x1 Y hY 0 0 rfl h1) (sink_head x2 Z hZ 0 0 rfl h2) g r d

include hP hB hN hw hX ha hb hY hZ in
/-- Logarithms of query block 0, key head 0. -/
theorem log00 (hn : n.val = 2 * t.val + 0) (h0 h1 h2) (g : Fin 4) (r : Fin 128) :
    lg (k0_pay7 (F := Ideal) (View.ld X (Rect.unit (s := S256x512) ![0, 0] S128x512.size h0))) (k0_pay8 (F := Ideal) a b) w
      (View.ld Y (Rect.unit (s := S8x128x256) ![0, 0, 0] S4x128x256.size h1))
      (View.ld Z (Rect.unit (s := S8x128x1) ![0, 0, 0] S4x128x1.size h2)) (ix3 g r 0)
      = val_main_v85 (F := Ideal) x0 x1 x2 (ix3 ⟨(0 : Fin 2).val * 4 + g.val, by have : (0 : Fin 2).val = 0 := rfl; omega⟩
        ⟨n.val * 128 + r.val, by omega⟩ 0) :=
  group_log
    x0 x1 x2 P B N hP hB hN n 0 w hw _ _ _ _
    (query0 x0 t n X hX 0 (by decide) hn 0 rfl h0)
    (fun k d hk => (k00 a b k d).trans ((blocks_apply x0 t n a b ha hb 0 (by decide) hn k hk _ (by dsimp only; omega) _).trans
      (col x0 _ _ _ _ _ (by first | rfl | (dsimp only; omega)))))
    (bias_head x1 Y hY 0 0 rfl h1) (sink_head x2 Z hZ 0 0 rfl h2) g r

include hP hB hN hw hX ha hb hY hZ in
/-- Values of query block 0, key head 1. -/
theorem out01 (hn : n.val = 2 * t.val + 0) (h0 h1 h2) (g : Fin 4) (r : Fin 128) (d : Fin 64) :
    grp (k0_pay10 (F := Ideal) (View.ld X (Rect.unit (s := S256x512) ![0, 0] S128x512.size h0))) (k0_pay11 (F := Ideal) a b) (k0_pay12 (F := Ideal) a b) w
      (View.ld Y (Rect.unit (s := S8x128x256) ![4, 0, 0] S4x128x256.size h1))
      (View.ld Z (Rect.unit (s := S8x128x1) ![4, 0, 0] S4x128x1.size h2)) (ix3 g r d)
      = val_main_v83 (F := Ideal) x0 x1 x2 (ix2 ⟨n.val * 128 + r.val, by omega⟩ ⟨((1 : Fin 2).val * 4 + g.val) * 64 + d.val, by
        have : (1 : Fin 2).val = 1 := rfl; omega⟩) :=
  group_out
    x0 x1 x2 P B N hP hB hN n 1 w hw _ _ _ _ _
    (query1 x0 t n X hX 0 (by decide) hn 0 rfl h0)
    (fun k d hk => (k01 a b k d).trans ((blocks_apply x0 t n a b ha hb 0 (by decide) hn k hk _ (by dsimp only; omega) _).trans
      (col x0 _ _ _ _ _ (by first | rfl | (dsimp only; omega)))))
    (fun k d hk => (v01 a b k d).trans ((blocks_apply x0 t n a b ha hb 0 (by decide) hn k hk _ (by dsimp only; omega) _).trans
      (col x0 _ _ _ _ _ (by first | rfl | (dsimp only; omega)))))
    (bias_head x1 Y hY 1 4 rfl h1) (sink_head x2 Z hZ 1 4 rfl h2) g r d

include hP hB hN hw hX ha hb hY hZ in
/-- Logarithms of query block 0, key head 1. -/
theorem log01 (hn : n.val = 2 * t.val + 0) (h0 h1 h2) (g : Fin 4) (r : Fin 128) :
    lg (k0_pay10 (F := Ideal) (View.ld X (Rect.unit (s := S256x512) ![0, 0] S128x512.size h0))) (k0_pay11 (F := Ideal) a b) w
      (View.ld Y (Rect.unit (s := S8x128x256) ![4, 0, 0] S4x128x256.size h1))
      (View.ld Z (Rect.unit (s := S8x128x1) ![4, 0, 0] S4x128x1.size h2)) (ix3 g r 0)
      = val_main_v85 (F := Ideal) x0 x1 x2 (ix3 ⟨(1 : Fin 2).val * 4 + g.val, by have : (1 : Fin 2).val = 1 := rfl; omega⟩
        ⟨n.val * 128 + r.val, by omega⟩ 0) :=
  group_log
    x0 x1 x2 P B N hP hB hN n 1 w hw _ _ _ _
    (query1 x0 t n X hX 0 (by decide) hn 0 rfl h0)
    (fun k d hk => (k01 a b k d).trans ((blocks_apply x0 t n a b ha hb 0 (by decide) hn k hk _ (by dsimp only; omega) _).trans
      (col x0 _ _ _ _ _ (by first | rfl | (dsimp only; omega)))))
    (bias_head x1 Y hY 1 4 rfl h1) (sink_head x2 Z hZ 1 4 rfl h2) g r

include hP hB hN hw hX ha hb hY hZ in
/-- Values of query block 1, key head 0. -/
theorem out10 (hn : n.val = 2 * t.val + 1) (h0 h1 h2) (g : Fin 4) (r : Fin 128) (d : Fin 64) :
    grp (k0_pay7 (F := Ideal) (View.ld X (Rect.unit (s := S256x512) ![128, 0] S128x512.size h0))) (k0_pay17 (F := Ideal) (k0_pay14 (F := Ideal) a b)) (k0_pay18 (F := Ideal) (k0_pay14 (F := Ideal) a b)) w
      (View.ld Y (Rect.unit (s := S8x128x256) ![0, 0, 0] S4x128x256.size h1))
      (View.ld Z (Rect.unit (s := S8x128x1) ![0, 0, 0] S4x128x1.size h2)) (ix3 g r d)
      = val_main_v83 (F := Ideal) x0 x1 x2 (ix2 ⟨n.val * 128 + r.val, by omega⟩ ⟨((0 : Fin 2).val * 4 + g.val) * 64 + d.val, by
        have : (0 : Fin 2).val = 0 := rfl; omega⟩) :=
  group_out
    x0 x1 x2 P B N hP hB hN n 0 w hw _ _ _ _ _
    (query0 x0 t n X hX 1 (by decide) hn 128 rfl h0)
    (fun k d hk => (k10 a b k d).trans ((blocks_apply x0 t n a b ha hb 1 (by decide) hn k hk _ (by rfl) _).trans
      (col x0 _ _ _ _ _ (by first | rfl | (dsimp only; omega)))))
    (fun k d hk => (v10 a b k d).trans ((blocks_apply x0 t n a b ha hb 1 (by decide) hn k hk _ (by rfl) _).trans
      (col x0 _ _ _ _ _ (by first | rfl | (dsimp only; omega)))))
    (bias_head x1 Y hY 0 0 rfl h1) (sink_head x2 Z hZ 0 0 rfl h2) g r d

include hP hB hN hw hX ha hb hY hZ in
/-- Logarithms of query block 1, key head 0. -/
theorem log10 (hn : n.val = 2 * t.val + 1) (h0 h1 h2) (g : Fin 4) (r : Fin 128) :
    lg (k0_pay7 (F := Ideal) (View.ld X (Rect.unit (s := S256x512) ![128, 0] S128x512.size h0))) (k0_pay17 (F := Ideal) (k0_pay14 (F := Ideal) a b)) w
      (View.ld Y (Rect.unit (s := S8x128x256) ![0, 0, 0] S4x128x256.size h1))
      (View.ld Z (Rect.unit (s := S8x128x1) ![0, 0, 0] S4x128x1.size h2)) (ix3 g r 0)
      = val_main_v85 (F := Ideal) x0 x1 x2 (ix3 ⟨(0 : Fin 2).val * 4 + g.val, by have : (0 : Fin 2).val = 0 := rfl; omega⟩
        ⟨n.val * 128 + r.val, by omega⟩ 0) :=
  group_log
    x0 x1 x2 P B N hP hB hN n 0 w hw _ _ _ _
    (query0 x0 t n X hX 1 (by decide) hn 128 rfl h0)
    (fun k d hk => (k10 a b k d).trans ((blocks_apply x0 t n a b ha hb 1 (by decide) hn k hk _ (by rfl) _).trans
      (col x0 _ _ _ _ _ (by first | rfl | (dsimp only; omega)))))
    (bias_head x1 Y hY 0 0 rfl h1) (sink_head x2 Z hZ 0 0 rfl h2) g r

include hP hB hN hw hX ha hb hY hZ in
/-- Values of query block 1, key head 1. -/
theorem out11 (hn : n.val = 2 * t.val + 1) (h0 h1 h2) (g : Fin 4) (r : Fin 128) (d : Fin 64) :
    grp (k0_pay10 (F := Ideal) (View.ld X (Rect.unit (s := S256x512) ![128, 0] S128x512.size h0))) (k0_pay20 (F := Ideal) (k0_pay14 (F := Ideal) a b)) (k0_pay21 (F := Ideal) (k0_pay14 (F := Ideal) a b)) w
      (View.ld Y (Rect.unit (s := S8x128x256) ![4, 0, 0] S4x128x256.size h1))
      (View.ld Z (Rect.unit (s := S8x128x1) ![4, 0, 0] S4x128x1.size h2)) (ix3 g r d)
      = val_main_v83 (F := Ideal) x0 x1 x2 (ix2 ⟨n.val * 128 + r.val, by omega⟩ ⟨((1 : Fin 2).val * 4 + g.val) * 64 + d.val, by
        have : (1 : Fin 2).val = 1 := rfl; omega⟩) :=
  group_out
    x0 x1 x2 P B N hP hB hN n 1 w hw _ _ _ _ _
    (query1 x0 t n X hX 1 (by decide) hn 128 rfl h0)
    (fun k d hk => (k11 a b k d).trans ((blocks_apply x0 t n a b ha hb 1 (by decide) hn k hk _ (by rfl) _).trans
      (col x0 _ _ _ _ _ (by first | rfl | (dsimp only; omega)))))
    (fun k d hk => (v11 a b k d).trans ((blocks_apply x0 t n a b ha hb 1 (by decide) hn k hk _ (by rfl) _).trans
      (col x0 _ _ _ _ _ (by first | rfl | (dsimp only; omega)))))
    (bias_head x1 Y hY 1 4 rfl h1) (sink_head x2 Z hZ 1 4 rfl h2) g r d

include hP hB hN hw hX ha hb hY hZ in
/-- Logarithms of query block 1, key head 1. -/
theorem log11 (hn : n.val = 2 * t.val + 1) (h0 h1 h2) (g : Fin 4) (r : Fin 128) :
    lg (k0_pay10 (F := Ideal) (View.ld X (Rect.unit (s := S256x512) ![128, 0] S128x512.size h0))) (k0_pay20 (F := Ideal) (k0_pay14 (F := Ideal) a b)) w
      (View.ld Y (Rect.unit (s := S8x128x256) ![4, 0, 0] S4x128x256.size h1))
      (View.ld Z (Rect.unit (s := S8x128x1) ![4, 0, 0] S4x128x1.size h2)) (ix3 g r 0)
      = val_main_v85 (F := Ideal) x0 x1 x2 (ix3 ⟨(1 : Fin 2).val * 4 + g.val, by have : (1 : Fin 2).val = 1 := rfl; omega⟩
        ⟨n.val * 128 + r.val, by omega⟩ 0) :=
  group_log
    x0 x1 x2 P B N hP hB hN n 1 w hw _ _ _ _
    (query1 x0 t n X hX 1 (by decide) hn 128 rfl h0)
    (fun k d hk => (k11 a b k d).trans ((blocks_apply x0 t n a b ha hb 1 (by decide) hn k hk _ (by rfl) _).trans
      (col x0 _ _ _ _ _ (by first | rfl | (dsimp only; omega)))))
    (bias_head x1 Y hY 1 4 rfl h1) (sink_head x2 Z hZ 1 4 rfl h2) g r

end Cert.SwaFwdIdeal.Product

end
-- ==== Proof.FiniteSwa.lean ====
/- What the precondition of the windowed attention says: every element of its three arrays is a real number. -/
module

public import proofs.«01_k».proof.Defs
public import proofs.«01_k».proof.Proof.Finite
public import proofs.«01_k».proof.Proof.Gen.Pre_finite_swafwd

@[expose] public section

set_option maxRecDepth 16384

noncomputable section

open Idealize.ShloMosaic Idealize.ShloMosaic.TcCoe Idealize.SL.Sem

namespace Cert.Finite

/-- The precondition at an element of each array. -/
theorem swafwd_pre (x : FVec Ideal Cert.Pre_finite_swafwd.S2048x768 .f32) (b : FVec Ideal Cert.Pre_finite_swafwd.S8x128x256 .f32)
    (s : FVec Ideal Cert.Pre_finite_swafwd.S8 .f32) (h : Cert.Pre_finite_swafwd.fn (F := Ideal) x b s = fun _ => 1#1) :
    (∀ i, ∃ r : ℝ, x i = (r : EReal)) ∧ (∀ i, ∃ r : ℝ, b i = (r : EReal)) ∧ (∀ i, ∃ r : ℝ, s i = (r : EReal)) := by
  have h0 := congrFun h ix0
  unfold Cert.Pre_finite_swafwd.fn at h0
  simp only [show ∀ (x y : IVec Cert.Pre_finite_swafwd.S_ 1) (i), andi x y i = IntOp.andi (x i) (y i) from fun _ _ _ => rfl, IntOp.andi_eq_one] at h0
  exact ⟨fun i => real_of_cmp x _ i (reduce_and _ _ _ _ _ h0.1.1 i), fun i => real_of_cmp b _ i (reduce_and _ _ _ _ _ h0.1.2 i),
    fun i => real_of_cmp s _ i (reduce_and _ _ _ _ _ h0.2 i)⟩

end Cert.Finite

end
-- ==== Proof.SwaFwdProd.lean ====
module

public import proofs.«01_k».proof.Defs
public import proofs.«01_k».proof.Proof.Gen.SwaFwdIdeal.Value
public import proofs.«01_k».proof.Proof.Gen.SwaFwdRefIdeal.Read
public import proofs.«01_k».proof.Proof.Gen.SwaFwdRefIdeal.Run
public import proofs.«01_k».proof.Proof.SwaFwdTile
public import proofs.«01_k».proof.Proof.FiniteSwa
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SwaFwdIdeal.Product

open Cert.SwaFwdIdeal Cert.SwaFwdIdeal.Gen
open Cert.SwaFwdRefIdeal.Read (val_main_v83 val_main_v85)

variable (m : (ℓ : Loc nD τ sig) → Buf (Elt Ideal) ℓ)

/-- The projections, the bias and the sinks as the program gets them. -/
abbrev arrX (c : Dev nD) : FVec Ideal S2048x768 .f32 := m ((c : Thread nD τ).loc main_arg0)
abbrev arrB (c : Dev nD) : FVec Ideal S8x128x256 .f32 := m ((c : Thread nD τ).loc main_arg1)
abbrev arrN (c : Dev nD) : FVec Ideal S8 .f32 := m ((c : Thread nD τ).loc main_arg2)

/-- Which block of each array a grid point works on. -/
theorem idx : ∀ t : Fin cfg0.N, win0_0.index t = ![t.val, 0] ∧ win0_1.index t = ![2 * t.val - 1, 2] ∧ win0_2.index t = ![t.val, 2]
    ∧ win0_3.index t = ![0, 0, 0] ∧ win0_4.index t = ![0, 0, 0] ∧ win0_5.index t = ![t.val, 0] ∧ win0_6.index t = ![0, t.val, 0] :=
  (by decide +kernel : ∀ t : Fin grid0.N, _)

/-- The numbers of a point's two query blocks, as the body computes them. -/
theorem word0 : ∀ t : Fin grid0.N, Scalar.addi (Scalar.muli 2#32 (BitVec.ofNat 32 (grid0.coords t 0).val)) 0#32 = BitVec.ofNat 32 (2 * t.val) := by
  decide +kernel
theorem word1 : ∀ t : Fin grid0.N, Scalar.addi (Scalar.muli 2#32 (BitVec.ofNat 32 (grid0.coords t 0).val)) 1#32 = BitVec.ofNat 32 (2 * t.val + 1) := by
  decide +kernel

/-- The projections that the host casts. -/
theorem host0_apply (c : Dev nD) (r : Fin 2048) (d : Fin 768) :
    V m c (Pipeline.arrRef spec0 0) (ix2 r d) = arrX m c (ix2 r d) := by
  entry_read
  rw [truncf_ideal]

/-- The sinks that the host repeats over a block's rows. -/
theorem host4_apply (c : Dev nD) (e : Fin 8) (r : Fin 128) :
    V m c (Pipeline.arrRef spec0 4) (ix3 e r 0) = arrN m c (ix1 e) := by
  entry_read
  pointwise

/-- The queries' block. -/
theorem queries (c : Dev nD) (t : Fin cfg0.N) (s : Fin 8) (hs : s.val = t.val) : IsX (arrX m c) s (X0_0 m c t) := by
  intro R x
  unfold X0_0 Pipeline.Window.fill
  rw [dif_pos (moved0_0 t _)]
  unfold iblk
  rw [View.read_apply]
  refine (cast_eq _ _).trans (Eq.trans ?_ (host0_apply m c _ _))
  refine congrArg _ ?_
  blk_ext [idx t]

/-- The block of keys and values before the point's rows. -/
theorem before (c : Dev nD) (t : Fin cfg0.N) (s : Fin 8) (hs : s.val = t.val) : IsA (arrX m c) s (iblk m c 1 t) := by
  intro hpos R x
  have i0 : ((cfg0.win 1).blk t).view.emb (ix2 R x) = (ix2 ⟨(2 * s.val - 1) * 128 + R.val, by omega⟩ ⟨512 + x.val, by omega⟩ : S2048x768.Idx) := by
    blk_ext [idx t]
  unfold iblk
  rw [View.read_apply, i0]
  exact (cast_eq _ _).trans (host0_apply m c _ _)

/-- The block of keys and values at the point's rows. -/
theorem same (c : Dev nD) (t : Fin cfg0.N) (s : Fin 8) (hs : s.val = t.val) : IsB (arrX m c) s (iblk m c 2 t) := by
  intro R x
  have i0 : ((cfg0.win 2).blk t).view.emb (ix2 R x) = (ix2 ⟨s.val * 256 + R.val, by omega⟩ ⟨512 + x.val, by omega⟩ : S2048x768.Idx) := by
    blk_ext [idx t]
  unfold iblk
  rw [View.read_apply, i0]
  exact (cast_eq _ _).trans (host0_apply m c _ _)

/-- The bias's block is the whole bias. -/
theorem bias (c : Dev nD) (t : Fin cfg0.N) : IsY (arrB m c) (iblk m c 3 t) := by
  intro e r k
  blk_ext! [iblk, V, idx t]

/-- The sinks' block is the whole array. -/
theorem sinks (c : Dev nD) (t : Fin cfg0.N) : IsZ (arrN m c) (iblk m c 4 t) := by
  intro e r
  have i0 : ((cfg0.win 4).blk t).view.emb (ix3 e r 0) = (ix3 e r 0 : S8x128x1.Idx) := by
    blk_ext [idx t]
  unfold iblk
  rw [View.read_apply, i0]
  exact (cast_eq _ _).trans (host4_apply m c _ _)

/-- A column of the 512 is a head's. -/
theorem column (j : Fin 512) : ∃ (h : Fin 2) (g : Fin 4) (d : Fin 64), j = ⟨(h.val * 4 + g.val) * 64 + d.val, by omega⟩ :=
  ⟨⟨j.val / 256, by omega⟩, ⟨j.val / 64 % 4, by omega⟩, ⟨j.val % 64, by omega⟩, Fin.ext (by dsimp only; omega)⟩

theorem values_block (t : Fin cfg0.N) (y : S256x512.Idx) (R : Fin 2048) (C : Fin 512) (hR : R.val = t.val * 256 + (y 0).val) (hC : C.val = (y 1).val) :
    ((cfg0.win 5).blk t).view.emb y = (ix2 R C : S2048x512.Idx) := by
  blk_ext [idx t]
theorem logs_block (t : Fin cfg0.N) (y : S8x256x1.Idx) (e : Fin 8) (R : Fin 2048) (he : e.val = (y 0).val) (hR : R.val = t.val * 256 + (y 1).val) :
    ((cfg0.win 6).blk t).view.emb y = (ix3 e R 0 : S8x2048x1.Idx) := by
  blk_ext [idx t]

variable (c : Dev nD) (P : S2048x768.Idx → ℝ) (B : S8x128x256.Idx → ℝ) (N : S8.Idx → ℝ)
  (hP : ∀ i, arrX m c i = (P i : EReal)) (hB : ∀ i, arrB m c i = (B i : EReal)) (hN : ∀ i, arrN m c i = (N i : EReal))

include hP hB hN in
/-- The values after the run are the reference's. -/
theorem final5 : (dats m 0 c).arrAt 5 (cfgs 0).N = val_main_v83 (F := Ideal) (arrX m c) (arrB m c) (arrN m c) := by
  refine (dats m 0 c).arrAt_eq_of_covers 5 _ (by decide +kernel) fun t hf y => ?_
  blk_simp
  rw [after0_5]
  unfold outsAt0
  frame_out
  obtain ⟨s, hs⟩ : ∃ s : Fin 8, s.val = t.val := ⟨⟨t.val, lt_of_lt_of_eq t.isLt N_0⟩, rfl⟩
  canon_tiles x h
  all_goals
    obtain ⟨r, j, rfl⟩ : ∃ (r : Fin 128) (j : Fin 512), x = ix2 r j := ⟨x 0, x 1, eq_ix2 x⟩
    obtain ⟨h, g, d, rfl⟩ := column j
    have hy0 := h0
    have hy1 : (y 1).val = (h.val * 4 + g.val) * 64 + d.val := h1
  · have hy : (y 0).val = 128 + r.val := hy0
    rw [show (((View.whole main_v3_0).slice (win0_5.rect t)).emb y) = _ from values_block t y ⟨(2 * s.val + 1) * 128 + r.val, by omega⟩
      ⟨(h.val * 4 + g.val) * 64 + d.val, by omega⟩ (by dsimp only; omega) hy1.symm]
    refine (congrFun (rows1 _ _ _ _ _ _ _ _ _ _ _) _).trans ?_
    rw [row_apply]
    obtain rfl | rfl : h = 0 ∨ h = 1 := by omega
    · rw [if_pos rfl]
      exact out10 (arrX m c) (arrB m c) (arrN m c) P B N hP hB hN s ⟨2 * s.val + 1, by omega⟩ _ ((word1 t).trans (congrArg (BitVec.ofNat 32) (by dsimp only; omega)))
        _ _ _ _ _ (queries m c t s hs) (before m c t s hs) (same m c t s hs) (bias m c t) (sinks m c t) rfl _ _ _ g r d
    · rw [if_neg (by decide)]
      exact out11 (arrX m c) (arrB m c) (arrN m c) P B N hP hB hN s ⟨2 * s.val + 1, by omega⟩ _ ((word1 t).trans (congrArg (BitVec.ofNat 32) (by dsimp only; omega)))
        _ _ _ _ _ (queries m c t s hs) (before m c t s hs) (same m c t s hs) (bias m c t) (sinks m c t) rfl _ _ _ g r d
  · have hy : (y 0).val = r.val := hy0
    rw [show (((View.whole main_v3_0).slice (win0_5.rect t)).emb y) = _ from values_block t y ⟨(2 * s.val + 0) * 128 + r.val, by omega⟩
      ⟨(h.val * 4 + g.val) * 64 + d.val, by omega⟩ (by dsimp only; omega) hy1.symm]
    refine (congrFun (rows0 _ _ _ _ _ _ _ _ _ _ _) _).trans ?_
    rw [row_apply]
    obtain rfl | rfl : h = 0 ∨ h = 1 := by omega
    · rw [if_pos rfl]
      exact out00 (arrX m c) (arrB m c) (arrN m c) P B N hP hB hN s ⟨2 * s.val, by omega⟩ _ ((word0 t).trans (congrArg (BitVec.ofNat 32) (by dsimp only; omega)))
        _ _ _ _ _ (queries m c t s hs) (before m c t s hs) (same m c t s hs) (bias m c t) (sinks m c t) rfl _ _ _ g r d
    · rw [if_neg (by decide)]
      exact out01 (arrX m c) (arrB m c) (arrN m c) P B N hP hB hN s ⟨2 * s.val, by omega⟩ _ ((word0 t).trans (congrArg (BitVec.ofNat 32) (by dsimp only; omega)))
        _ _ _ _ _ (queries m c t s hs) (before m c t s hs) (same m c t s hs) (bias m c t) (sinks m c t) rfl _ _ _ g r d

include hP hB hN in
/-- The logarithms after the run are the reference's. -/
theorem final6 : (dats m 0 c).arrAt 6 (cfgs 0).N = val_main_v85 (F := Ideal) (arrX m c) (arrB m c) (arrN m c) := by
  refine (dats m 0 c).arrAt_eq_of_covers 6 _ (by decide +kernel) fun t hf y => ?_
  blk_simp
  rw [after0_6]
  unfold outsAt0
  frame_out
  obtain ⟨s, hs⟩ : ∃ s : Fin 8, s.val = t.val := ⟨⟨t.val, lt_of_lt_of_eq t.isLt N_0⟩, rfl⟩
  canon_tiles x h
  all_goals
    obtain ⟨g, r, z, rfl⟩ : ∃ (g : Fin 4) (r : Fin 128) (z : Fin 1), x = ix3 g r z := ⟨x 0, x 1, x 2, eq_ix3 x⟩
    obtain rfl : z = 0 := Subsingleton.elim _ _
    have hy0 := h0
    have hy1 := h1
  · have hya : (y 0).val = 4 + g.val := hy0
    have hyb : (y 1).val = 128 + r.val := hy1
    rw [show (((View.whole main_v3_1).slice (win0_6.rect t)).emb y) = _ from logs_block t y ⟨(1 : Fin 2).val * 4 + g.val, by
      have : (1 : Fin 2).val = 1 := rfl; omega⟩ ⟨(2 * s.val + 1) * 128 + r.val, by omega⟩ (by dsimp only [Fin.isValue]; omega) (by dsimp only; omega)]
    refine (congrFun (lg11 _ _ _ _ _) _).trans ?_
    exact log11 (arrX m c) (arrB m c) (arrN m c) P B N hP hB hN s ⟨2 * s.val + 1, by omega⟩ _ ((word1 t).trans (congrArg (BitVec.ofNat 32) (by dsimp only; omega)))
        _ _ _ _ _ (queries m c t s hs) (before m c t s hs) (same m c t s hs) (bias m c t) (sinks m c t) rfl _ _ _ g r
  · have hya : (y 0).val = g.val := hy0
    have hyb : (y 1).val = 128 + r.val := hy1
    rw [show (((View.whole main_v3_1).slice (win0_6.rect t)).emb y) = _ from logs_block t y ⟨(0 : Fin 2).val * 4 + g.val, by
      have : (0 : Fin 2).val = 0 := rfl; omega⟩ ⟨(2 * s.val + 1) * 128 + r.val, by omega⟩ (by dsimp only [Fin.isValue]; omega) (by dsimp only; omega)]
    refine (congrFun (lg10 _ _ _ _ _) _).trans ?_
    exact log10 (arrX m c) (arrB m c) (arrN m c) P B N hP hB hN s ⟨2 * s.val + 1, by omega⟩ _ ((word1 t).trans (congrArg (BitVec.ofNat 32) (by dsimp only; omega)))
        _ _ _ _ _ (queries m c t s hs) (before m c t s hs) (same m c t s hs) (bias m c t) (sinks m c t) rfl _ _ _ g r
  · have hya : (y 0).val = 4 + g.val := hy0
    have hyb : (y 1).val = r.val := hy1
    rw [show (((View.whole main_v3_1).slice (win0_6.rect t)).emb y) = _ from logs_block t y ⟨(1 : Fin 2).val * 4 + g.val, by
      have : (1 : Fin 2).val = 1 := rfl; omega⟩ ⟨(2 * s.val + 0) * 128 + r.val, by omega⟩ (by dsimp only [Fin.isValue]; omega) (by dsimp only; omega)]
    refine (congrFun (lg01 _ _ _ _ _) _).trans ?_
    exact log01 (arrX m c) (arrB m c) (arrN m c) P B N hP hB hN s ⟨2 * s.val, by omega⟩ _ ((word0 t).trans (congrArg (BitVec.ofNat 32) (by dsimp only; omega)))
        _ _ _ _ _ (queries m c t s hs) (before m c t s hs) (same m c t s hs) (bias m c t) (sinks m c t) rfl _ _ _ g r
  · have hya : (y 0).val = g.val := hy0
    have hyb : (y 1).val = r.val := hy1
    rw [show (((View.whole main_v3_1).slice (win0_6.rect t)).emb y) = _ from logs_block t y ⟨(0 : Fin 2).val * 4 + g.val, by
      have : (0 : Fin 2).val = 0 := rfl; omega⟩ ⟨(2 * s.val + 0) * 128 + r.val, by omega⟩ (by dsimp only [Fin.isValue]; omega) (by dsimp only; omega)]
    exact log00 (arrX m c) (arrB m c) (arrN m c) P B N hP hB hN s ⟨2 * s.val, by omega⟩ _ ((word0 t).trans (congrArg (BitVec.ofNat 32) (by dsimp only; omega)))
        _ _ _ _ _ (queries m c t s hs) (before m c t s hs) (same m c t s hs) (bias m c t) (sinks m c t) rfl _ _ _ g r

end Cert.SwaFwdIdeal.Product

end
-- ==== Proof.SwaFwd.lean ====
/- The claim about the sliding-window attention: kernel and reference end with the same two arrays. -/
module

public import proofs.«01_k».proof.Defs
public import proofs.«01_k».proof.Proof.Gen.SwaFwdIdeal.Value
public import proofs.«01_k».proof.Proof.Gen.SwaFwdRefIdeal.Read
public import proofs.«01_k».proof.Proof.Gen.SwaFwdRefIdeal.Run
public import proofs.«01_k».proof.Proof.SwaFwdProd
public import proofs.«01_k».proof.Proof.FiniteSwa
public import Idealize.ShloMosaic.Lib.Pipeline.ValueKit
public import Idealize.ShloMosaic.Lib.Claim
public import Idealize.ShloMosaic.Lib.Pointwise
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Proof.SwaFwdClaims

theorem algebraic : Cert.algebraic_SwaFwdIdeal_SwaFwdRefIdeal_pre_finite_swafwd := by
  pair_intro
  · run_from Cert.SwaFwdIdeal.Value.run_blocks m g
  · refine (θ_run _ _ _).mono (fun r h c => ?_) (Cert.SwaFwdRefIdeal.Value.run m' g')
    obtain ⟨e0, e1, e2⟩ := hagree c
    obtain ⟨h0, h1, h2⟩ := Cert.Finite.swafwd_pre (Cert.SwaFwdIdeal.Product.arrX m c) (Cert.SwaFwdIdeal.Product.arrB m c)
      (Cert.SwaFwdIdeal.Product.arrN m c) (hpre c)
    choose P hP using h0
    choose B hB using h1
    choose N hN using h2
    refine ⟨(h c).1.trans ?_, (h c).2.1.trans ?_, (h c).2.2.1, (h c).2.2.2.1, (h c).2.2.2.2⟩
    · rw [Cert.SwaFwdRefIdeal.Read.val_main_v83_eq (F := Ideal), e0, e1, e2]
      exact (Cert.SwaFwdIdeal.Product.final5 m c P B N hP hB hN).symm
    · rw [Cert.SwaFwdRefIdeal.Read.val_main_v85_eq (F := Ideal), e0, e1, e2]
      exact (Cert.SwaFwdIdeal.Product.final6 m c P B N hP hB hN).symm

end Cert.Proof.SwaFwdClaims

end
-- ==== Proof.lean ====
/- The claims about each call of the training step, assembled from the modules that prove them. -/
module

public import proofs.«01_k».proof.Defs
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.Gate2
public import proofs.«01_k».proof.Proof.Gen.Gate2.Frame
public import proofs.«01_k».proof.Proof.Gen.Gate2Ideal
public import proofs.«01_k».proof.Proof.Gen.Gate2Ideal.Frame
public import proofs.«01_k».proof.Proof.Gen.Gate2Ideal.Value
public import proofs.«01_k».proof.Proof.Gen.Wdown
public import proofs.«01_k».proof.Proof.Gen.Wdown.Frame
public import proofs.«01_k».proof.Proof.Gen.WdownIdeal
public import proofs.«01_k».proof.Proof.Gen.WdownIdeal.Frame
public import proofs.«01_k».proof.Proof.Gen.WdownIdeal.Value
public import proofs.«01_k».proof.Proof.Gen.WdownRefIdeal
public import proofs.«01_k».proof.Proof.Gen.WdownRefIdeal.Run
public import proofs.«01_k».proof.Proof.Gen.WdownRefIdeal.Read
public import proofs.«01_k».proof.Proof.Gen.Wgu
public import proofs.«01_k».proof.Proof.Gen.Wgu.Frame
public import proofs.«01_k».proof.Proof.Gen.WguIdeal
public import proofs.«01_k».proof.Proof.Gen.WguIdeal.Frame
public import proofs.«01_k».proof.Proof.Gen.WguIdeal.Value
public import proofs.«01_k».proof.Proof.Gen.WguRefIdeal
public import proofs.«01_k».proof.Proof.Gen.WguRefIdeal.Run
public import proofs.«01_k».proof.Proof.Gen.WguRefIdeal.Read
public import proofs.«01_k».proof.Proof.Gen.Dh
public import proofs.«01_k».proof.Proof.Gen.Dh.Frame
public import proofs.«01_k».proof.Proof.Gen.DhIdeal
public import proofs.«01_k».proof.Proof.Gen.DhIdeal.Frame
public import proofs.«01_k».proof.Proof.Gen.DhIdeal.Value
public import proofs.«01_k».proof.Proof.Gen.DhRefIdeal
public import proofs.«01_k».proof.Proof.Gen.DhRefIdeal.Run
public import proofs.«01_k».proof.Proof.Gen.DhRefIdeal.Read
public import proofs.«01_k».proof.Proof.Gen.Dh2
public import proofs.«01_k».proof.Proof.Gen.Dh2.Frame
public import proofs.«01_k».proof.Proof.Gen.Dh2Ideal
public import proofs.«01_k».proof.Proof.Gen.Dh2Ideal.Frame
public import proofs.«01_k».proof.Proof.Gen.Dh2Ideal.Value
public import proofs.«01_k».proof.Proof.Gen.GateUp
public import proofs.«01_k».proof.Proof.Gen.GateUp.Frame
public import proofs.«01_k».proof.Proof.Gen.GateUpIdeal
public import proofs.«01_k».proof.Proof.Gen.GateUpIdeal.Frame
public import proofs.«01_k».proof.Proof.Gen.GateUpIdeal.Value
public import proofs.«01_k».proof.Proof.Gen.GateUpRefIdeal
public import proofs.«01_k».proof.Proof.Gen.GateUpRefIdeal.Run
public import proofs.«01_k».proof.Proof.Gen.GateUpRefIdeal.Read
public import proofs.«01_k».proof.Proof.Gen.GateUp2
public import proofs.«01_k».proof.Proof.Gen.GateUp2.Frame
public import proofs.«01_k».proof.Proof.Gen.GateUp2Ideal
public import proofs.«01_k».proof.Proof.Gen.GateUp2Ideal.Frame
public import proofs.«01_k».proof.Proof.Gen.GateUp2Ideal.Value
public import proofs.«01_k».proof.Proof.Gen.Down
public import proofs.«01_k».proof.Proof.Gen.Down.Frame
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.Down2
public import proofs.«01_k».proof.Proof.Gen.Down2.Frame
public import proofs.«01_k».proof.Proof.Gen.Down2Ideal
public import proofs.«01_k».proof.Proof.Gen.Down2Ideal.Frame
public import proofs.«01_k».proof.Proof.Gen.Down2Ideal.Value
public import proofs.«01_k».proof.Proof.Gen.Wo
public import proofs.«01_k».proof.Proof.Gen.Wo.Frame
public import proofs.«01_k».proof.Proof.Gen.WoIdeal
public import proofs.«01_k».proof.Proof.Gen.WoIdeal.Frame
public import proofs.«01_k».proof.Proof.Gen.WoIdeal.Value
public import proofs.«01_k».proof.Proof.Gen.WoRefIdeal
public import proofs.«01_k».proof.Proof.Gen.WoRefIdeal.Run
public import proofs.«01_k».proof.Proof.Gen.WoRefIdeal.Read
public import proofs.«01_k».proof.Proof.Gen.Dcat
public import proofs.«01_k».proof.Proof.Gen.Dcat.Frame
public import proofs.«01_k».proof.Proof.Gen.DcatIdeal
public import proofs.«01_k».proof.Proof.Gen.DcatIdeal.Frame
public import proofs.«01_k».proof.Proof.Gen.DcatIdeal.Value
public import proofs.«01_k».proof.Proof.Gen.DcatRefIdeal
public import proofs.«01_k».proof.Proof.Gen.DcatRefIdeal.Run
public import proofs.«01_k».proof.Proof.Gen.DcatRefIdeal.Read
public import proofs.«01_k».proof.Proof.Gen.Win
public import proofs.«01_k».proof.Proof.Gen.Win.Frame
public import proofs.«01_k».proof.Proof.Gen.WinIdeal
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.WinRefIdeal.Read
public import proofs.«01_k».proof.Proof.Gen.MixDh
public import proofs.«01_k».proof.Proof.Gen.MixDh.Frame
public import proofs.«01_k».proof.Proof.Gen.MixDhIdeal
public import proofs.«01_k».proof.Proof.Gen.MixDhIdeal.Frame
public import proofs.«01_k».proof.Proof.Gen.MixDhIdeal.Value
public import proofs.«01_k».proof.Proof.Gen.MixDhRefIdeal
public import proofs.«01_k».proof.Proof.Gen.MixDhRefIdeal.Run
public import proofs.«01_k».proof.Proof.Gen.MixDhRefIdeal.Read
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutRefIdeal
public import proofs.«01_k».proof.Proof.Gen.MixOutRefIdeal.Run
public import proofs.«01_k».proof.Proof.Gen.MixOutRefIdeal.Read
public import proofs.«01_k».proof.Proof.Gen.ProjSwa
public import proofs.«01_k».proof.Proof.Gen.ProjSwa.Frame
public import proofs.«01_k».proof.Proof.Gen.ProjSwaIdeal
public import proofs.«01_k».proof.Proof.Gen.ProjSwaIdeal.Frame
public import proofs.«01_k».proof.Proof.Gen.ProjSwaIdeal.Value
public import proofs.«01_k».proof.Proof.Gen.ProjSwaRefIdeal
public import proofs.«01_k».proof.Proof.Gen.ProjSwaRefIdeal.Run
public import proofs.«01_k».proof.Proof.Gen.ProjSwaRefIdeal.Read
public import proofs.«01_k».proof.Proof.Gen.ProjMla
public import proofs.«01_k».proof.Proof.Gen.ProjMla.Frame
public import proofs.«01_k».proof.Proof.Gen.ProjMlaIdeal
public import proofs.«01_k».proof.Proof.Gen.ProjMlaIdeal.Frame
public import proofs.«01_k».proof.Proof.Gen.ProjMlaIdeal.Value
public import proofs.«01_k».proof.Proof.Gen.ProjMlaRefIdeal
public import proofs.«01_k».proof.Proof.Gen.ProjMlaRefIdeal.Run
public import proofs.«01_k».proof.Proof.Gen.ProjMlaRefIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.NormRefIdeal.Run
public import proofs.«01_k».proof.Proof.Gen.SwaFwd
public import proofs.«01_k».proof.Proof.Gen.SwaFwd.Frame
public import proofs.«01_k».proof.Proof.Gen.SwaFwdIdeal
public import proofs.«01_k».proof.Proof.Gen.SwaFwdIdeal.Frame
public import proofs.«01_k».proof.Proof.Gen.SwaFwdIdeal.Value
public import proofs.«01_k».proof.Proof.Gen.SwaFwdRefIdeal
public import proofs.«01_k».proof.Proof.Gen.SwaFwdRefIdeal.Run
public import proofs.«01_k».proof.Proof.Gen.SwaFwdRefIdeal.Read
public import proofs.«01_k».proof.Proof.Gen.Swa
public import proofs.«01_k».proof.Proof.Gen.Swa.Frame
public import proofs.«01_k».proof.Proof.Gen.SwaIdeal
public import proofs.«01_k».proof.Proof.Gen.SwaIdeal.Frame
public import proofs.«01_k».proof.Proof.Gen.Pre_finite_gate
public import proofs.«01_k».proof.Proof.Gen.Pre_finite_swafwd
public import proofs.«01_k».proof.Proof.Gate
public import proofs.«01_k».proof.Proof.Gate2
public import proofs.«01_k».proof.Proof.Wdown
public import proofs.«01_k».proof.Proof.Wgu
public import proofs.«01_k».proof.Proof.Dh
public import proofs.«01_k».proof.Proof.Dh2
public import proofs.«01_k».proof.Proof.GateUp
public import proofs.«01_k».proof.Proof.GateUp2
public import proofs.«01_k».proof.Proof.Down
public import proofs.«01_k».proof.Proof.Down2
public import proofs.«01_k».proof.Proof.Wo
public import proofs.«01_k».proof.Proof.Dcat
public import proofs.«01_k».proof.Proof.Win
public import proofs.«01_k».proof.Proof.MixDh
public import proofs.«01_k».proof.Proof.MixOut
public import proofs.«01_k».proof.Proof.ProjSwa
public import proofs.«01_k».proof.Proof.ProjMla
public import proofs.«01_k».proof.Proof.SwaFwd
public import Idealize.ShloMosaic.Adequacy
public import Idealize.ShloMosaic.Init

@[expose] public section

noncomputable section

namespace Cert.Proof

open Idealize.ShloMosaic Idealize.SL.Sem

/-- The reference program GateRefIdeal runs, leaves its arguments as they were, and uses no semaphore. -/
theorem frameGateRefIdeal : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The reference program WdownRefIdeal runs, leaves its arguments as they were, and uses no semaphore. -/
theorem frameWdownRefIdeal : Cert.quiescent_WdownRefIdeal := fun m ρ _ =>
  (θ_run Cert.WdownRefIdeal.defs _ _).mono (fun r h => ⟨fun c => (h c).2, sem_eq_zero_of_no_sems (by decide) r.2⟩)
    (Cert.WdownRefIdeal.Value.run (F := Ideal) m ρ)

/-- The reference program WguRefIdeal runs, leaves its arguments as they were, and uses no semaphore. -/
theorem frameWguRefIdeal : Cert.quiescent_WguRefIdeal := fun m ρ _ =>
  (θ_run Cert.WguRefIdeal.defs _ _).mono (fun r h => ⟨fun c => (h c).2, sem_eq_zero_of_no_sems (by decide) r.2⟩)
    (Cert.WguRefIdeal.Value.run (F := Ideal) m ρ)

/-- The reference program DhRefIdeal runs, leaves its arguments as they were, and uses no semaphore. -/
theorem frameDhRefIdeal : Cert.quiescent_DhRefIdeal := fun m ρ _ =>
  (θ_run Cert.DhRefIdeal.defs _ _).mono (fun r h => ⟨fun c => (h c).2, sem_eq_zero_of_no_sems (by decide) r.2⟩)
    (Cert.DhRefIdeal.Value.run (F := Ideal) m ρ)

/-- The reference program GateUpRefIdeal runs, leaves its arguments as they were, and uses no semaphore. -/
theorem frameGateUpRefIdeal : Cert.quiescent_GateUpRefIdeal := fun m ρ _ =>
  (θ_run Cert.GateUpRefIdeal.defs _ _).mono (fun r h => ⟨fun c => (h c).2.2, sem_eq_zero_of_no_sems (by decide) r.2⟩)
    (Cert.GateUpRefIdeal.Value.run (F := Ideal) m ρ)

/-- The reference program DownRefIdeal runs, leaves its arguments as they were, and uses no semaphore. -/
theorem frameDownRefIdeal : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The reference program WoRefIdeal runs, leaves its arguments as they were, and uses no semaphore. -/
theorem frameWoRefIdeal : Cert.quiescent_WoRefIdeal := fun m ρ _ =>
  (θ_run Cert.WoRefIdeal.defs _ _).mono (fun r h => ⟨fun c => (h c).2, sem_eq_zero_of_no_sems (by decide) r.2⟩)
    (Cert.WoRefIdeal.Value.run (F := Ideal) m ρ)

/-- The reference program DcatRefIdeal runs, leaves its arguments as they were, and uses no semaphore. -/
theorem frameDcatRefIdeal : Cert.quiescent_DcatRefIdeal := fun m ρ _ =>
  (θ_run Cert.DcatRefIdeal.defs _ _).mono (fun r h => ⟨fun c => (h c).2, sem_eq_zero_of_no_sems (by decide) r.2⟩)
    (Cert.DcatRefIdeal.Value.run (F := Ideal) m ρ)

/-- The reference program WinRefIdeal runs, leaves its arguments as they were, and uses no semaphore. -/
theorem frameWinRefIdeal : Cert.quiescent_WinRefIdeal := fun m ρ _ =>
  (θ_run Cert.WinRefIdeal.defs _ _).mono (fun r h => ⟨fun c => (h c).2, sem_eq_zero_of_no_sems (by decide) r.2⟩)
    (Cert.WinRefIdeal.Value.run (F := Ideal) m ρ)

/-- The reference program MixDhRefIdeal runs, leaves its arguments as they were, and uses no semaphore. -/
theorem frameMixDhRefIdeal : Cert.quiescent_MixDhRefIdeal := fun m ρ _ =>
  (θ_run Cert.MixDhRefIdeal.defs _ _).mono (fun r h => ⟨fun c => (h c).2, sem_eq_zero_of_no_sems (by decide) r.2⟩)
    (Cert.MixDhRefIdeal.Value.run (F := Ideal) m ρ)

/-- The reference program MixOutRefIdeal runs, leaves its arguments as they were, and uses no semaphore. -/
theorem frameMixOutRefIdeal : Cert.quiescent_MixOutRefIdeal := fun m ρ _ =>
  (θ_run Cert.MixOutRefIdeal.defs _ _).mono (fun r h => ⟨fun c => (h c).2, sem_eq_zero_of_no_sems (by decide) r.2⟩)
    (Cert.MixOutRefIdeal.Value.run (F := Ideal) m ρ)

/-- The reference program ProjSwaRefIdeal runs, leaves its arguments as they were, and uses no semaphore. -/
theorem frameProjSwaRefIdeal : Cert.quiescent_ProjSwaRefIdeal := fun m ρ _ =>
  (θ_run Cert.ProjSwaRefIdeal.defs _ _).mono (fun r h => ⟨fun c => (h c).2, sem_eq_zero_of_no_sems (by decide) r.2⟩)
    (Cert.ProjSwaRefIdeal.Value.run (F := Ideal) m ρ)

/-- The reference program ProjMlaRefIdeal runs, leaves its arguments as they were, and uses no semaphore. -/
theorem frameProjMlaRefIdeal : Cert.quiescent_ProjMlaRefIdeal := fun m ρ _ =>
  (θ_run Cert.ProjMlaRefIdeal.defs _ _).mono (fun r h => ⟨fun c => (h c).2, sem_eq_zero_of_no_sems (by decide) r.2⟩)
    (Cert.ProjMlaRefIdeal.Value.run (F := Ideal) m ρ)

/-- The reference program NormRefIdeal runs, leaves its arguments as they were, and uses no semaphore. -/
theorem frameNormRefIdeal : Cert.quiescent_NormRefIdeal := fun m ρ _ =>
  (θ_run Cert.NormRefIdeal.defs _ _).mono (fun r h => ⟨fun c => (h c).2.2.2.2, sem_eq_zero_of_no_sems (by decide) r.2⟩)
    (Cert.NormRefIdeal.Value.run (F := Ideal) m ρ)

/-- The reference program SwaFwdRefIdeal runs, leaves its arguments as they were, and uses no semaphore. -/
theorem frameSwaFwdRefIdeal : Cert.quiescent_SwaFwdRefIdeal := fun m ρ _ =>
  (θ_run Cert.SwaFwdRefIdeal.defs _ _).mono (fun r h => ⟨fun c => (h c).2.2, sem_eq_zero_of_no_sems (by decide) r.2⟩)
    (Cert.SwaFwdRefIdeal.Value.run (F := Ideal) m ρ)

/-- Every claim of the certificate. -/
theorem claim : Cert.Claim :=
  ⟨Cert.Gate.Gen.facts,
   Cert.GateIdeal.Gen.facts,
   Cert.GateRefIdeal.Gen.facts,
   Cert.Gate2.Gen.facts,
   Cert.Gate2Ideal.Gen.facts,
   Cert.Wdown.Gen.facts,
   Cert.WdownIdeal.Gen.facts,
   Cert.WdownRefIdeal.Gen.facts,
   Cert.Wgu.Gen.facts,
   Cert.WguIdeal.Gen.facts,
   Cert.WguRefIdeal.Gen.facts,
   Cert.Dh.Gen.facts,
   Cert.DhIdeal.Gen.facts,
   Cert.DhRefIdeal.Gen.facts,
   Cert.Dh2.Gen.facts,
   Cert.Dh2Ideal.Gen.facts,
   Cert.GateUp.Gen.facts,
   Cert.GateUpIdeal.Gen.facts,
   Cert.GateUpRefIdeal.Gen.facts,
   Cert.GateUp2.Gen.facts,
   Cert.GateUp2Ideal.Gen.facts,
   Cert.Down.Gen.facts,
   Cert.DownIdeal.Gen.facts,
   Cert.DownRefIdeal.Gen.facts,
   Cert.Down2.Gen.facts,
   Cert.Down2Ideal.Gen.facts,
   Cert.Wo.Gen.facts,
   Cert.WoIdeal.Gen.facts,
   Cert.WoRefIdeal.Gen.facts,
   Cert.Dcat.Gen.facts,
   Cert.DcatIdeal.Gen.facts,
   Cert.DcatRefIdeal.Gen.facts,
   Cert.Win.Gen.facts,
   Cert.WinIdeal.Gen.facts,
   Cert.WinRefIdeal.Gen.facts,
   Cert.MixDh.Gen.facts,
   Cert.MixDhIdeal.Gen.facts,
   Cert.MixDhRefIdeal.Gen.facts,
   Cert.MixOut.Gen.facts,
   Cert.MixOutIdeal.Gen.facts,
   Cert.MixOutRefIdeal.Gen.facts,
   Cert.ProjSwa.Gen.facts,
   Cert.ProjSwaIdeal.Gen.facts,
   Cert.ProjSwaRefIdeal.Gen.facts,
   Cert.ProjMla.Gen.facts,
   Cert.ProjMlaIdeal.Gen.facts,
   Cert.ProjMlaRefIdeal.Gen.facts,
   Cert.Norm.Gen.facts,
   Cert.NormIdeal.Gen.facts,
   Cert.NormRefIdeal.Gen.facts,
   Cert.SwaFwd.Gen.facts,
   Cert.SwaFwdIdeal.Gen.facts,
   Cert.SwaFwdRefIdeal.Gen.facts,
   Cert.Swa.Gen.facts,
   Cert.SwaIdeal.Gen.facts,
   Cert.Pre_finite_gate.Gen.facts,
   Cert.Pre_finite_swafwd.Gen.facts,
   fun m ρ _ => Cert.Gate.Gen.frame m ρ,
   fun m ρ _ => Cert.GateIdeal.Gen.frame m ρ,
   fun m ρ _ => Cert.GateIdeal.Gen.frame m ρ,
   frameGateRefIdeal,
   fun m ρ _ => frameGateRefIdeal m ρ trivial,
   fun m ρ _ => Cert.Gate2.Gen.frame m ρ,
   fun m ρ _ => Cert.Gate2Ideal.Gen.frame m ρ,
   fun m ρ _ => Cert.Gate2Ideal.Gen.frame m ρ,
   fun m ρ _ => Cert.Wdown.Gen.frame m ρ,
   fun m ρ _ => Cert.WdownIdeal.Gen.frame m ρ,
   frameWdownRefIdeal,
   fun m ρ _ => Cert.Wgu.Gen.frame m ρ,
   fun m ρ _ => Cert.WguIdeal.Gen.frame m ρ,
   frameWguRefIdeal,
   fun m ρ _ => Cert.Dh.Gen.frame m ρ,
   fun m ρ _ => Cert.DhIdeal.Gen.frame m ρ,
   frameDhRefIdeal,
   fun m ρ _ => Cert.Dh2.Gen.frame m ρ,
   fun m ρ _ => Cert.Dh2Ideal.Gen.frame m ρ,
   fun m ρ _ => Cert.GateUp.Gen.frame m ρ,
   fun m ρ _ => Cert.GateUpIdeal.Gen.frame m ρ,
   frameGateUpRefIdeal,
   fun m ρ _ => Cert.GateUp2.Gen.frame m ρ,
   fun m ρ _ => Cert.GateUp2Ideal.Gen.frame m ρ,
   fun m ρ _ => Cert.Down.Gen.frame m ρ,
   fun m ρ _ => Cert.DownIdeal.Gen.frame m ρ,
   frameDownRefIdeal,
   fun m ρ _ => Cert.Down2.Gen.frame m ρ,
   fun m ρ _ => Cert.Down2Ideal.Gen.frame m ρ,
   fun m ρ _ => Cert.Wo.Gen.frame m ρ,
   fun m ρ _ => Cert.WoIdeal.Gen.frame m ρ,
   frameWoRefIdeal,
   fun m ρ _ => Cert.Dcat.Gen.frame m ρ,
   fun m ρ _ => Cert.DcatIdeal.Gen.frame m ρ,
   frameDcatRefIdeal,
   fun m ρ _ => Cert.Win.Gen.frame m ρ,
   fun m ρ _ => Cert.WinIdeal.Gen.frame m ρ,
   frameWinRefIdeal,
   fun m ρ _ => Cert.MixDh.Gen.frame m ρ,
   fun m ρ _ => Cert.MixDhIdeal.Gen.frame m ρ,
   frameMixDhRefIdeal,
   fun m ρ _ => Cert.MixOut.Gen.frame m ρ,
   fun m ρ _ => Cert.MixOutIdeal.Gen.frame m ρ,
   frameMixOutRefIdeal,
   fun m ρ _ => Cert.ProjSwa.Gen.frame m ρ,
   fun m ρ _ => Cert.ProjSwaIdeal.Gen.frame m ρ,
   frameProjSwaRefIdeal,
   fun m ρ _ => Cert.ProjMla.Gen.frame m ρ,
   fun m ρ _ => Cert.ProjMlaIdeal.Gen.frame m ρ,
   frameProjMlaRefIdeal,
   fun m ρ _ => Cert.Norm.Gen.frame m ρ,
   fun m ρ _ => Cert.NormIdeal.Gen.frame m ρ,
   frameNormRefIdeal,
   fun m ρ _ => Cert.SwaFwd.Gen.frame m ρ,
   fun m ρ _ => Cert.SwaFwdIdeal.Gen.frame m ρ,
   fun m ρ _ => Cert.SwaFwdIdeal.Gen.frame m ρ,
   frameSwaFwdRefIdeal,
   fun m ρ _ => frameSwaFwdRefIdeal m ρ trivial,
   fun m ρ _ => Cert.Swa.Gen.frame m ρ,
   fun m ρ _ => Cert.SwaIdeal.Gen.frame m ρ,
   trivial,
   Cert.Proof.GateClaims.algebraic,
   trivial,
   Cert.Proof.Gate2Claims.algebraic,
   trivial,
   Cert.Proof.WdownClaims.algebraic,
   trivial,
   Cert.Proof.WguClaims.algebraic,
   trivial,
   Cert.Proof.DhClaims.algebraic,
   trivial,
   Cert.Proof.Dh2Claims.algebraic,
   trivial,
   Cert.Proof.GateUpClaims.algebraic,
   trivial,
   Cert.Proof.GateUp2Claims.algebraic,
   trivial,
   Cert.Proof.DownClaims.algebraic,
   trivial,
   Cert.Proof.Down2Claims.algebraic,
   trivial,
   Cert.Proof.WoClaims.algebraic,
   trivial,
   Cert.Proof.DcatClaims.algebraic,
   trivial,
   Cert.Proof.WinClaims.algebraic,
   trivial,
   Cert.Proof.MixDhClaims.algebraic,
   trivial,
   Cert.Proof.MixOutClaims.algebraic,
   trivial,
   Cert.Proof.ProjSwaClaims.algebraic,
   trivial,
   Cert.Proof.ProjMlaClaims.algebraic,
   trivial,
   trivial,
   Cert.Proof.SwaFwdClaims.algebraic,
   trivial⟩

end Cert.Proof

end
